-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_v34) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v50_0)) (v1 : (c : Dev Cert.Kernel8Ideal.nD) → Buf (Elt Ideal) ((c.tc : Thread Cert.Kernel8Ideal.nD Cert.Kernel8Ideal.τ).loc Cert.Kernel8Ideal.main_v50_1)) (v2 : (c : Dev Cert.Kernel8Ideal.nD) → Buf (Elt Ideal) ((c.tc : Thread Cert.Kernel8Ideal.nD Cert.Kernel8Ideal.τ).loc Cert.Kernel8Ideal.main_v50_2)) (v3 : (c : Dev Cert.Kernel8Ideal.nD) → Buf (Elt Ideal) ((c.tc : Thread Cert.Kernel8Ideal.nD Cert.Kernel8Ideal.τ).loc Cert.Kernel8Ideal.main_v50_3)) (v4 : (c : Dev Cert.Kernel8Ideal.nD) → Buf (Elt Ideal) ((c.tc : Thread Cert.Kernel8Ideal.nD Cert.Kernel8Ideal.τ).loc Cert.Kernel8Ideal.main_v50_4)) (v5 : (c : Dev Cert.Kernel8Ideal.nD) → Buf (Elt Ideal) ((c.tc : Thread Cert.Kernel8Ideal.nD Cert.Kernel8Ideal.τ).loc Cert.Kernel8Ideal.main_v50_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v50_0) = v0 c
          ∧ r.2.mem ((c.tc : Thread Cert.Kernel8Ideal.nD Cert.Kernel8Ideal.τ).loc Cert.Kernel8Ideal.main_v50_1) = v1 c
          ∧ r.2.mem ((c.tc : Thread Cert.Kernel8Ideal.nD Cert.Kernel8Ideal.τ).loc Cert.Kernel8Ideal.main_v50_2) = v2 c
          ∧ r.2.mem ((c.tc : Thread Cert.Kernel8Ideal.nD Cert.Kernel8Ideal.τ).loc Cert.Kernel8Ideal.main_v50_3) = v3 c
          ∧ r.2.mem ((c.tc : Thread Cert.Kernel8Ideal.nD Cert.Kernel8Ideal.τ).loc Cert.Kernel8Ideal.main_v50_4) = v4 c
          ∧ r.2.mem ((c.tc : Thread Cert.Kernel8Ideal.nD Cert.Kernel8Ideal.τ).loc Cert.Kernel8Ideal.main_v50_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v158) = v0 c
          ∧ r.2.mem ((c.tc : Thread Cert.Reference8Ideal.nD Cert.Reference8Ideal.τ).loc Cert.Reference8Ideal.main_v161) = v1 c
          ∧ r.2.mem ((c.tc : Thread Cert.Reference8Ideal.nD Cert.Reference8Ideal.τ).loc Cert.Reference8Ideal.main_v164) = v2 c
          ∧ r.2.mem ((c.tc : Thread Cert.Reference8Ideal.nD Cert.Reference8Ideal.τ).loc Cert.Reference8Ideal.main_v166) = v3 c
          ∧ r.2.mem ((c.tc : Thread Cert.Reference8Ideal.nD Cert.Reference8Ideal.τ).loc Cert.Reference8Ideal.main_v169) = v4 c
          ∧ r.2.mem ((c.tc : Thread Cert.Reference8Ideal.nD Cert.Reference8Ideal.τ).loc Cert.Reference8Ideal.main_v171) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  IdealRules.named_const.Statement Cert.Kernel9Ideal.κ "mask" .f32 0xF149F2CA#32 ⊥

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v215) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S8x2048x512 : Shape := ⟨3, ![8, 2048, 512]⟩
abbrev S_ : Shape := ⟨0, ![]⟩
abbrev S8x2048x1536 : Shape := ⟨3, ![8, 2048, 1536]⟩
abbrev S1x512x128 : Shape := ⟨3, ![1, 512, 128]⟩
abbrev S1x2048x128 : Shape := ⟨3, ![1, 2048, 128]⟩
abbrev S2x512x64 : Shape := ⟨3, ![2, 512, 64]⟩
abbrev S2x512x128 : Shape := ⟨3, ![2, 512, 128]⟩
abbrev S256x256 : Shape := ⟨2, ![256, 256]⟩
abbrev S512x256 : Shape := ⟨2, ![512, 256]⟩
abbrev S1x256x64 : Shape := ⟨3, ![1, 256, 64]⟩
abbrev S256x64 : Shape := ⟨2, ![256, 64]⟩
abbrev S1x256x128 : Shape := ⟨3, ![1, 256, 128]⟩
abbrev S256x128 : Shape := ⟨2, ![256, 128]⟩
abbrev S256x1 : Shape := ⟨2, ![256, 1]⟩
abbrev S1x512x64 : Shape := ⟨3, ![1, 512, 64]⟩
abbrev S512x64 : Shape := ⟨2, ![512, 64]⟩
abbrev S512x128 : Shape := ⟨2, ![512, 128]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S_, .f32⟩
  | .hbm, ⟨4, _⟩ => ⟨S8x2048x512, .f32⟩
  | .hbm, ⟨5, _⟩ => ⟨S8x2048x512, .f32⟩
  | .hbm, ⟨6, _⟩ => ⟨S8x2048x1536, .f32⟩
  | .hbm, ⟨7, _⟩ => ⟨S8x2048x1536, .bf16⟩
  | .hbm, ⟨8, _⟩ => ⟨S8x2048x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x128, .bf16⟩
  | .local _ .vmem, ⟨7, _⟩ => ⟨S1x512x128, .bf16⟩
  | .local _ .vmem, ⟨8, _⟩ => ⟨S2x512x64, .f32⟩
  | .local _ .vmem, ⟨9, _⟩ => ⟨S2x512x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1_i32 : BitVec 32 := 1#32
  let v22 : BitVec 32 := Scalar.addi arg2 c1_i32
  let c2_i32 : BitVec 32 := 2#32
  let v23 : BitVec 32 := Scalar.muli v22 c2_i32
  let c1_i32_8 : BitVec 32 := 1#32
  let v24 : BitVec 32 := Scalar.subi v23 c1_i32_8
  let c256_i32_9 : BitVec 32 := 256#32
  let v25 : BitVec 32 := Scalar.muli v24 c256_i32_9
  v25
def k0_off1 (i : grid0.Coords) (c1_i32_8 : BitVec 32) : Fin 3 → Nat :=
  let c0_10 : Index := 0#32
  let arg2 : BitVec 32 := BitVec.ofNat 32 (i 2).val
  let c1_i32 : BitVec 32 := 1#32
  let v22 : BitVec 32 := Scalar.addi arg2 c1_i32
  let c2_i32 : BitVec 32 := 2#32
  let v23 : BitVec 32 := Scalar.muli v22 c2_i32
  let v24 : BitVec 32 := Scalar.subi v23 c1_i32_8
  let c256_i32_9 : BitVec 32 := 256#32
  let v25 : BitVec 32 := Scalar.muli v24 c256_i32_9
  let v26 : BitVec 32 := v25
  let v27 : Index := Scalar.indexCast v26
  let c0_11 : Index := 0#32
  ![0, v27.toNat, 0]
def k0_off2 (i : grid0.Coords) (c1_i32_8 : BitVec 32) : Fin 3 → Nat :=
  let c0_38 : Index := 0#32
  let arg2 : BitVec 32 := BitVec.ofNat 32 (i 2).val
  let c1_i32 : BitVec 32 := 1#32
  let v22 : BitVec 32 := Scalar.addi arg2 c1_i32
  let c2_i32 : BitVec 32 := 2#32
  let v23 : BitVec 32 := Scalar.muli v22 c2_i32
  let v24 : BitVec 32 := Scalar.subi v23 c1_i32_8
  let c256_i32_9 : BitVec 32 := 256#32
  let v25 : BitVec 32 := Scalar.muli v24 c256_i32_9
  let v26 : BitVec 32 := v25
  let v79 : Index := Scalar.indexCast v26
  let c64 : Index := 64#32
  ![0, v79.toNat, 64]
def k0_mult2 (i : grid0.Coords) : BitVec 32 :=
  let arg2 : BitVec 32 := BitVec.ofNat 32 (i 2).val
  let c1_i32 : BitVec 32 := 1#32
  let v22 : BitVec 32 := Scalar.addi arg2 c1_i32
  let c2_i32 : BitVec 32 := 2#32
  let v23 : BitVec 32 := Scalar.muli v22 c2_i32
  let c2_i32_65 : BitVec 32 := 2#32
  let v131 : BitVec 32 := Scalar.subi v23 c2_i32_65
  let c256_i32_66 : BitVec 32 := 256#32
  let v132 : BitVec 32 := Scalar.muli v131 c256_i32_66
  v132
@[reducible] def k0_t1_loop (i : grid0.Coords) : Scf.Loop 32 :=
  let c0_i32_125 : BitVec 32 := 0#32
  let arg2 : BitVec 32 := BitVec.ofNat 32 (i 2).val
  let v238 : BitVec 32 := Scalar.subi arg2 c0_i32_125
  let c1_i32_126 : BitVec 32 := 1#32
  let v240 : BitVec 32 := Scalar.divsi v238 c1_i32_126
  let v241 : BitVec 32 := Scalar.muli v240 c1_i32_126
  let v242 : BitVec 32 := Scalar.addi c0_i32_125 v241
  let c1_i32_127 : BitVec 32 := 1#32
  ⟨c0_i32_125, v242, c1_i32_127⟩
def k0_mult3 (i : grid0.Coords) (k0_t1 : Fin (k0_t1_loop i).trips) : BitVec 32 :=
  let arg2 : BitVec 32 := BitVec.ofNat 32 (i 2).val
  let c0_i32_125 : BitVec 32 := 0#32
  let c1_i32_127 : BitVec 32 := 1#32
  let arg9 : BitVec 32 := Scf.iv c0_i32_125 c1_i32_127 k0_t1
  let v252 : BitVec 32 := Scalar.subi arg2 arg9
  let c2_i32_138 : BitVec 32 := 2#32
  let v253 : BitVec 32 := Scalar.muli v252 c2_i32_138
  let c1_i32_139 : BitVec 32 := 1#32
  let v254 : BitVec 32 := Scalar.subi v253 c1_i32_139
  let c0_i32_140 : BitVec 32 := 0#32
  let v255 : BitVec 32 := Scalar.subi v254 c0_i32_140
  let c256_i32_141 : BitVec 32 := 256#32
  let v256 : BitVec 32 := Scalar.muli v255 c256_i32_141
  v256
def k0_off3 (i : grid0.Coords) (k0_t1 : Fin (k0_t1_loop i).trips) (c0_i32_140 : BitVec 32) : Fin 3 → Nat :=
  let c0_142 : Index := 0#32
  let arg2 : BitVec 32 := BitVec.ofNat 32 (i 2).val
  let c0_i32_125 : BitVec 32 := 0#32
  let c1_i32_127 : BitVec 32 := 1#32
  let arg9 : BitVec 32 := Scf.iv c0_i32_125 c1_i32_127 k0_t1
  let v252 : BitVec 32 := Scalar.subi arg2 arg9
  let c2_i32_138 : BitVec 32 := 2#32
  let v253 : BitVec 32 := Scalar.muli v252 c2_i32_138
  let c1_i32_139 : BitVec 32 := 1#32
  let v254 : BitVec 32 := Scalar.subi v253 c1_i32_139
  let v255 : BitVec 32 := Scalar.subi v254 c0_i32_140
  let c256_i32_141 : BitVec 32 := 256#32
  let v256 : BitVec 32 := Scalar.muli v255 c256_i32_141
  let v257 : BitVec 32 := v256
  let v258 : Index := Scalar.indexCast v257
  let c0_143 : Index := 0#32
  ![0, v258.toNat, 0]
def k0_off4 (i : grid0.Coords) (k0_t1 : Fin (k0_t1_loop i).trips) (c0_i32_140 : BitVec 32) : Fin 3 → Nat :=
  let c0_169 : Index := 0#32
  let arg2 : BitVec 32 := BitVec.ofNat 32 (i 2).val
  let c0_i32_125 : BitVec 32 := 0#32
  let c1_i32_127 : BitVec 32 := 1#32
  let arg9 : BitVec 32 := Scf.iv c0_i32_125 c1_i32_127 k0_t1
  let v252 : BitVec 32 := Scalar.subi arg2 arg9
  let c2_i32_138 : BitVec 32 := 2#32
  let v253 : BitVec 32 := Scalar.muli v252 c2_i32_138
  let c1_i32_139 : BitVec 32 := 1#32
  let v254 : BitVec 32 := Scalar.subi v253 c1_i32_139
  let v255 : BitVec 32 := Scalar.subi v254 c0_i32_140
  let c256_i32_141 : BitVec 32 := 256#32
  let v256 : BitVec 32 := Scalar.muli v255 c256_i32_141
  let v257 : BitVec 32 := v256
  let v306 : Index := Scalar.indexCast v257
  let c64_170 : Index := 64#32
  ![0, v306.toNat, 64]
def k0_mult4 (i : grid0.Coords) (k0_t1 : Fin (k0_t1_loop i).trips) : BitVec 32 :=
  let arg2 : BitVec 32 := BitVec.ofNat 32 (i 2).val
  let c0_i32_125 : BitVec 32 := 0#32
  let c1_i32_127 : BitVec 32 := 1#32
  let arg9 : BitVec 32 := Scf.iv c0_i32_125 c1_i32_127 k0_t1
  let v354 : BitVec 32 := Scalar.subi arg2 arg9
  let c2_i32_196 : BitVec 32 := 2#32
  let v355 : BitVec 32 := Scalar.muli v354 c2_i32_196
  let c1_i32_197 : BitVec 32 := 1#32
  let v356 : BitVec 32 := Scalar.subi v355 c1_i32_197
  let c1_i32_198 : BitVec 32 := 1#32
  let v357 : BitVec 32 := Scalar.subi v356 c1_i32_198
  let c256_i32_199 : BitVec 32 := 256#32
  let v358 : BitVec 32 := Scalar.muli v357 c256_i32_199
  v358
@[reducible] def k0_t2_loop (i : grid0.Coords) : Scf.Loop 32 :=
  let c0_i32_125 : BitVec 32 := 0#32
  let arg2 : BitVec 32 := BitVec.ofNat 32 (i 2).val
  let v238 : BitVec 32 := Scalar.subi arg2 c0_i32_125
  let c1_i32_126 : BitVec 32 := 1#32
  let v240 : BitVec 32 := Scalar.divsi v238 c1_i32_126
  let v241 : BitVec 32 := Scalar.muli v240 c1_i32_126
  let v242 : BitVec 32 := Scalar.addi c0_i32_125 v241
  let v239 : BitVec 32 := Scalar.addi c0_i32_125 v238
  let c1_i32_128 : BitVec 32 := 1#32
  ⟨v242, v239, c1_i32_128⟩
def k0_mult5 (i : grid0.Coords) (k0_t2 : Fin (k0_t2_loop i).trips) : BitVec 32 :=
  let arg2 : BitVec 32 := BitVec.ofNat 32 (i 2).val
  let c0_i32_125 : BitVec 32 := 0#32
  let v238 : BitVec 32 := Scalar.subi arg2 c0_i32_125
  let c1_i32_126 : BitVec 32 := 1#32
  let v240 : BitVec 32 := Scalar.divsi v238 c1_i32_126
  let v241 : BitVec 32 := Scalar.muli v240 c1_i32_126
  let v242 : BitVec 32 := Scalar.addi c0_i32_125 v241
  let c1_i32_128 : BitVec 32 := 1#32
  let arg9 : BitVec 32 := Scf.iv v242 c1_i32_128 k0_t2
  let v252 : BitVec 32 := Scalar.subi arg2 arg9
  let c2_i32_138 : BitVec 32 := 2#32
  let v253 : BitVec 32 := Scalar.muli v252 c2_i32_138
  let c1_i32_139 : BitVec 32 := 1#32
  let v254 : BitVec 32 := Scalar.subi v253 c1_i32_139
  let c0_i32_140 : BitVec 32 := 0#32
  let v255 : BitVec 32 := Scalar.subi v254 c0_i32_140
  let c256_i32_141 : BitVec 32 := 256#32
  let v256 : BitVec 32 := Scalar.muli v255 c256_i32_141
  v256
def k0_off5 (i : grid0.Coords) (k0_t2 : Fin (k0_t2_loop i).trips) (c0_i32_140 : BitVec 32) : Fin 3 → Nat :=
  let c0_142 : Index := 0#32
  let arg2 : BitVec 32 := BitVec.ofNat 32 (i 2).val
  let c0_i32_125 : BitVec 32 := 0#32
  let v238 : BitVec 32 := Scalar.subi arg2 c0_i32_125
  let c1_i32_126 : BitVec 32 := 1#32
  let v240 : BitVec 32 := Scalar.divsi v238 c1_i32_126
  let v241 : BitVec 32 := Scalar.muli v240 c1_i32_126
  let v242 : BitVec 32 := Scalar.addi c0_i32_125 v241
  let c1_i32_128 : BitVec 32 := 1#32
  let arg9 : BitVec 32 := Scf.iv v242 c1_i32_128 k0_t2
  let v252 : BitVec 32 := Scalar.subi arg2 arg9
  let c2_i32_138 : BitVec 32 := 2#32
  let v253 : BitVec 32 := Scalar.muli v252 c2_i32_138
  let c1_i32_139 : BitVec 32 := 1#32
  let v254 : BitVec 32 := Scalar.subi v253 c1_i32_139
  let v255 : BitVec 32 := Scalar.subi v254 c0_i32_140
  let c256_i32_141 : BitVec 32 := 256#32
  let v256 : BitVec 32 := Scalar.muli v255 c256_i32_141
  let v257 : BitVec 32 := v256
  let v258 : Index := Scalar.indexCast v257
  let c0_143 : Index := 0#32
  ![0, v258.toNat, 0]
def k0_off6 (i : grid0.Coords) (k0_t2 : Fin (k0_t2_loop i).trips) (c0_i32_140 : BitVec 32) : Fin 3 → Nat :=
  let c0_169 : Index := 0#32
  let arg2 : BitVec 32 := BitVec.ofNat 32 (i 2).val
  let c0_i32_125 : BitVec 32 := 0#32
  let v238 : BitVec 32 := Scalar.subi arg2 c0_i32_125
  let c1_i32_126 : BitVec 32 := 1#32
  let v240 : BitVec 32 := Scalar.divsi v238 c1_i32_126
  let v241 : BitVec 32 := Scalar.muli v240 c1_i32_126
  let v242 : BitVec 32 := Scalar.addi c0_i32_125 v241
  let c1_i32_128 : BitVec 32 := 1#32
  let arg9 : BitVec 32 := Scf.iv v242 c1_i32_128 k0_t2
  let v252 : BitVec 32 := Scalar.subi arg2 arg9
  let c2_i32_138 : BitVec 32 := 2#32
  let v253 : BitVec 32 := Scalar.muli v252 c2_i32_138
  let c1_i32_139 : BitVec 32 := 1#32
  let v254 : BitVec 32 := Scalar.subi v253 c1_i32_139
  let v255 : BitVec 32 := Scalar.subi v254 c0_i32_140
  let c256_i32_141 : BitVec 32 := 256#32
  let v256 : BitVec 32 := Scalar.muli v255 c256_i32_141
  let v257 : BitVec 32 := v256
  let v306 : Index := Scalar.indexCast v257
  let c64_170 : Index := 64#32
  ![0, v306.toNat, 64]
def k0_mult6 (i : grid0.Coords) (k0_t2 : Fin (k0_t2_loop i).trips) : BitVec 32 :=
  let arg2 : BitVec 32 := BitVec.ofNat 32 (i 2).val
  let c0_i32_125 : BitVec 32 := 0#32
  let v238 : BitVec 32 := Scalar.subi arg2 c0_i32_125
  let c1_i32_126 : BitVec 32 := 1#32
  let v240 : BitVec 32 := Scalar.divsi v238 c1_i32_126
  let v241 : BitVec 32 := Scalar.muli v240 c1_i32_126
  let v242 : BitVec 32 := Scalar.addi c0_i32_125 v241
  let c1_i32_128 : BitVec 32 := 1#32
  let arg9 : BitVec 32 := Scf.iv v242 c1_i32_128 k0_t2
  let v354 : BitVec 32 := Scalar.subi arg2 arg9
  let c2_i32_196 : BitVec 32 := 2#32
  let v355 : BitVec 32 := Scalar.muli v354 c2_i32_196
  let c1_i32_197 : BitVec 32 := 1#32
  let v356 : BitVec 32 := Scalar.subi v355 c1_i32_197
  let c1_i32_198 : BitVec 32 := 1#32
  let v357 : BitVec 32 := Scalar.subi v356 c1_i32_198
  let c256_i32_199 : BitVec 32 := 256#32
  let v358 : BitVec 32 := Scalar.muli v357 c256_i32_199
  v358
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x2048x512 : Shape := ⟨3, ![8, 2048, 512]⟩
abbrev S8x2048x8x64 : Shape := ⟨4, ![8, 2048, 8, 64]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x64x2048 : Shape := ⟨4, ![8, 8, 64, 2048]⟩

abbrev nBuf : Space → Nat
  | .hbm => 70
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x8x64, .f32⟩
  | .hbm, ⟨4, _⟩ => ⟨S8x2048x8x64, .f32⟩
  | .hbm, ⟨5, _⟩ => ⟨S8x2048x8x64, .f32⟩
  | .hbm, ⟨6, _⟩ => ⟨S8x8x2048x2048, .f32⟩
  | .hbm, ⟨7, _⟩ => ⟨S_, .f32⟩
  | .hbm, ⟨8, _⟩ => ⟨S8x8x2048x2048, .f32⟩
  | .hbm, ⟨9, _⟩ => ⟨S8x8x2048x2048, .f32⟩
  | .hbm, ⟨10, _⟩ => ⟨S2048, .i32⟩
  | .hbm, ⟨11, _⟩ => ⟨S1x2048, .i32⟩
  | .hbm, ⟨12, _⟩ => ⟨S2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S8x8x2048x2048, .f32⟩
  | .hbm, ⟨18, _⟩ => ⟨S8x8x2048x2048, .f32⟩
  | .hbm, ⟨19, _⟩ => ⟨S_, .f32⟩
  | .hbm, ⟨20, _⟩ => ⟨S8x8x2048x2048, .f32⟩
  | .hbm, ⟨21, _⟩ => ⟨S8x8x2048x2048, .f32⟩
  | .hbm, ⟨22, _⟩ => ⟨S8x8x2048x2048, .f32⟩
  | .hbm, ⟨23, _⟩ => ⟨S8x8x2048x2048, .f32⟩
  | .hbm, ⟨24, _⟩ => ⟨S8x8x2048x2048, .i1⟩
  | .hbm, ⟨25, _⟩ => ⟨S8x8x2048x2048, .f32⟩
  | .hbm, ⟨26, _⟩ => ⟨S8x8x2048x2048, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S_, .f32⟩
  | .hbm, ⟨36, _⟩ => ⟨S8x8x2048x2048, .i1⟩
  | .hbm, ⟨37, _⟩ => ⟨S8x8x2048x2048, .f32⟩
  | .hbm, ⟨38, _⟩ => ⟨S8x8x2048x2048, .f32⟩
  | .hbm, ⟨39, _⟩ => ⟨S_, .f32⟩
  | .hbm, ⟨40, _⟩ => ⟨S_, .f32⟩
  | .hbm, ⟨41, _⟩ => ⟨S8x8x2048x2048, .f32⟩
  | .hbm, ⟨42, _⟩ => ⟨S8x8x2048x2048, .f32⟩
  | .hbm, ⟨43, _⟩ => ⟨S8x8x2048x2048, .f32⟩
  | .hbm, ⟨44, _⟩ => ⟨S_, .f32⟩
  | .hbm, ⟨45, _⟩ => ⟨S8x8x2048x2048, .f32⟩
  | .hbm, ⟨46, _⟩ => ⟨S8x8x2048x2048, .f32⟩
  | .hbm, ⟨47, _⟩ => ⟨S8x8x2048x2048, .f32⟩
  | .hbm, ⟨48, _⟩ => ⟨S8x8x2048x2048, .f32⟩
  | .hbm, ⟨49, _⟩ => ⟨S8x8x2048x2048, .i1⟩
  | .hbm, ⟨50, _⟩ => ⟨S8x8x2048x2048, .f32⟩
  | .hbm, ⟨51, _⟩ => ⟨S8x8x2048x2048, .f32⟩
  | .hbm, ⟨52, _⟩ => ⟨S8x8x2048x2048, .f32⟩
  | .hbm, ⟨53, _⟩ => ⟨S8x8x2048x2048, .f32⟩
  | .hbm, ⟨54, _⟩ => ⟨S8x8x2048x2048, .f32⟩
  | .hbm, ⟨55, _⟩ => ⟨S8x8x2048x2048, .f32⟩
  | .hbm, ⟨56, _⟩ => ⟨S8x8x2048x2048, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S_, .f32⟩
  | .hbm, ⟨62, _⟩ => ⟨S_, .f32⟩
  | .hbm, ⟨63, _⟩ => ⟨S8x8x2048x2048, .i1⟩
  | .hbm, ⟨64, _⟩ => ⟨S8x8x2048x2048, .f32⟩
  | .hbm, ⟨65, _⟩ => ⟨S8x8x2048x2048, .f32⟩
  | .hbm, ⟨66, _⟩ => ⟨S8x8x64x2048, .f32⟩
  | .hbm, ⟨67, _⟩ => ⟨S8x2048x8x64, .f32⟩
  | .hbm, ⟨68, _⟩ => ⟨S8x2048x512, .f32⟩
  | .hbm, ⟨69, _⟩ => ⟨S8x2048x512, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x6144 : Shape := ⟨2, ![8, 6144]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S8x6x1024 : Shape := ⟨3, ![8, 6, 1024]⟩
abbrev S1x1024 : Shape := ⟨2, ![1, 1024]⟩
abbrev S1024x1024 : Shape := ⟨2, ![1024, 1024]⟩
abbrev S1x6x1024 : Shape := ⟨3, ![1, 6, 1024]⟩
abbrev S1x1x1024 : Shape := ⟨3, ![1, 1, 1024]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S16384x1024, .f32⟩
  | .hbm, ⟨7, _⟩ => ⟨S8x6x1024, .f32⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8x2048x1024 : Shape := ⟨3, ![8, 2048, 1024]⟩
abbrev S8x6144 : Shape := ⟨2, ![8, 6144]⟩
abbrev S1024 : Shape := ⟨1, ![1024]⟩
abbrev S1024x4096 : Shape := ⟨2, ![1024, 4096]⟩
abbrev S4096x1024 : Shape := ⟨2, ![4096, 1024]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x4096, .f32⟩
  | .hbm, ⟨37, _⟩ => ⟨S_, .f32⟩
  | .hbm, ⟨38, _⟩ => ⟨S8x2048x4096, .f32⟩
  | .hbm, ⟨39, _⟩ => ⟨S8x2048x4096, .f32⟩
  | .hbm, ⟨40, _⟩ => ⟨S8x2048x4096, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x6144 : Shape := ⟨2, ![8, 6144]⟩
abbrev S8x2048x512 : Shape := ⟨3, ![8, 2048, 512]⟩
abbrev S8x2048x3072 : Shape := ⟨3, ![8, 2048, 3072]⟩
abbrev S1024x1024 : Shape := ⟨2, ![1024, 1024]⟩
abbrev S512x1024 : Shape := ⟨2, ![512, 1024]⟩
abbrev S16384x1024 : Shape := ⟨2, ![16384, 1024]⟩
abbrev S8x6x1024 : Shape := ⟨3, ![8, 6, 1024]⟩
abbrev S16384x512 : Shape := ⟨2, ![16384, 512]⟩
abbrev S16384x3072 : Shape := ⟨2, ![16384, 3072]⟩
abbrev S1x6x1024 : Shape := ⟨3, ![1, 6, 1024]⟩
abbrev S512x512 : Shape := ⟨2, ![512, 512]⟩
abbrev S1x1x1024 : Shape := ⟨3, ![1, 1, 1024]⟩
abbrev S1x1024 : Shape := ⟨2, ![1, 1024]⟩

abbrev nBuf : Space → Nat
  | .hbm => 24
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S8x2048x1024, .f32⟩
  | .hbm, ⟨3, _⟩ => ⟨S8x2048x512, .f32⟩
  | .hbm, ⟨4, _⟩ => ⟨S8x2048x512, .f32⟩
  | .hbm, ⟨5, _⟩ => ⟨S8x2048x3072, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S16384x1024, .f32⟩
  | .hbm, ⟨11, _⟩ => ⟨S8x6x1024, .f32⟩
  | .hbm, ⟨12, _⟩ => ⟨S16384x1024, .f32⟩
  | .hbm, ⟨13, _⟩ => ⟨S16384x1024, .bf16⟩
  | .hbm, ⟨14, _⟩ => ⟨S16384x512, .f32⟩
  | .hbm, ⟨15, _⟩ => ⟨S16384x512, .bf16⟩
  | .hbm, ⟨16, _⟩ => ⟨S16384x512, .f32⟩
  | .hbm, ⟨17, _⟩ => ⟨S16384x512, .bf16⟩
  | .hbm, ⟨18, _⟩ => ⟨S16384x3072, .f32⟩
  | .hbm, ⟨19, _⟩ => ⟨S1024x1024, .bf16⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S8x2048x1024 : Shape := ⟨3, ![8, 2048, 1024]⟩
abbrev S8x6144 : Shape := ⟨2, ![8, 6144]⟩
abbrev S8x2048x512 : Shape := ⟨3, ![8, 2048, 512]⟩
abbrev S8x2048x3072 : Shape := ⟨3, ![8, 2048, 3072]⟩
abbrev S1024x1024 : Shape := ⟨2, ![1024, 1024]⟩
abbrev S512x1024 : Shape := ⟨2, ![512, 1024]⟩
abbrev S8x1x6144 : Shape := ⟨3, ![8, 1, 6144]⟩
abbrev S8x1x1024 : Shape := ⟨3, ![8, 1, 1024]⟩
abbrev S_ : Shape := ⟨0, ![]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S8x2048x1024, .f32⟩
  | .hbm, ⟨3, _⟩ => ⟨S8x2048x512, .f32⟩
  | .hbm, ⟨4, _⟩ => ⟨S8x2048x512, .f32⟩
  | .hbm, ⟨5, _⟩ => ⟨S8x2048x3072, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x3072, .f32⟩
  | .hbm, ⟨18, _⟩ => ⟨S8x2048x3072, .f32⟩
  | .hbm, ⟨19, _⟩ => ⟨S_, .f32⟩
  | .hbm, ⟨20, _⟩ => ⟨S8x2048x3072, .f32⟩
  | .hbm, ⟨21, _⟩ => ⟨S8x2048x3072, .f32⟩
  | .hbm, ⟨22, _⟩ => ⟨S_, .f32⟩
  | .hbm, ⟨23, _⟩ => ⟨S8x2048x3072, .f32⟩
  | .hbm, ⟨24, _⟩ => ⟨S8x2048x3072, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x6144 : Shape := ⟨2, ![8, 6144]⟩
abbrev S1024 : Shape := ⟨1, ![1024]⟩
abbrev S1024x8536 : Shape := ⟨2, ![1024, 8536]⟩
abbrev S16384x1024 : Shape := ⟨2, ![16384, 1024]⟩
abbrev S8x6x1024 : Shape := ⟨3, ![8, 6, 1024]⟩
abbrev S1024x3072 : Shape := ⟨2, ![1024, 3072]⟩
abbrev S1x1024 : Shape := ⟨2, ![1, 1024]⟩
abbrev S16384x3072 : Shape := ⟨2, ![16384, 3072]⟩
abbrev S512x1024 : Shape := ⟨2, ![512, 1024]⟩
abbrev S1x6x1024 : Shape := ⟨3, ![1, 6, 1024]⟩
abbrev S512x3072 : Shape := ⟨2, ![512, 3072]⟩
abbrev S1x1x1024 : Shape := ⟨3, ![1, 1, 1024]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x8536, .f32⟩
  | .hbm, ⟨4, _⟩ => ⟨S16384x1024, .f32⟩
  | .hbm, ⟨5, _⟩ => ⟨S8x6x1024, .f32⟩
  | .hbm, ⟨6, _⟩ => ⟨S1024x3072, .f32⟩
  | .hbm, ⟨7, _⟩ => ⟨S1024x3072, .bf16⟩
  | .hbm, ⟨8, _⟩ => ⟨S1x1024, .f32⟩
  | .hbm, ⟨9, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S512x3072, .f32⟩
  | .local _ .vmem, ⟨7, _⟩ => ⟨S512x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8x2048x1024 : Shape := ⟨3, ![8, 2048, 1024]⟩
abbrev S8x6144 : Shape := ⟨2, ![8, 6144]⟩
abbrev S1024 : Shape := ⟨1, ![1024]⟩
abbrev S1024x8536 : Shape := ⟨2, ![1024, 8536]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3072 : Shape := ⟨2, ![1024, 3072]⟩
abbrev S8x2048x3072 : Shape := ⟨3, ![8, 2048, 3072]⟩
abbrev S16384x3072 : Shape := ⟨2, ![16384, 3072]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x8536, .f32⟩
  | .hbm, ⟨4, _⟩ => ⟨S8x1x6144, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S1024x3072, .f32⟩
  | .hbm, ⟨35, _⟩ => ⟨S8x2048x3072, .f32⟩
  | .hbm, ⟨36, _⟩ => ⟨S16384x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel5.lean ====
abbrev S8x2048x1024 : Shape := ⟨3, ![8, 2048, 1024]⟩
abbrev S8x6144 : Shape := ⟨2, ![8, 6144]⟩
abbrev S1024 : Shape := ⟨1, ![1024]⟩
abbrev S1024x8536 : Shape := ⟨2, ![1024, 8536]⟩
abbrev S1024x512 : Shape := ⟨2, ![1024, 512]⟩
abbrev S_ : Shape := ⟨0, ![]⟩
abbrev S1024x1536 : Shape := ⟨2, ![1024, 1536]⟩
abbrev S16384x1024 : Shape := ⟨2, ![16384, 1024]⟩
abbrev S8x6x1024 : Shape := ⟨3, ![8, 6, 1024]⟩
abbrev S1x1024 : Shape := ⟨2, ![1, 1024]⟩
abbrev S16384x1536 : Shape := ⟨2, ![16384, 1536]⟩
abbrev S512x1024 : Shape := ⟨2, ![512, 1024]⟩
abbrev S1x6x1024 : Shape := ⟨3, ![1, 6, 1024]⟩
abbrev S512x1536 : Shape := ⟨2, ![512, 1536]⟩
abbrev S1x1x1024 : Shape := ⟨3, ![1, 1, 1024]⟩
abbrev S512 : Shape := ⟨1, ![512]⟩
abbrev S512x1 : Shape := ⟨2, ![512, 1]⟩

abbrev nBuf : Space → Nat
  | .hbm => 16
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x8536, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x1536, .f32⟩
  | .hbm, ⟨11, _⟩ => ⟨S1024x1536, .bf16⟩
  | .hbm, ⟨12, _⟩ => ⟨S16384x1024, .f32⟩
  | .hbm, ⟨13, _⟩ => ⟨S8x6x1024, .f32⟩
  | .hbm, ⟨14, _⟩ => ⟨S1x1024, .f32⟩
  | .hbm, ⟨15, _⟩ => ⟨S16384x1536, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1536, .bf16⟩
  | .local _ .vmem, ⟨6, _⟩ => ⟨S512x1536, .bf16⟩
  | .local _ .vmem, ⟨7, _⟩ => ⟨S512x1536, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8x2048x1024 : Shape := ⟨3, ![8, 2048, 1024]⟩
abbrev S8x6144 : Shape := ⟨2, ![8, 6144]⟩
abbrev S1024 : Shape := ⟨1, ![1024]⟩
abbrev S1024x8536 : Shape := ⟨2, ![1024, 8536]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x1536 : Shape := ⟨2, ![1024, 1536]⟩
abbrev S8x2048x1536 : Shape := ⟨3, ![8, 2048, 1536]⟩
abbrev S8x2048x512 : Shape := ⟨3, ![8, 2048, 512]⟩
abbrev S16384x1536 : Shape := ⟨2, ![16384, 1536]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x8536, .f32⟩
  | .hbm, ⟨4, _⟩ => ⟨S8x1x6144, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S1024x1536, .f32⟩
  | .hbm, ⟨35, _⟩ => ⟨S8x2048x1536, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S_, .f32⟩
  | .hbm, ⟨40, _⟩ => ⟨S8x2048x512, .f32⟩
  | .hbm, ⟨41, _⟩ => ⟨S8x2048x512, .f32⟩
  | .hbm, ⟨42, _⟩ => ⟨S8x2048x1536, .f32⟩
  | .hbm, ⟨43, _⟩ => ⟨S16384x1536, .f32⟩
  | .hbm, ⟨44, _⟩ => ⟨S16384x1536, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel6.lean ====
abbrev S8x2048x1024 : Shape := ⟨3, ![8, 2048, 1024]⟩
abbrev S8x6144 : Shape := ⟨2, ![8, 6144]⟩
abbrev S1024 : Shape := ⟨1, ![1024]⟩
abbrev S1024x8536 : Shape := ⟨2, ![1024, 8536]⟩
abbrev S1024x1024 : Shape := ⟨2, ![1024, 1024]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1024x2688 : Shape := ⟨2, ![1024, 2688]⟩
abbrev S16384x1024 : Shape := ⟨2, ![16384, 1024]⟩
abbrev S8x6x1024 : Shape := ⟨3, ![8, 6, 1024]⟩
abbrev S1x1024 : Shape := ⟨2, ![1, 1024]⟩
abbrev S16384x1536 : Shape := ⟨2, ![16384, 1536]⟩
abbrev S16384x128 : Shape := ⟨2, ![16384, 128]⟩
abbrev S512x1024 : Shape := ⟨2, ![512, 1024]⟩
abbrev S1x6x1024 : Shape := ⟨3, ![1, 6, 1024]⟩
abbrev S512x1536 : Shape := ⟨2, ![512, 1536]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩

abbrev nBuf : Space → Nat
  | .hbm => 18
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x8536, .f32⟩
  | .hbm, ⟨4, _⟩ => ⟨S1024x1024, .f32⟩
  | .hbm, ⟨5, _⟩ => ⟨S1024x1536, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x2688, .f32⟩
  | .hbm, ⟨11, _⟩ => ⟨S1024x2688, .bf16⟩
  | .hbm, ⟨12, _⟩ => ⟨S16384x1024, .f32⟩
  | .hbm, ⟨13, _⟩ => ⟨S8x6x1024, .f32⟩
  | .hbm, ⟨14, _⟩ => ⟨S1x1024, .f32⟩
  | .hbm, ⟨15, _⟩ => ⟨S16384x1024, .f32⟩
  | .hbm, ⟨16, _⟩ => ⟨S16384x1536, .f32⟩
  | .hbm, ⟨17, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2688, .bf16⟩
  | .local _ .vmem, ⟨6, _⟩ => ⟨S512x1024, .f32⟩
  | .local _ .vmem, ⟨7, _⟩ => ⟨S512x1024, .f32⟩
  | .local _ .vmem, ⟨8, _⟩ => ⟨S512x1536, .f32⟩
  | .local _ .vmem, ⟨9, _⟩ => ⟨S512x1536, .f32⟩
  | .local _ .vmem, ⟨10, _⟩ => ⟨S512x128, .f32⟩
  | .local _ .vmem, ⟨11, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8x2048x1024 : Shape := ⟨3, ![8, 2048, 1024]⟩
abbrev S8x6144 : Shape := ⟨2, ![8, 6144]⟩
abbrev S1024 : Shape := ⟨1, ![1024]⟩
abbrev S1024x8536 : Shape := ⟨2, ![1024, 8536]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2576 : Shape := ⟨2, ![1024, 2576]⟩
abbrev S8x2048x2576 : Shape := ⟨3, ![8, 2048, 2576]⟩
abbrev S8x2048x1536 : Shape := ⟨3, ![8, 2048, 1536]⟩
abbrev S8x2048x16 : Shape := ⟨3, ![8, 2048, 16]⟩
abbrev S8x2048x128 : Shape := ⟨3, ![8, 2048, 128]⟩
abbrev S16384x1024 : Shape := ⟨2, ![16384, 1024]⟩
abbrev S16384x1536 : Shape := ⟨2, ![16384, 1536]⟩
abbrev S16384x128 : Shape := ⟨2, ![16384, 128]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x8536, .f32⟩
  | .hbm, ⟨4, _⟩ => ⟨S8x1x6144, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S1024x2576, .f32⟩
  | .hbm, ⟨35, _⟩ => ⟨S8x2048x2576, .f32⟩
  | .hbm, ⟨36, _⟩ => ⟨S8x2048x1024, .f32⟩
  | .hbm, ⟨37, _⟩ => ⟨S8x2048x1536, .f32⟩
  | .hbm, ⟨38, _⟩ => ⟨S8x2048x16, .f32⟩
  | .hbm, ⟨39, _⟩ => ⟨S_, .i32⟩
  | .hbm, ⟨40, _⟩ => ⟨S_, .f32⟩
  | .hbm, ⟨41, _⟩ => ⟨S8x2048x128, .f32⟩
  | .hbm, ⟨42, _⟩ => ⟨S16384x1024, .f32⟩
  | .hbm, ⟨43, _⟩ => ⟨S16384x1536, .f32⟩
  | .hbm, ⟨44, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_call0_v0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel7.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x6144, .f32⟩
  | .hbm, ⟨30, _⟩ => ⟨S1024x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S1x8x6144, .f32⟩
  | .hbm, ⟨38, _⟩ => ⟨S1x8x6144, .f32⟩
  | .hbm, ⟨39, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel8.lean ====
abbrev S8x2048x1024 : Shape := ⟨3, ![8, 2048, 1024]⟩
abbrev S8x6144 : Shape := ⟨2, ![8, 6144]⟩
abbrev S1024 : Shape := ⟨1, ![1024]⟩
abbrev S1024x8536 : Shape := ⟨2, ![1024, 8536]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S_ : Shape := ⟨0, ![]⟩
abbrev S1024x256 : Shape := ⟨2, ![1024, 256]⟩
abbrev S1024x1792 : Shape := ⟨2, ![1024, 1792]⟩
abbrev S16384x1024 : Shape := ⟨2, ![16384, 1024]⟩
abbrev S8x6x1024 : Shape := ⟨3, ![8, 6, 1024]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x128 : Shape := ⟨2, ![2048, 128]⟩
abbrev S1x1024 : Shape := ⟨2, ![1, 1024]⟩
abbrev S16384x512 : Shape := ⟨2, ![16384, 512]⟩
abbrev S16384x256 : Shape := ⟨2, ![16384, 256]⟩
abbrev S16384x128 : Shape := ⟨2, ![16384, 128]⟩
abbrev S512x1024 : Shape := ⟨2, ![512, 1024]⟩
abbrev S1x6x1024 : Shape := ⟨3, ![1, 6, 1024]⟩
abbrev S512x128 : Shape := ⟨2, ![512, 128]⟩
abbrev S512x512 : Shape := ⟨2, ![512, 512]⟩
abbrev S512x256 : Shape := ⟨2, ![512, 256]⟩
abbrev S1x1x1024 : Shape := ⟨3, ![1, 1, 1024]⟩
abbrev S512 : Shape := ⟨1, ![512]⟩
abbrev S512x1 : Shape := ⟨2, ![512, 1]⟩

abbrev nBuf : Space → Nat
  | .hbm => 78
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x8536, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x512, .f32⟩
  | .hbm, ⟨8, _⟩ => ⟨S1024x64, .f32⟩
  | .hbm, ⟨9, _⟩ => ⟨S1024x8, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x64, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x64, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x256, .f32⟩
  | .hbm, ⟨22, _⟩ => ⟨S1024x64, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x64, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x256, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S_, .i32⟩
  | .hbm, ⟨35, _⟩ => ⟨S_, .f32⟩
  | .hbm, ⟨36, _⟩ => ⟨S1024x128, .f32⟩
  | .hbm, ⟨37, _⟩ => ⟨S_, .i32⟩
  | .hbm, ⟨38, _⟩ => ⟨S_, .f32⟩
  | .hbm, ⟨39, _⟩ => ⟨S1024x128, .f32⟩
  | .hbm, ⟨40, _⟩ => ⟨S1024x1792, .f32⟩
  | .hbm, ⟨41, _⟩ => ⟨S1024x1792, .bf16⟩
  | .hbm, ⟨42, _⟩ => ⟨S16384x1024, .f32⟩
  | .hbm, ⟨43, _⟩ => ⟨S8x6x1024, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S8, .f32⟩
  | .hbm, ⟨49, _⟩ => ⟨S2048, .i32⟩
  | .hbm, ⟨50, _⟩ => ⟨S2048, .f32⟩
  | .hbm, ⟨51, _⟩ => ⟨S2048x1, .f32⟩
  | .hbm, ⟨52, _⟩ => ⟨S1x8, .f32⟩
  | .hbm, ⟨53, _⟩ => ⟨S2048x8, .f32⟩
  | .hbm, ⟨54, _⟩ => ⟨S2048x8, .f32⟩
  | .hbm, ⟨55, _⟩ => ⟨S2048x8, .f32⟩
  | .hbm, ⟨56, _⟩ => ⟨S2048x8, .f32⟩
  | .hbm, ⟨57, _⟩ => ⟨S2048x8, .f32⟩
  | .hbm, ⟨58, _⟩ => ⟨S_, .f32⟩
  | .hbm, ⟨59, _⟩ => ⟨S2048x48, .f32⟩
  | .hbm, ⟨60, _⟩ => ⟨S_, .f32⟩
  | .hbm, ⟨61, _⟩ => ⟨S2048x48, .f32⟩
  | .hbm, ⟨62, _⟩ => ⟨S_, .f32⟩
  | .hbm, ⟨63, _⟩ => ⟨S2048x8, .f32⟩
  | .hbm, ⟨64, _⟩ => ⟨S2048x64, .f32⟩
  | .hbm, ⟨65, _⟩ => ⟨S2048x8, .f32⟩
  | .hbm, ⟨66, _⟩ => ⟨S2048x64, .f32⟩
  | .hbm, ⟨67, _⟩ => ⟨S2048x64, .f32⟩
  | .hbm, ⟨68, _⟩ => ⟨S2048x128, .f32⟩
  | .hbm, ⟨69, _⟩ => ⟨S2048x128, .f32⟩
  | .hbm, ⟨70, _⟩ => ⟨S2048x128, .f32⟩
  | .hbm, ⟨71, _⟩ => ⟨S1x1024, .f32⟩
  | .hbm, ⟨72, _⟩ => ⟨S16384x512, .bf16⟩
  | .hbm, ⟨73, _⟩ => ⟨S16384x256, .bf16⟩
  | .hbm, ⟨74, _⟩ => ⟨S16384x256, .bf16⟩
  | .hbm, ⟨75, _⟩ => ⟨S16384x512, .bf16⟩
  | .hbm, ⟨76, _⟩ => ⟨S16384x128, .bf16⟩
  | .hbm, ⟨77, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1792, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x512, .bf16⟩
  | .local _ .vmem, ⟨19, _⟩ => ⟨S512x512, .bf16⟩
  | .local _ .vmem, ⟨20, _⟩ => ⟨S512x128, .bf16⟩
  | .local _ .vmem, ⟨21, _⟩ => ⟨S512x128, .bf16⟩
  | .local _ .vmem, ⟨22, _⟩ => ⟨S512x128, .f32⟩
  | .local _ .vmem, ⟨23, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_call2_v0 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_call3_v0 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_call4_v0 : Ref sig .tc := ⟨.hbm, 35, rfl⟩
abbrev main_v20 : Ref sig .tc := ⟨.hbm, 36, rfl⟩
abbrev main_c_5 : Ref sig .tc := ⟨.hbm, 37, rfl⟩
abbrev main_call5_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50_0 : Ref sig .tc := ⟨.hbm, 72, rfl⟩
abbrev main_v50_1 : Ref sig .tc := ⟨.hbm, 73, rfl⟩
abbrev main_v50_2 : Ref sig .tc := ⟨.hbm, 74, rfl⟩
abbrev main_v50_3 : Ref sig .tc := ⟨.hbm, 75, rfl⟩
abbrev main_v50_4 : Ref sig .tc := ⟨.hbm, 76, rfl⟩
abbrev main_v50_5 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S8x2048x1024 : Shape := ⟨3, ![8, 2048, 1024]⟩
abbrev S8x6144 : Shape := ⟨2, ![8, 6144]⟩
abbrev S1024 : Shape := ⟨1, ![1024]⟩
abbrev S1024x8536 : Shape := ⟨2, ![1024, 8536]⟩
abbrev S2048 : Shape := ⟨1, ![2048]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x1352 : Shape := ⟨2, ![1024, 1352]⟩
abbrev S8x2048x1352 : Shape := ⟨3, ![8, 2048, 1352]⟩
abbrev S8x2048x512 : Shape := ⟨3, ![8, 2048, 512]⟩
abbrev S8x2048x128 : Shape := ⟨3, ![8, 2048, 128]⟩
abbrev S8x2048x64 : Shape := ⟨3, ![8, 2048, 64]⟩
abbrev S8x2048x8 : Shape := ⟨3, ![8, 2048, 8]⟩
abbrev S8x2048x8x64 : Shape := ⟨4, ![8, 2048, 8, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x8x8 : Shape := ⟨4, ![8, 2048, 8, 8]⟩
abbrev S8x2048x8x48 : Shape := ⟨4, ![8, 2048, 8, 48]⟩
abbrev S8x2048x2x64 : Shape := ⟨4, ![8, 2048, 2, 64]⟩
abbrev S8x2048x2x8 : Shape := ⟨4, ![8, 2048, 2, 8]⟩
abbrev S8x2048x2x48 : Shape := ⟨4, ![8, 2048, 2, 48]⟩
abbrev S8x2048x1x64 : Shape := ⟨4, ![8, 2048, 1, 64]⟩
abbrev S8x2048x1x8 : Shape := ⟨4, ![8, 2048, 1, 8]⟩
abbrev S8x2048x1x48 : Shape := ⟨4, ![8, 2048, 1, 48]⟩
abbrev S16384x512 : Shape := ⟨2, ![16384, 512]⟩
abbrev S8x2048x2x128 : Shape := ⟨4, ![8, 2048, 2, 128]⟩
abbrev S16384x256 : Shape := ⟨2, ![16384, 256]⟩
abbrev S16384x128 : Shape := ⟨2, ![16384, 128]⟩

abbrev nBuf : Space → Nat
  | .hbm => 194
  | .vmem => 0
  | .smem => 0
  | _ => 0

abbrev hbmTy0_0 (i : Nat) : BufTy := match i % 128 with
  | 0 => ⟨S8x2048x1024, .f32⟩
  | 1 => ⟨S8x6144, .f32⟩
  | 2 => ⟨S1024, .f32⟩
  | 3 => ⟨S1024x8536, .f32⟩
  | 4 => ⟨S2048, .i32⟩
  | 5 => ⟨S8x1x6144, .f32⟩
  | 6 => ⟨S8x1x1024, .f32⟩
  | 7 => ⟨S8x1x1024, .f32⟩
  | 8 => ⟨S8x1x1024, .f32⟩
  | 9 => ⟨S8x1x1024, .f32⟩
  | 10 => ⟨S8x1x1024, .f32⟩
  | 11 => ⟨S8x1x1024, .f32⟩
  | 12 => ⟨S8x2048x1024, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S_, .f32⟩
  | 20 => ⟨S8x2048x1, .f32⟩
  | 21 => ⟨S8x2048x1, .f32⟩
  | 22 => ⟨S8x2048x1, .f32⟩
  | 23 => ⟨S8x2048x1024, .f32⟩
  | 24 => ⟨S8x2048x1024, .f32⟩
  | 25 => ⟨S1x1x1024, .f32⟩
  | 26 => ⟨S8x2048x1024, .f32⟩
  | 27 => ⟨S8x2048x1024, .f32⟩
  | 28 => ⟨S_, .f32⟩
  | 29 => ⟨S8x1x1024, .f32⟩
  | 30 => ⟨S8x1x1024, .f32⟩
  | 31 => ⟨S8x2048x1024, .f32⟩
  | 32 => ⟨S8x2048x1024, .f32⟩
  | 33 => ⟨S8x2048x1024, .f32⟩
  | 34 => ⟨S8x2048x1024, .f32⟩
  | 35 => ⟨S1024x1352, .f32⟩
  | 36 => ⟨S8x2048x1352, .f32⟩
  | 37 => ⟨S8x2048x512, .f32⟩
  | 38 => ⟨S8x2048x128, .f32⟩
  | 39 => ⟨S8x2048x128, .f32⟩
  | 40 => ⟨S8x2048x512, .f32⟩
  | 41 => ⟨S8x2048x64, .f32⟩
  | 42 => ⟨S8x2048x8, .f32⟩
  | 43 => ⟨S_, .f32⟩
  | 44 => ⟨S8x2048x512, .f32⟩
  | 45 => ⟨S8x2048x512, .f32⟩
  | 46 => ⟨S8x2048x8x64, .f32⟩
  | 47 => ⟨S8, .f32⟩
  | 48 => ⟨S_, .f32⟩
  | 49 => ⟨S8, .f32⟩
  | 50 => ⟨S8, .f32⟩
  | 51 => ⟨S8, .f32⟩
  | 52 => ⟨S2048, .f32⟩
  | 53 => ⟨S2048x1, .f32⟩
  | 54 => ⟨S1x8, .f32⟩
  | 55 => ⟨S2048x8, .f32⟩
  | 56 => ⟨S2048x8, .f32⟩
  | 57 => ⟨S2048x8, .f32⟩
  | 58 => ⟨S2048x8, .f32⟩
  | 59 => ⟨S1x2048x1x8, .f32⟩
  | 60 => ⟨S2048x8, .f32⟩
  | 61 => ⟨S1x2048x1x8, .f32⟩
  | 62 => ⟨S8x2048x8x8, .f32⟩
  | 63 => ⟨S8x2048x8x8, .f32⟩
  | 64 => ⟨S8x2048x8x48, .f32⟩
  | 65 => ⟨S8x2048x8x8, .f32⟩
  | 66 => ⟨S8x2048x8x8, .f32⟩
  | 67 => ⟨S8x2048x8x8, .f32⟩
  | 68 => ⟨S8x2048x8x8, .f32⟩
  | 69 => ⟨S8x2048x8x8, .f32⟩
  | 70 => ⟨S8x2048x8x8, .f32⟩
  | 71 => ⟨S8x2048x8x8, .f32⟩
  | 72 => ⟨S8x2048x8x8, .f32⟩
  | 73 => ⟨S8x2048x8x8, .f32⟩
  | 74 => ⟨S8x2048x8x8, .f32⟩
  | 75 => ⟨S8x2048x8x64, .f32⟩
  | 76 => ⟨S8x2048x2x64, .f32⟩
  | 77 => ⟨S8, .f32⟩
  | 78 => ⟨S_, .f32⟩
  | 79 => ⟨S8, .f32⟩
  | 80 => ⟨S8, .f32⟩
  | 81 => ⟨S8, .f32⟩
  | 82 => ⟨S2048, .f32⟩
  | 83 => ⟨S2048x1, .f32⟩
  | 84 => ⟨S1x8, .f32⟩
  | 85 => ⟨S2048x8, .f32⟩
  | 86 => ⟨S2048x8, .f32⟩
  | 87 => ⟨S2048x8, .f32⟩
  | 88 => ⟨S2048x8, .f32⟩
  | 89 => ⟨S1x2048x1x8, .f32⟩
  | 90 => ⟨S2048x8, .f32⟩
  | 91 => ⟨S1x2048x1x8, .f32⟩
  | 92 => ⟨S8x2048x2x8, .f32⟩
  | 93 => ⟨S8x2048x2x8, .f32⟩
  | 94 => ⟨S8x2048x2x48, .f32⟩
  | 95 => ⟨S8x2048x2x8, .f32⟩
  | 96 => ⟨S8x2048x2x8, .f32⟩
  | 97 => ⟨S8x2048x2x8, .f32⟩
  | 98 => ⟨S8x2048x2x8, .f32⟩
  | 99 => ⟨S8x2048x2x8, .f32⟩
  | 100 => ⟨S8x2048x2x8, .f32⟩
  | 101 => ⟨S8x2048x2x8, .f32⟩
  | 102 => ⟨S8x2048x2x8, .f32⟩
  | 103 => ⟨S8x2048x2x8, .f32⟩
  | 104 => ⟨S8x2048x2x8, .f32⟩
  | 105 => ⟨S8x2048x2x64, .f32⟩
  | 106 => ⟨S8x2048x2x64, .f32⟩
  | 107 => ⟨S_, .f32⟩
  | 108 => ⟨S8x2048x512, .f32⟩
  | 109 => ⟨S8x2048x512, .f32⟩
  | 110 => ⟨S8x2048x8x64, .f32⟩
  | 111 => ⟨S8, .f32⟩
  | 112 => ⟨S_, .f32⟩
  | 113 => ⟨S8, .f32⟩
  | 114 => ⟨S8, .f32⟩
  | 115 => ⟨S8, .f32⟩
  | 116 => ⟨S2048, .f32⟩
  | 117 => ⟨S2048x1, .f32⟩
  | 118 => ⟨S1x8, .f32⟩
  | 119 => ⟨S2048x8, .f32⟩
  | 120 => ⟨S2048x8, .f32⟩
  | 121 => ⟨S2048x8, .f32⟩
  | 122 => ⟨S2048x8, .f32⟩
  | 123 => ⟨S1x2048x1x8, .f32⟩
  | 124 => ⟨S2048x8, .f32⟩
  | 125 => ⟨S1x2048x1x8, .f32⟩
  | 126 => ⟨S8x2048x8x8, .f32⟩
  | 127 => ⟨S8x2048x8x8, .f32⟩
  | _ => ⟨S8x2048x1024, .f32⟩

abbrev hbmTy0_1 (i : Nat) : BufTy := match i % 128 with
  | 0 => ⟨S8x2048x8x48, .f32⟩
  | 1 => ⟨S8x2048x8x8, .f32⟩
  | 2 => ⟨S8x2048x8x8, .f32⟩
  | 3 => ⟨S8x2048x8x8, .f32⟩
  | 4 => ⟨S8x2048x8x8, .f32⟩
  | 5 => ⟨S8x2048x8x8, .f32⟩
  | 6 => ⟨S8x2048x8x8, .f32⟩
  | 7 => ⟨S8x2048x8x8, .f32⟩
  | 8 => ⟨S8x2048x8x8, .f32⟩
  | 9 => ⟨S8x2048x8x8, .f32⟩
  | 10 => ⟨S8x2048x8x8, .f32⟩
  | 11 => ⟨S8x2048x8x64, .f32⟩
  | 12 => ⟨S8x2048x1x64, .f32⟩
  | 13 => ⟨S8, .f32⟩
  | 14 => ⟨S_, .f32⟩
  | 15 => ⟨S8, .f32⟩
  | 16 => ⟨S8, .f32⟩
  | 17 => ⟨S8, .f32⟩
  | 18 => ⟨S2048, .f32⟩
  | 19 => ⟨S2048x1, .f32⟩
  | 20 => ⟨S1x8, .f32⟩
  | 21 => ⟨S2048x8, .f32⟩
  | 22 => ⟨S2048x8, .f32⟩
  | 23 => ⟨S2048x8, .f32⟩
  | 24 => ⟨S2048x8, .f32⟩
  | 25 => ⟨S1x2048x1x8, .f32⟩
  | 26 => ⟨S2048x8, .f32⟩
  | 27 => ⟨S1x2048x1x8, .f32⟩
  | 28 => ⟨S8x2048x1x8, .f32⟩
  | 29 => ⟨S8x2048x1x8, .f32⟩
  | 30 => ⟨S8x2048x1x48, .f32⟩
  | 31 => ⟨S8x2048x1x8, .f32⟩
  | 32 => ⟨S8x2048x1x8, .f32⟩
  | 33 => ⟨S8x2048x1x8, .f32⟩
  | 34 => ⟨S8x2048x1x8, .f32⟩
  | 35 => ⟨S8x2048x1x8, .f32⟩
  | 36 => ⟨S8x2048x1x8, .f32⟩
  | 37 => ⟨S8x2048x1x8, .f32⟩
  | 38 => ⟨S8x2048x1x8, .f32⟩
  | 39 => ⟨S8x2048x1x8, .f32⟩
  | 40 => ⟨S8x2048x1x8, .f32⟩
  | 41 => ⟨S8x2048x1x64, .f32⟩
  | 42 => ⟨S8x2048x64, .f32⟩
  | 43 => ⟨S16384x512, .f32⟩
  | 44 => ⟨S16384x512, .bf16⟩
  | 45 => ⟨S_, .i32⟩
  | 46 => ⟨S_, .f32⟩
  | 47 => ⟨S8x2048x2x128, .f32⟩
  | 48 => ⟨S16384x256, .f32⟩
  | 49 => ⟨S16384x256, .bf16⟩
  | 50 => ⟨S_, .i32⟩
  | 51 => ⟨S_, .f32⟩
  | 52 => ⟨S8x2048x2x128, .f32⟩
  | 53 => ⟨S16384x256, .f32⟩
  | 54 => ⟨S16384x256, .bf16⟩
  | 55 => ⟨S16384x512, .f32⟩
  | 56 => ⟨S16384x512, .bf16⟩
  | 57 => ⟨S_, .i32⟩
  | 58 => ⟨S_, .f32⟩
  | 59 => ⟨S8x2048x128, .f32⟩
  | 60 => ⟨S16384x128, .f32⟩
  | 61 => ⟨S16384x128, .bf16⟩
  | 62 => ⟨S_, .i32⟩
  | 63 => ⟨S_, .f32⟩
  | 64 => ⟨S8x2048x128, .f32⟩
  | 65 => ⟨S16384x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_5 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_cst_6 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_cst_7 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_cst_8 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_c : Ref sig .tc := ⟨.hbm, 173, rfl⟩
abbrev main_call0_v0 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_c_9 : Ref sig .tc := ⟨.hbm, 178, rfl⟩
abbrev main_call1_v0 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_c_10 : Ref sig .tc := ⟨.hbm, 185, rfl⟩
abbrev main_call2_v0 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_c_11 : Ref sig .tc := ⟨.hbm, 190, rfl⟩
abbrev main_call3_v0 : Ref sig .tc := ⟨.hbm, 191, rfl⟩
abbrev main_v170 : Ref sig .tc := ⟨.hbm, 192, rfl⟩
abbrev main_v171 : Ref sig .tc := ⟨.hbm, 193, rfl⟩

abbrev nD : Nat := 1
abbrev τ : Topo := Topo.v7x

variable {F : FTy → Type} [FloatOps F]
-- ==== Kernel9.lean ====
abbrev S8x2048x1024 : Shape := ⟨3, ![8, 2048, 1024]⟩
abbrev S8x2048x1536 : Shape := ⟨3, ![8, 2048, 1536]⟩
abbrev S8x2048x16 : Shape := ⟨3, ![8, 2048, 16]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S8x2048x128 : Shape := ⟨3, ![8, 2048, 128]⟩
abbrev S1x1536 : Shape := ⟨2, ![1, 1536]⟩
abbrev S128 : Shape := ⟨1, ![128]⟩
abbrev S1x128 : Shape := ⟨2, ![1, 128]⟩
abbrev S1x1024 : Shape := ⟨2, ![1, 1024]⟩
abbrev S1x128x1024 : Shape := ⟨3, ![1, 128, 1024]⟩
abbrev S1x128x1536 : Shape := ⟨3, ![1, 128, 1536]⟩
abbrev S1x128x128 : Shape := ⟨3, ![1, 128, 128]⟩
abbrev S128x1024 : Shape := ⟨2, ![128, 1024]⟩
abbrev S8x1536 : Shape := ⟨2, ![8, 1536]⟩
abbrev S128x1536 : Shape := ⟨2, ![128, 1536]⟩
abbrev S128x1 : Shape := ⟨2, ![128, 1]⟩
abbrev S128x256 : Shape := ⟨2, ![128, 256]⟩
abbrev S128x128 : Shape := ⟨2, ![128, 128]⟩
abbrev S128x512 : Shape := ⟨2, ![128, 512]⟩
abbrev S128x64 : Shape := ⟨2, ![128, 64]⟩
abbrev S1x512 : Shape := ⟨2, ![1, 512]⟩
abbrev S1x1 : Shape := ⟨2, ![1, 1]⟩

abbrev nBuf : Space → Nat
  | .hbm => 27
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1536, .f32⟩
  | .hbm, ⟨2, _⟩ => ⟨S8x2048x16, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S_, .i32⟩
  | .hbm, ⟨10, _⟩ => ⟨S_, .f32⟩
  | .hbm, ⟨11, _⟩ => ⟨S8x2048x128, .f32⟩
  | .hbm, ⟨12, _⟩ => ⟨S1x1536, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S1x1024, .f32⟩
  | .hbm, ⟨26, _⟩ => ⟨S8x2048x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x1536, .f32⟩
  | .local _ .vmem, ⟨3, _⟩ => ⟨S1x128x1536, .f32⟩
  | .local _ .vmem, ⟨4, _⟩ => ⟨S1x128x128, .f32⟩
  | .local _ .vmem, ⟨5, _⟩ => ⟨S1x128x128, .f32⟩
  | .local _ .vmem, ⟨6, _⟩ => ⟨S4x1536, .f32⟩
  | .local _ .vmem, ⟨7, _⟩ => ⟨S1x1536, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x1024, .f32⟩
  | .local _ .vmem, ⟨12, _⟩ => ⟨S1x128x1024, .bf16⟩
  | .local _ .vmem, ⟨13, _⟩ => ⟨S1x128x1024, .bf16⟩
  | .local _ .vmem, ⟨14, _⟩ => ⟨S128x1024, .f32⟩
  | .local _ .vmem, ⟨15, _⟩ => ⟨S8x1536, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_call2_v0 : Ref sig .tc := ⟨.hbm, 18, rfl⟩
abbrev main_v4 : Ref sig .tc := ⟨.hbm, 19, rfl⟩
abbrev main_v5 : Ref sig .tc := ⟨.hbm, 20, rfl⟩
abbrev main_c_2 : Ref sig .tc := ⟨.hbm, 21, rfl⟩
abbrev main_call3_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel9Ideal.lean ====
variable {F : FTy → Type} [FloatOps F] [Named F]
def κ : String → Option EReal := fun
  | "mask" => some ⊥
  | _ => none
-- ==== Reference9Ideal.lean ====
abbrev S8x2048x1024 : Shape := ⟨3, ![8, 2048, 1024]⟩
abbrev S8x2048x1536 : Shape := ⟨3, ![8, 2048, 1536]⟩
abbrev S8x2048x16 : Shape := ⟨3, ![8, 2048, 16]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S8x2051x1536 : Shape := ⟨3, ![8, 2051, 1536]⟩
abbrev S1x1536 : Shape := ⟨2, ![1, 1536]⟩
abbrev S1x1x1536 : Shape := ⟨3, ![1, 1, 1536]⟩
abbrev S8x2048x256 : Shape := ⟨3, ![8, 2048, 256]⟩
abbrev S8x2048x2x128 : Shape := ⟨4, ![8, 2048, 2, 128]⟩
abbrev S1x1x16 : Shape := ⟨3, ![1, 1, 16]⟩
abbrev S8x2048x2x8 : Shape := ⟨4, ![8, 2048, 2, 8]⟩
abbrev S2x8 : Shape := ⟨2, ![2, 8]⟩
abbrev S8x2048x2x8x64 : Shape := ⟨5, ![8, 2048, 2, 8, 64]⟩
abbrev S8x16x128x2x8x64 : Shape := ⟨6, ![8, 16, 128, 2, 8, 64]⟩
abbrev S8x16x128x2x8 : Shape := ⟨5, ![8, 16, 128, 2, 8]⟩
abbrev S8x16x128x2x128 : Shape := ⟨5, ![8, 16, 128, 2, 128]⟩
abbrev S1x1x1x2x8 : Shape := ⟨5, ![1, 1, 1, 2, 8]⟩
abbrev S8x16x128x2x8x1 : Shape := ⟨6, ![8, 16, 128, 2, 8, 1]⟩
abbrev S8x16x2x8x128 : Shape := ⟨5, ![8, 16, 2, 8, 128]⟩
abbrev S128x128 : Shape := ⟨2, ![128, 128]⟩
abbrev S8x16x2x8x128x1 : Shape := ⟨6, ![8, 16, 2, 8, 128, 1]⟩
abbrev S8x16x2x8x1x128 : Shape := ⟨6, ![8, 16, 2, 8, 1, 128]⟩
abbrev S8x16x2x8x128x128 : Shape := ⟨6, ![8, 16, 2, 8, 128, 128]⟩
abbrev S8x16x2x128x128 : Shape := ⟨5, ![8, 16, 2, 128, 128]⟩
abbrev S8x16x2x1x128x128 : Shape := ⟨6, ![8, 16, 2, 1, 128, 128]⟩
abbrev S8x16x2x8x64x128 : Shape := ⟨6, ![8, 16, 2, 8, 64, 128]⟩
abbrev S8x16x1x2x8 : Shape := ⟨5, ![8, 16, 1, 2, 8]⟩
abbrev S8x16x2x8 : Shape := ⟨4, ![8, 16, 2, 8]⟩
abbrev S8x1x2x8x64x128 : Shape := ⟨6, ![8, 1, 2, 8, 64, 128]⟩
abbrev S8x1x2x8 : Shape := ⟨4, ![8, 1, 2, 8]⟩
abbrev S8x1x2x8x1x1 : Shape := ⟨6, ![8, 1, 2, 8, 1, 1]⟩
abbrev S2x8x1 : Shape := ⟨3, ![2, 8, 1]⟩
abbrev S1x1x2x8x1 : Shape := ⟨5, ![1, 1, 2, 8, 1]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 276
  | .vmem => 0
  | .smem => 0
  | _ => 0

abbrev hbmTy0_0 (i : Nat) : BufTy := match i % 128 with
  | 0 => ⟨S8x2048x1024, .f32⟩
  | 1 => ⟨S8x2048x1536, .f32⟩
  | 2 => ⟨S8x2048x16, .f32⟩
  | 3 => ⟨S4x1536, .f32⟩
  | 4 => ⟨S1536, .f32⟩
  | 5 => ⟨S16, .f32⟩
  | 6 => ⟨S16, .f32⟩
  | 7 => ⟨S16, .f32⟩
  | 8 => ⟨S1024, .f32⟩
  | 9 => ⟨S_, .i32⟩
  | 10 => ⟨S_, .f32⟩
  | 11 => ⟨S8x2051x1536, .f32⟩
  | 12 => ⟨S8x2048x1536, .f32⟩
  | 13 => ⟨S1x1536, .f32⟩
  | 14 => ⟨S1536, .f32⟩
  | 15 => ⟨S1x1x1536, .f32⟩
  | 16 => ⟨S8x2048x1536, .f32⟩
  | 17 => ⟨S8x2048x1536, .f32⟩
  | 18 => ⟨S_, .f32⟩
  | 19 => ⟨S8x2048x1536, .f32⟩
  | 20 => ⟨S8x2048x1536, .f32⟩
  | 21 => ⟨S8x2048x1536, .f32⟩
  | 22 => ⟨S1x1536, .f32⟩
  | 23 => ⟨S1536, .f32⟩
  | 24 => ⟨S1x1x1536, .f32⟩
  | 25 => ⟨S8x2048x1536, .f32⟩
  | 26 => ⟨S8x2048x1536, .f32⟩
  | 27 => ⟨S8x2048x1536, .f32⟩
  | 28 => ⟨S8x2048x1536, .f32⟩
  | 29 => ⟨S1x1536, .f32⟩
  | 30 => ⟨S1536, .f32⟩
  | 31 => ⟨S1x1x1536, .f32⟩
  | 32 => ⟨S8x2048x1536, .f32⟩
  | 33 => ⟨S8x2048x1536, .f32⟩
  | 34 => ⟨S8x2048x1536, .f32⟩
  | 35 => ⟨S8x2048x1536, .f32⟩
  | 36 => ⟨S1x1536, .f32⟩
  | 37 => ⟨S1536, .f32⟩
  | 38 => ⟨S1x1x1536, .f32⟩
  | 39 => ⟨S8x2048x1536, .f32⟩
  | 40 => ⟨S8x2048x1536, .f32⟩
  | 41 => ⟨S8x2048x1536, .f32⟩
  | 42 => ⟨S1x1x1536, .f32⟩
  | 43 => ⟨S8x2048x1536, .f32⟩
  | 44 => ⟨S8x2048x1536, .f32⟩
  | 45 => ⟨S8x2048x1536, .f32⟩
  | 46 => ⟨S8x2048x1536, .f32⟩
  | 47 => ⟨S_, .f32⟩
  | 48 => ⟨S8x2048x1536, .f32⟩
  | 49 => ⟨S8x2048x1536, .f32⟩
  | 50 => ⟨S_, .f32⟩
  | 51 => ⟨S8x2048x1536, .f32⟩
  | 52 => ⟨S8x2048x1536, .f32⟩
  | 53 => ⟨S8x2048x1536, .f32⟩
  | 54 => ⟨S8x2048x1024, .f32⟩
  | 55 => ⟨S8x2048x256, .f32⟩
  | 56 => ⟨S8x2048x256, .f32⟩
  | 57 => ⟨S8x2048x2x128, .f32⟩
  | 58 => ⟨S8x2048x2x128, .f32⟩
  | 59 => ⟨S1x1x16, .f32⟩
  | 60 => ⟨S8x2048x16, .f32⟩
  | 61 => ⟨S8x2048x16, .f32⟩
  | 62 => ⟨S_, .f32⟩
  | 63 => ⟨S8x2048x16, .f32⟩
  | 64 => ⟨S8x2048x16, .f32⟩
  | 65 => ⟨S8x2048x16, .f32⟩
  | 66 => ⟨S8x2048x16, .f32⟩
  | 67 => ⟨S8x2048x16, .i1⟩
  | 68 => ⟨S8x2048x16, .f32⟩
  | 69 => ⟨S8x2048x16, .f32⟩
  | 70 => ⟨S8x2048x16, .f32⟩
  | 71 => ⟨S8x2048x16, .f32⟩
  | 72 => ⟨S8x2048x16, .f32⟩
  | 73 => ⟨S8x2048x16, .f32⟩
  | 74 => ⟨S8x2048x16, .f32⟩
  | 75 => ⟨S8x2048x16, .f32⟩
  | 76 => ⟨S8x2048x2x8, .f32⟩
  | 77 => ⟨S16, .f32⟩
  | 78 => ⟨S2x8, .f32⟩
  | 79 => ⟨S2x8, .f32⟩
  | 80 => ⟨S8x2048x2x8x64, .f32⟩
  | 81 => ⟨S8x16x128x2x8x64, .f32⟩
  | 82 => ⟨S8x16x128x2x8, .f32⟩
  | 83 => ⟨S8x16x128x2x128, .f32⟩
  | 84 => ⟨S8x16x128x2x128, .f32⟩
  | 85 => ⟨S1x1x1x2x8, .f32⟩
  | 86 => ⟨S8x16x128x2x8, .f32⟩
  | 87 => ⟨S8x16x128x2x8, .f32⟩
  | 88 => ⟨S_, .f32⟩
  | 89 => ⟨S_, .f32⟩
  | 90 => ⟨S8x16x128x2x8, .f32⟩
  | 91 => ⟨S8x16x128x2x8x1, .f32⟩
  | 92 => ⟨S8x16x128x2x8x64, .f32⟩
  | 93 => ⟨S8x16x128x2x8x64, .f32⟩
  | 94 => ⟨S8x16x2x8x128, .f32⟩
  | 95 => ⟨S_, .i1⟩
  | 96 => ⟨S128x128, .i1⟩
  | 97 => ⟨S128x128, .i32⟩
  | 98 => ⟨S_, .i32⟩
  | 99 => ⟨S128x128, .i32⟩
  | 100 => ⟨S128x128, .i32⟩
  | 101 => ⟨S128x128, .i32⟩
  | 102 => ⟨S128x128, .i1⟩
  | 103 => ⟨S_, .i1⟩
  | 104 => ⟨S128x128, .i1⟩
  | 105 => ⟨S128x128, .i1⟩
  | 106 => ⟨S8x16x2x8x128x1, .f32⟩
  | 107 => ⟨S8x16x2x8x1x128, .f32⟩
  | 108 => ⟨S8x16x2x8x128x128, .f32⟩
  | 109 => ⟨S8x16x2x8x128x128, .f32⟩
  | 110 => ⟨S8x16x2x8x128x128, .f32⟩
  | 111 => ⟨S_, .f32⟩
  | 112 => ⟨S_, .f32⟩
  | 113 => ⟨S8x16x2x8x128x128, .i1⟩
  | 114 => ⟨S8x16x2x8x128x128, .f32⟩
  | 115 => ⟨S8x16x2x8x128x128, .f32⟩
  | 116 => ⟨S8x16x2x8x128x128, .f32⟩
  | 117 => ⟨S8x16x2x128x128, .f32⟩
  | 118 => ⟨S8x16x2x1x128x128, .f32⟩
  | 119 => ⟨S8x16x2x8x128x128, .f32⟩
  | 120 => ⟨S8x16x2x8x128x128, .f32⟩
  | 121 => ⟨S8x16x2x8x64x128, .f32⟩
  | 122 => ⟨S8x16x128x2x8x64, .f32⟩
  | 123 => ⟨S8x16x1x2x8, .f32⟩
  | 124 => ⟨S8x16x128x2x8, .f32⟩
  | 125 => ⟨S8x16x128x2x8, .f32⟩
  | 126 => ⟨S8x16x128x2x8, .f32⟩
  | 127 => ⟨S8x16x128x2x8x1, .f32⟩
  | _ => ⟨S8x2048x1024, .f32⟩

abbrev hbmTy0_1 (i : Nat) : BufTy := match i % 128 with
  | 0 => ⟨S8x16x128x2x8x64, .f32⟩
  | 1 => ⟨S8x16x128x2x8x64, .f32⟩
  | 2 => ⟨S8x16x2x8x64x128, .f32⟩
  | 3 => ⟨S8x16x1x2x8, .f32⟩
  | 4 => ⟨S8x16x2x8, .f32⟩
  | 5 => ⟨S8x16x2x8, .f32⟩
  | 6 => ⟨S_, .f32⟩
  | 7 => ⟨S8x1x2x8x64x128, .f32⟩
  | 8 => ⟨S8x1x2x8, .f32⟩
  | 9 => ⟨S8x1x2x8x1x1, .f32⟩
  | 10 => ⟨S8x1x2x8x64x128, .f32⟩
  | 11 => ⟨S8x1x2x8x64x128, .f32⟩
  | 12 => ⟨S8x1x2x8x64x128, .f32⟩
  | 13 => ⟨S8x1x2x8x64x128, .f32⟩
  | 14 => ⟨S8x1x2x8, .f32⟩
  | 15 => ⟨S8x1x2x8x1x1, .f32⟩
  | 16 => ⟨S8x1x2x8x64x128, .f32⟩
  | 17 => ⟨S8x1x2x8x64x128, .f32⟩
  | 18 => ⟨S8x1x2x8x64x128, .f32⟩
  | 19 => ⟨S8x1x2x8x64x128, .f32⟩
  | 20 => ⟨S8x1x2x8, .f32⟩
  | 21 => ⟨S8x1x2x8x1x1, .f32⟩
  | 22 => ⟨S8x1x2x8x64x128, .f32⟩
  | 23 => ⟨S8x1x2x8x64x128, .f32⟩
  | 24 => ⟨S8x1x2x8x64x128, .f32⟩
  | 25 => ⟨S8x1x2x8x64x128, .f32⟩
  | 26 => ⟨S8x1x2x8, .f32⟩
  | 27 => ⟨S8x1x2x8x1x1, .f32⟩
  | 28 => ⟨S8x1x2x8x64x128, .f32⟩
  | 29 => ⟨S8x1x2x8x64x128, .f32⟩
  | 30 => ⟨S8x1x2x8x64x128, .f32⟩
  | 31 => ⟨S8x1x2x8x64x128, .f32⟩
  | 32 => ⟨S8x1x2x8, .f32⟩
  | 33 => ⟨S8x1x2x8x1x1, .f32⟩
  | 34 => ⟨S8x1x2x8x64x128, .f32⟩
  | 35 => ⟨S8x1x2x8x64x128, .f32⟩
  | 36 => ⟨S8x1x2x8x64x128, .f32⟩
  | 37 => ⟨S8x1x2x8x64x128, .f32⟩
  | 38 => ⟨S8x1x2x8, .f32⟩
  | 39 => ⟨S8x1x2x8x1x1, .f32⟩
  | 40 => ⟨S8x1x2x8x64x128, .f32⟩
  | 41 => ⟨S8x1x2x8x64x128, .f32⟩
  | 42 => ⟨S8x1x2x8x64x128, .f32⟩
  | 43 => ⟨S8x1x2x8x64x128, .f32⟩
  | 44 => ⟨S8x1x2x8, .f32⟩
  | 45 => ⟨S8x1x2x8x1x1, .f32⟩
  | 46 => ⟨S8x1x2x8x64x128, .f32⟩
  | 47 => ⟨S8x1x2x8x64x128, .f32⟩
  | 48 => ⟨S8x1x2x8x64x128, .f32⟩
  | 49 => ⟨S8x1x2x8x64x128, .f32⟩
  | 50 => ⟨S8x1x2x8, .f32⟩
  | 51 => ⟨S8x1x2x8x1x1, .f32⟩
  | 52 => ⟨S8x1x2x8x64x128, .f32⟩
  | 53 => ⟨S8x1x2x8x64x128, .f32⟩
  | 54 => ⟨S8x1x2x8x64x128, .f32⟩
  | 55 => ⟨S8x1x2x8x64x128, .f32⟩
  | 56 => ⟨S8x1x2x8, .f32⟩
  | 57 => ⟨S8x1x2x8x1x1, .f32⟩
  | 58 => ⟨S8x1x2x8x64x128, .f32⟩
  | 59 => ⟨S8x1x2x8x64x128, .f32⟩
  | 60 => ⟨S8x1x2x8x64x128, .f32⟩
  | 61 => ⟨S8x1x2x8x64x128, .f32⟩
  | 62 => ⟨S8x1x2x8, .f32⟩
  | 63 => ⟨S8x1x2x8x1x1, .f32⟩
  | 64 => ⟨S8x1x2x8x64x128, .f32⟩
  | 65 => ⟨S8x1x2x8x64x128, .f32⟩
  | 66 => ⟨S8x1x2x8x64x128, .f32⟩
  | 67 => ⟨S8x1x2x8x64x128, .f32⟩
  | 68 => ⟨S8x1x2x8, .f32⟩
  | 69 => ⟨S8x1x2x8x1x1, .f32⟩
  | 70 => ⟨S8x1x2x8x64x128, .f32⟩
  | 71 => ⟨S8x1x2x8x64x128, .f32⟩
  | 72 => ⟨S8x1x2x8x64x128, .f32⟩
  | 73 => ⟨S8x1x2x8x64x128, .f32⟩
  | 74 => ⟨S8x1x2x8, .f32⟩
  | 75 => ⟨S8x1x2x8x1x1, .f32⟩
  | 76 => ⟨S8x1x2x8x64x128, .f32⟩
  | 77 => ⟨S8x1x2x8x64x128, .f32⟩
  | 78 => ⟨S8x1x2x8x64x128, .f32⟩
  | 79 => ⟨S8x1x2x8x64x128, .f32⟩
  | 80 => ⟨S8x1x2x8, .f32⟩
  | 81 => ⟨S8x1x2x8x1x1, .f32⟩
  | 82 => ⟨S8x1x2x8x64x128, .f32⟩
  | 83 => ⟨S8x1x2x8x64x128, .f32⟩
  | 84 => ⟨S8x1x2x8x64x128, .f32⟩
  | 85 => ⟨S8x1x2x8x64x128, .f32⟩
  | 86 => ⟨S8x1x2x8, .f32⟩
  | 87 => ⟨S8x1x2x8x1x1, .f32⟩
  | 88 => ⟨S8x1x2x8x64x128, .f32⟩
  | 89 => ⟨S8x1x2x8x64x128, .f32⟩
  | 90 => ⟨S8x1x2x8x64x128, .f32⟩
  | 91 => ⟨S8x1x2x8x64x128, .f32⟩
  | 92 => ⟨S8x1x2x8, .f32⟩
  | 93 => ⟨S8x1x2x8x1x1, .f32⟩
  | 94 => ⟨S8x1x2x8x64x128, .f32⟩
  | 95 => ⟨S8x1x2x8x64x128, .f32⟩
  | 96 => ⟨S8x1x2x8x64x128, .f32⟩
  | 97 => ⟨S8x1x2x8x64x128, .f32⟩
  | 98 => ⟨S8x1x2x8, .f32⟩
  | 99 => ⟨S8x1x2x8x1x1, .f32⟩
  | 100 => ⟨S8x1x2x8x64x128, .f32⟩
  | 101 => ⟨S8x1x2x8x64x128, .f32⟩
  | 102 => ⟨S8x1x2x8x64x128, .f32⟩
  | 103 => ⟨S8x1x2x8x64x128, .f32⟩
  | 104 => ⟨S8x16x2x8x64x128, .f32⟩
  | 105 => ⟨S8x16x2x8x64x128, .f32⟩
  | 106 => ⟨S8x16x128x2x8x64, .f32⟩
  | 107 => ⟨S8x16x128x2x8, .f32⟩
  | 108 => ⟨S8x16x128x2x8x1, .f32⟩
  | 109 => ⟨S8x16x128x2x8x64, .f32⟩
  | 110 => ⟨S8x16x128x2x8x64, .f32⟩
  | 111 => ⟨S8x16x128x2x8x64, .f32⟩
  | 112 => ⟨S8x2048x2x8x64, .f32⟩
  | 113 => ⟨S8x2048x2x8x64, .f32⟩
  | 114 => ⟨S2x8, .f32⟩
  | 115 => ⟨S2x8x1, .f32⟩
  | 116 => ⟨S1x1x2x8x1, .f32⟩
  | 117 => ⟨S8x2048x2x8x64, .f32⟩
  | 118 => ⟨S8x2048x2x8x64, .f32⟩
  | 119 => ⟨S8x2048x2x8x64, .f32⟩
  | 120 => ⟨S8x2048x1024, .f32⟩
  | 121 => ⟨S8x2048x1024, .f32⟩
  | 122 => ⟨S8x2048x1024, .f32⟩
  | 123 => ⟨S_, .f32⟩
  | 124 => ⟨S8x2048x1024, .f32⟩
  | 125 => ⟨S8x2048x1024, .f32⟩
  | 126 => ⟨S_, .f32⟩
  | 127 => ⟨S8x2048x1024, .f32⟩
  | _ => ⟨S8x2048x1024, .f32⟩

abbrev hbmTy0_2 (i : Nat) : BufTy := match i % 128 with
  | 0 => ⟨S8x2048x1024, .f32⟩
  | 1 => ⟨S8x2048x1024, .f32⟩
  | 2 => ⟨S8x2048x1024, .f32⟩
  | 3 => ⟨S8x2048x1024, .f32⟩
  | 4 => ⟨S_, .f32⟩
  | 5 => ⟨S8x2048, .f32⟩
  | 6 => ⟨S8x2048x1, .f32⟩
  | 7 => ⟨S_, .f32⟩
  | 8 => ⟨S8x2048x1, .f32⟩
  | 9 => ⟨S8x2048x1, .f32⟩
  | 10 => ⟨S_, .f32⟩
  | 11 => ⟨S8x2048x1, .f32⟩
  | 12 => ⟨S8x2048x1, .f32⟩
  | 13 => ⟨S8x2048x1, .f32⟩
  | 14 => ⟨S8x2048x1024, .f32⟩
  | 15 => ⟨S8x2048x1024, .f32⟩
  | 16 => ⟨S1x1x1024, .f32⟩
  | 17 => ⟨S8x2048x1024, .f32⟩
  | 18 => ⟨S8x2048x1024, .f32⟩
  | 19 => ⟨S8x2048x1024, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_call3_call0_cst : Ref sig .tc := ⟨.hbm, 88, rfl⟩
abbrev main_call3_call0_v0 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_0 : Ref sig .tc := ⟨.hbm, 95, rfl⟩
abbrev main_v60 : Ref sig .tc := ⟨.hbm, 96, rfl⟩
abbrev main_call4_v0 : Ref sig .tc := ⟨.hbm, 97, rfl⟩
abbrev main_call4_c : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_c_0 : Ref sig .tc := ⟨.hbm, 103, rfl⟩
abbrev main_call4_v5 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_1 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_2 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_call6_v0 : Ref sig .tc := ⟨.hbm, 249, rfl⟩
abbrev main_call6_v1 : Ref sig .tc := ⟨.hbm, 250, rfl⟩
abbrev main_call6_cst : Ref sig .tc := ⟨.hbm, 251, rfl⟩
abbrev main_call6_v2 : Ref sig .tc := ⟨.hbm, 252, rfl⟩
abbrev main_call6_v3 : Ref sig .tc := ⟨.hbm, 253, rfl⟩
abbrev main_call6_cst_0 : Ref sig .tc := ⟨.hbm, 254, rfl⟩
abbrev main_call6_v4 : Ref sig .tc := ⟨.hbm, 255, rfl⟩
abbrev main_call6_v5 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_cst_3 : Ref sig .tc := ⟨.hbm, 260, rfl⟩
abbrev main_v203 : Ref sig .tc := ⟨.hbm, 261, rfl⟩
abbrev main_v204 : Ref sig .tc := ⟨.hbm, 262, rfl⟩
abbrev main_cst_4 : Ref sig .tc := ⟨.hbm, 263, rfl⟩
abbrev main_v205 : Ref sig .tc := ⟨.hbm, 264, rfl⟩
abbrev main_v206 : Ref sig .tc := ⟨.hbm, 265, rfl⟩
abbrev main_cst_5 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩

abbrev nD : Nat := 1
abbrev τ : Topo := Topo.v7x

variable {F : FTy → Type} [FloatOps F]
-- ==== Proof.Math.lean ====
/- The sums of the stick-breaking attention of one query row, over the extended reals: the masked
   softplus of every earlier position, its suffix sums, the weight of every position and the weighted
   values, each summed from a position `lo` to the end of the sequence. A block of 256 positions
   moves `lo` down by 256. -/
module

public import Idealize.ShloMosaic.Lib.ValueIdx
public import Idealize.ShloMosaic.PureOps.Ideal.Laws

@[expose] public section

noncomputable section

namespace Cert.Stick

open Idealize.ShloMosaic

/-- The reciprocal of the natural logarithm of two. -/
def L2 : EReal := (((Real.log 2)⁻¹ : ℝ) : EReal)

/-- The score of a query row against a key row, in base-two units. -/
def zAt (q k : Fin 64 → EReal) : EReal := (∑ d, q d * k d) * L2

/-- The softplus in base-two units. -/
def sp (z : EReal) : EReal :=
  max z 0 + Ideal.log (1 + FloatOps.exp2 (F := Ideal) (φ := .f32) (0 - FloatOps.absf (F := Ideal) (φ := .f32) z)) * L2

variable (q : Fin 64 → EReal) (k : ℕ → Fin 64 → EReal) (v : ℕ → EReal) (t : ℕ)

/-- The softplus of position `s`, nothing at or past the row's own position `t`. -/
def spm (s : ℕ) : EReal := if s < t then sp (zAt q (k s)) else 0

/-- The masked softplus summed from position `lo` on. -/
def CF (lo : ℕ) : EReal := ∑ s ∈ Finset.Ico lo 2048, spm q k t s

/-- The weight of position `s`, nothing at or past the row's own position `t`. -/
def attm (s : ℕ) : EReal :=
  if s < t then
    FloatOps.exp2 (F := Ideal) (φ := .f32) (zAt q (k s) - sp (zAt q (k s)) - CF q k t (s + 1))
  else 0

/-- The weighted values summed from position `lo` on. -/
def AF (lo : ℕ) : EReal := ∑ s ∈ Finset.Ico lo 2048, attm q k t s * v s

/-- A sum from `b` on is the sum over a block of 256 positions and the sum past the block. -/
theorem sum_block (f : ℕ → EReal) (b : ℕ) (hb : b + 256 ≤ 2048) :
    ∑ s ∈ Finset.Ico b 2048, f s = (∑ j : Fin 256, f (b + j.val)) + ∑ s ∈ Finset.Ico (b + 256) 2048, f s := by
  rw [← Finset.sum_Ico_consecutive f (Nat.le_add_right b 256) hb, Finset.sum_Ico_eq_sum_range,
    show b + 256 - b = 256 from by omega, Finset.sum_range]

/-- The part of a block past its position `j`, picked by the strict triangle, and the sum past the block are the sum
    past that position. -/
theorem sum_suffix (f : ℕ → EReal) (b : ℕ) (hb : b + 256 ≤ 2048) (j : Fin 256) :
    (∑ x : Fin 256, f (b + x.val) * (if j < x then 1 else 0)) + ∑ s ∈ Finset.Ico (b + 256) 2048, f s
      = ∑ s ∈ Finset.Ico (b + j.val + 1) 2048, f s := by
  rw [← Finset.sum_Ico_consecutive f (show b + j.val + 1 ≤ b + 256 by omega) hb]
  congr 1
  have h1 : ∀ x : Fin 256, f (b + x.val) * (if j < x then (1 : EReal) else 0)
      = (fun s => if b + j.val + 1 ≤ s then f s else 0) (b + x.val) := by
    intro x
    by_cases h : j < x
    · have h' : b + j.val + 1 ≤ b + x.val := by have := Fin.lt_def.mp h; omega
      simp only [if_pos h, if_pos h', mul_one]
    · have h' : ¬b + j.val + 1 ≤ b + x.val := by rw [Fin.lt_def] at h; omega
      simp only [if_neg h, if_neg h', mul_zero]
  rw [Finset.sum_congr rfl fun x _ => h1 x]
  have h2 : ∀ g : ℕ → EReal, (∑ x : Fin 256, g (b + x.val)) = ∑ s ∈ Finset.Ico b (b + 256), g s := fun g => by
    rw [Finset.sum_Ico_eq_sum_range, Nat.add_sub_cancel_left, Finset.sum_range]
  rw [h2 (fun s => if b + j.val + 1 ≤ s then f s else 0), ← Finset.sum_filter]
  refine Finset.sum_congr ?_ fun _ _ => rfl
  ext s
  simp only [Finset.mem_filter, Finset.mem_Ico]
  omega

/-- One block moves the sum of the weighted values down by 256 positions. -/
theorem AF_block (b : ℕ) (hb : b + 256 ≤ 2048) :
    AF q k v t (b + 256) + (∑ j : Fin 256, attm q k t (b + j.val) * v (b + j.val)) = AF q k v t b := by
  unfold AF
  rw [sum_block _ b hb, add_comm]

/-- Nothing is added by positions at or past the row's own. -/
theorem CF_of_le (lo : ℕ) (h : t ≤ lo) : CF q k t lo = 0 :=
  Finset.sum_eq_zero fun s hs => if_neg (by have := (Finset.mem_Ico.mp hs).1; omega)

/-- Nothing is added by positions at or past the row's own. -/
theorem AF_of_le (lo : ℕ) (h : t ≤ lo) : AF q k v t lo = 0 :=
  Finset.sum_eq_zero fun s hs => by
    rw [attm, if_neg (by have := (Finset.mem_Ico.mp hs).1; omega), zero_mul]

end Cert.Stick
end
-- ==== Proof.Pay.lean ====
/- What the payloads of one block of the stick-breaking attention hold at an index: from the sums past
   the block, the sums from the block on. -/
module

public import proofs.«01_k».proof.Proof.Gen.KernelIdeal.Skeleton
public import proofs.«01_k».proof.Proof.Math
public import Idealize.ShloMosaic.Lib.Pointwise
public import Idealize.ShloMosaic.PureOps.IdealRules

@[expose] public section

set_option maxRecDepth 16384
noncomputable section

namespace Cert.KernelIdeal.Att

open Idealize.ShloMosaic Cert.KernelIdeal Cert.KernelIdeal.Gen Cert.Stick

/-- The named constant is the reciprocal of the natural logarithm of two. -/
theorem named_L2 : Named.named (F := Ideal) Cert.KernelIdeal.κ "log2e" (φ := .f32) 0x3FB8AA3B#32 = L2 :=
  IdealRules.named_const.ideal_named_scalar _ _ _ _ rfl

/-- Small numbers as words compare as the numbers. -/
theorem slt_small {a b : ℕ} (ha : a < 1024) (hb : b < 1024) : (BitVec.ofNat 32 a).slt (BitVec.ofNat 32 b) = decide (a < b) := by
  rw [BitVec.slt_eq_decide, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  simp

/-- The strict triangle: one where the row is past the column. -/
theorem tri_apply (i j : Fin 256) : k0_pay55 (F := Ideal) (ix2 i j) = if j < i then 1 else 0 := by
  pointwise [k0_pay55]
  have := slt_small (a := j.val) (b := i.val) (by omega) (by omega)
  by_cases h : j < i
  · rw [if_pos h]
    simp [IntOp.cmpi, Scalar.select, this, Fin.lt_def.mp h]
  · rw [if_neg h]
    simp [IntOp.cmpi, Scalar.select, this, Fin.lt_def.not.mp h]

/-- The mask of the block on the diagonal of the lower rows. -/
theorem late_apply (i j : Fin 256) : k0_pay53 (ix2 i j) = if j.val < i.val then 1#1 else 0#1 := by
  pointwise [k0_pay53]
  have := slt_small (a := j.val) (b := i.val) (by omega) (by omega)
  by_cases h : j.val < i.val
  · simp [IntOp.cmpi, this, h]
  · simp [IntOp.cmpi, this, h]

/-- The mask of the block on the diagonal of the upper rows, open for the lower rows. -/
theorem early_apply (i : Fin 512) (j : Fin 256) : k0_pay54 (ix2 i j) = if j.val < i.val then 1#1 else 0#1 := by
  pointwise [k0_pay54]
  have h1 := slt_small (a := j.val) (b := i.val) (by omega) (by omega)
  have h2 := slt_small (a := i.val) (b := 256) (by omega) (by omega)
  have h3 : (256#32).sle (BitVec.ofNat 32 i.val) = decide (256 ≤ i.val) := by
    rw [BitVec.sle_eq_not_slt, h2, ← decide_not]; exact decide_eq_decide.mpr not_lt
  by_cases h : j.val < i.val
  · by_cases h' : 256 ≤ i.val <;> simp [IntOp.cmpi, IntOp.ori, h1, h3, h, h']
  · have h' : ¬256 ≤ i.val := by omega
    simp [IntOp.cmpi, IntOp.ori, h1, h3, h, h']

/-! ## A block of keys against a set of rows -/

/-- The sums past every position of the block: the softplus times the strict triangle, and the carry. -/
def after512 (S : FVec Ideal S512x256 .f32) (U : FVec Ideal S256x256 .bf16) (C : Vec Ideal S1x512x128 .f32) : FVec Ideal S512x256 .f32 :=
  addf (matmul dot_S512x256_S256x256_S512x256_1_0_0_1_n_n none (truncf .bf16 S bitsLt_bf16_f32) U (constant S512x256 .f32 0x00000000#32))
    (concatenate S512x256 1 [⟨S512x128, shapeCast S512x128 C shapeCasts_S1x512x128_S512x128⟩, ⟨S512x128, shapeCast S512x128 C shapeCasts_S1x512x128_S512x128⟩]
      concatenates_S512x128_S512x128_S512x256_d1)

/-- The accumulator with the block's weighted values added. -/
def acc512 (W : FVec Ideal S512x256 .f32) (V : FVec Ideal S256x64 .bf16) (A : Vec Ideal S1x512x64 .f32) : FVec Ideal S1x512x64 .f32 :=
  shapeCast S1x512x64 (addf (shapeCast S512x64 A shapeCasts_S1x512x64_S512x64)
    (matmul dot_S512x256_S256x64_S512x64_1_0_0_1_n_n none (truncf .bf16 W bitsLt_bf16_f32) V (constant S512x64 .f32 0x00000000#32)))
    shapeCasts_S512x64_S1x512x64

/-- The carry with the block's softplus added, the same in every lane. -/
def carry512 (S P : FVec Ideal S512x256 .f32) : FVec Ideal S1x512x128 .f32 :=
  shapeCast S1x512x128 (broadcastTo S512x128 (shapeCast S512x1 (addf (extractStridedSlice S512x1 ![0, 0] P slices_S512x256_o0_0_S512x1)
    (extractStridedSlice S512x1 ![0, 0] S slices_S512x256_o0_0_S512x1)) shapeCasts_S512x1_S512x1) broadcasts_S512x1_S512x128) shapeCasts_S512x128_S1x512x128

/-- Past position `j` of the block at `b`: the sum of the softplus from the next position on. -/
theorem after512_apply {S : FVec Ideal S512x256 .f32} {C : Vec Ideal S1x512x128 .f32} {q : Fin 64 → EReal}
    {k : ℕ → Fin 64 → EReal} {t b : ℕ} (r : Fin 512) (hb : b + 256 ≤ 2048) (hS : ∀ x : Fin 256, S (ix2 r x) = spm q k t (b + x.val))
    (hC : ∀ l : Fin 128, C (ix3 0 r l) = CF q k t (b + 256)) (j : Fin 256) :
    after512 S (k0_pay55 (F := Ideal)) C (ix2 r j) = CF q k t (b + j.val + 1) := by
  pointwise [after512]
  simp only [tri_apply, hS, hC, dite_eq_ite, ite_self]
  exact sum_suffix _ b hb j

/-- The carry after the block: the sum of the softplus from the block on. -/
theorem carry512_apply {S : FVec Ideal S512x256 .f32} {C : Vec Ideal S1x512x128 .f32} {q : Fin 64 → EReal}
    {k : ℕ → Fin 64 → EReal} {t b : ℕ} (r : Fin 512) (hb : b + 256 ≤ 2048) (hS : ∀ x : Fin 256, S (ix2 r x) = spm q k t (b + x.val))
    (hC : ∀ l : Fin 128, C (ix3 0 r l) = CF q k t (b + 256)) (l : Fin 128) :
    carry512 S (after512 S (k0_pay55 (F := Ideal)) C) (ix3 0 r l) = CF q k t b := by
  pointwise [carry512]
  rw [after512_apply r hb hS hC, hS]
  exact (add_comm _ _).trans (Finset.sum_eq_sum_Ico_succ_bot (show b < 2048 by omega) _).symm

/-- The accumulator after the block: the sum of the weighted values from the block on. -/
theorem acc512_apply {W : FVec Ideal S512x256 .f32} {V : FVec Ideal S256x64 .bf16} {A : Vec Ideal S1x512x64 .f32} {q : Fin 64 → EReal}
    {k : ℕ → Fin 64 → EReal} {v : ℕ → EReal} {t b : ℕ} (r : Fin 512) (d : Fin 64) (hb : b + 256 ≤ 2048)
    (hW : ∀ j : Fin 256, W (ix2 r j) = attm q k t (b + j.val)) (hV : ∀ j : Fin 256, V (ix2 j d) = v (b + j.val))
    (hA : A (ix3 0 r d) = AF q k v t (b + 256)) : acc512 W V A (ix3 0 r d) = AF q k v t b := by
  pointwise [acc512]
  simp only [hW, hV, hA]
  exact AF_block q k v t b hb

/-- The scores of the block's keys. -/
def z512 (K : Vec Ideal S1x256x64 .bf16) (Q : Vec Ideal S1x512x64 .bf16) : FVec Ideal S512x256 .f32 :=
  mulf (matmul dot_S512x64_S256x64_S512x256_1_1_0_0_n_n none (shapeCast S512x64 Q shapeCasts_S1x512x64_S512x64 : FVec Ideal S512x64 .bf16)
    (shapeCast S256x64 K shapeCasts_S1x256x64_S256x64 : FVec Ideal S256x64 .bf16) (constant S512x256 .f32 0x00000000#32))
    (broadcast S512x256 (Named.named (F := Ideal) κ "log2e" (φ := .f32) 0x3FB8AA3B#32))

/-- The softplus of the scores. -/
def sp512 (Z : FVec Ideal S512x256 .f32) : FVec Ideal S512x256 .f32 :=
  addf (maximumf Z (broadcast S512x256 (Scalar.ofBits .f32 0x00000000#32)))
    (mulf (log (addf (broadcast S512x256 (Scalar.ofBits .f32 0x3F800000#32))
      (exp2 (subf (broadcast S512x256 (Scalar.ofBits .f32 0x00000000#32)) (absf Z)))))
      (broadcast S512x256 (Named.named (F := Ideal) κ "log2e" (φ := .f32) 0x3FB8AA3B#32)))

/-- The weights of the block's positions. -/
def att512 (Z P : FVec Ideal S512x256 .f32) : FVec Ideal S512x256 .f32 := exp2 (subf (subf Z (sp512 Z)) P)

/-- The scaled score of a full query block at a row and a key: the product of the two rows in base two. -/
theorem z512_apply (K : Vec Ideal S1x256x64 .bf16) (Q : Vec Ideal S1x512x64 .bf16) (r : Fin 512) (j : Fin 256) :
    z512 K Q (ix2 r j) = zAt (fun d => Q (ix3 0 r d)) (fun d => K (ix3 0 j d)) := by
  pointwise [z512]
  rw [named_L2]; rfl

/-- The softplus of a full block is the scalar softplus of each entry. -/
theorem sp512_apply (Z : FVec Ideal S512x256 .f32) (r : Fin 512) (j : Fin 256) : sp512 Z (ix2 r j) = sp (Z (ix2 r j)) := by
  pointwise [sp512]
  rw [named_L2]; rfl

/-- The weights of a full block: two to the score less its softplus less what the later keys have taken. -/
theorem att512_apply (Z P : FVec Ideal S512x256 .f32) (r : Fin 512) (j : Fin 256) :
    att512 Z P (ix2 r j) = FloatOps.exp2 (F := Ideal) (φ := .f32) (Z (ix2 r j) - sp (Z (ix2 r j)) - P (ix2 r j)) := by
  pointwise [att512]
  rw [sp512_apply]

/-- A block whose positions are masked by `m`: its carry and its accumulator. -/
theorem block512_masked {m : IVec S512x256 1} {K : Vec Ideal S1x256x64 .bf16} {Q : Vec Ideal S1x512x64 .bf16}
    {C : Vec Ideal S1x512x128 .f32} {V : FVec Ideal S256x64 .bf16} {A : Vec Ideal S1x512x64 .f32} {q : Fin 64 → EReal}
    {k : ℕ → Fin 64 → EReal} {v : ℕ → EReal} {t b : ℕ} (r : Fin 512) (d : Fin 64) (l : Fin 128) (hb : b + 256 ≤ 2048)
    (hm : ∀ j : Fin 256, m (ix2 r j) = if b + j.val < t then 1#1 else 0#1)
    (hQ : ∀ d, Q (ix3 0 r d) = q d) (hK : ∀ (j : Fin 256) d, K (ix3 0 j d) = k (b + j.val) d)
    (hC : ∀ l : Fin 128, C (ix3 0 r l) = CF q k t (b + 256)) (hV : ∀ j : Fin 256, V (ix2 j d) = v (b + j.val))
    (hA : A (ix3 0 r d) = AF q k v t (b + 256)) :
    let S := select m (sp512 (z512 K Q)) (broadcast S512x256 (Scalar.ofBits (F := Ideal) .f32 0x00000000#32))
    let P := after512 S (k0_pay55 (F := Ideal)) C
    carry512 S P (ix3 0 r l) = CF q k t b
      ∧ acc512 (select m (att512 (z512 K Q) P) (broadcast S512x256 (Scalar.ofBits (F := Ideal) .f32 0x00000000#32))) V A (ix3 0 r d)
        = AF q k v t b := by
  intro S P
  have hz : ∀ j : Fin 256, z512 K Q (ix2 r j) = zAt q (k (b + j.val)) := fun j => by
    rw [z512_apply]; simp only [hQ, hK]
  have hS : ∀ x : Fin 256, S (ix2 r x) = spm q k t (b + x.val) := fun x => by
    have h0 : S (ix2 r x) = Scalar.select (m (ix2 r x)) (sp512 (z512 K Q) (ix2 r x)) (Scalar.ofBits (F := Ideal) .f32 0x00000000#32) := rfl
    rw [h0, hm, sp512_apply, hz, spm]
    by_cases h : b + x.val < t
    · rw [if_pos h, if_pos h]; rfl
    · rw [if_neg h, if_neg h]; exact (if_neg (by decide)).trans (Ideal.ofBits_zero _)
  refine ⟨carry512_apply r hb hS hC l, acc512_apply r d hb (fun j => ?_) hV hA⟩
  have h0 : select m (att512 (z512 K Q) P) (broadcast S512x256 (Scalar.ofBits (F := Ideal) .f32 0x00000000#32)) (ix2 r j)
    = Scalar.select (m (ix2 r j)) (att512 (z512 K Q) P (ix2 r j)) (Scalar.ofBits (F := Ideal) .f32 0x00000000#32) := rfl
  have hP : P (ix2 r j) = CF q k t (b + j.val + 1) := after512_apply r hb hS hC j
  rw [h0, hm, att512_apply, hz, hP, attm]
  by_cases h : b + j.val < t
  · rw [if_pos h, if_pos h]; rfl
  · rw [if_neg h, if_neg h]; exact (if_neg (by decide)).trans (Ideal.ofBits_zero _)

/-- The sums past every position of the block: the softplus times the strict triangle, and the carry. -/
def after256 (S : FVec Ideal S256x256 .f32) (U : FVec Ideal S256x256 .bf16) (C : Vec Ideal S1x256x128 .f32) : FVec Ideal S256x256 .f32 :=
  addf (matmul dot_S256x256_S256x256_S256x256_1_0_0_1_n_n none (truncf .bf16 S bitsLt_bf16_f32) U (constant S256x256 .f32 0x00000000#32))
    (concatenate S256x256 1 [⟨S256x128, shapeCast S256x128 C shapeCasts_S1x256x128_S256x128⟩, ⟨S256x128, shapeCast S256x128 C shapeCasts_S1x256x128_S256x128⟩]
      concatenates_S256x128_S256x128_S256x256_d1)

/-- The accumulator with the block's weighted values added. -/
def acc256 (W : FVec Ideal S256x256 .f32) (V : FVec Ideal S256x64 .bf16) (A : Vec Ideal S1x256x64 .f32) : FVec Ideal S1x256x64 .f32 :=
  shapeCast S1x256x64 (addf (shapeCast S256x64 A shapeCasts_S1x256x64_S256x64)
    (matmul dot_S256x256_S256x64_S256x64_1_0_0_1_n_n none (truncf .bf16 W bitsLt_bf16_f32) V (constant S256x64 .f32 0x00000000#32)))
    shapeCasts_S256x64_S1x256x64

/-- The carry with the block's softplus added, the same in every lane. -/
def carry256 (S P : FVec Ideal S256x256 .f32) : FVec Ideal S1x256x128 .f32 :=
  shapeCast S1x256x128 (broadcastTo S256x128 (shapeCast S256x1 (addf (extractStridedSlice S256x1 ![0, 0] P slices_S256x256_o0_0_S256x1)
    (extractStridedSlice S256x1 ![0, 0] S slices_S256x256_o0_0_S256x1)) shapeCasts_S256x1_S256x1) broadcasts_S256x1_S256x128) shapeCasts_S256x128_S1x256x128

/-- Past position `j` of the block at `b`: the sum of the softplus from the next position on. -/
theorem after256_apply {S : FVec Ideal S256x256 .f32} {C : Vec Ideal S1x256x128 .f32} {q : Fin 64 → EReal}
    {k : ℕ → Fin 64 → EReal} {t b : ℕ} (r : Fin 256) (hb : b + 256 ≤ 2048) (hS : ∀ x : Fin 256, S (ix2 r x) = spm q k t (b + x.val))
    (hC : ∀ l : Fin 128, C (ix3 0 r l) = CF q k t (b + 256)) (j : Fin 256) :
    after256 S (k0_pay55 (F := Ideal)) C (ix2 r j) = CF q k t (b + j.val + 1) := by
  pointwise [after256]
  simp only [tri_apply, hS, hC, dite_eq_ite, ite_self]
  exact sum_suffix _ b hb j

/-- The carry after the block: the sum of the softplus from the block on. -/
theorem carry256_apply {S : FVec Ideal S256x256 .f32} {C : Vec Ideal S1x256x128 .f32} {q : Fin 64 → EReal}
    {k : ℕ → Fin 64 → EReal} {t b : ℕ} (r : Fin 256) (hb : b + 256 ≤ 2048) (hS : ∀ x : Fin 256, S (ix2 r x) = spm q k t (b + x.val))
    (hC : ∀ l : Fin 128, C (ix3 0 r l) = CF q k t (b + 256)) (l : Fin 128) :
    carry256 S (after256 S (k0_pay55 (F := Ideal)) C) (ix3 0 r l) = CF q k t b := by
  pointwise [carry256]
  rw [after256_apply r hb hS hC, hS]
  exact (add_comm _ _).trans (Finset.sum_eq_sum_Ico_succ_bot (show b < 2048 by omega) _).symm

/-- The accumulator after the block: the sum of the weighted values from the block on. -/
theorem acc256_apply {W : FVec Ideal S256x256 .f32} {V : FVec Ideal S256x64 .bf16} {A : Vec Ideal S1x256x64 .f32} {q : Fin 64 → EReal}
    {k : ℕ → Fin 64 → EReal} {v : ℕ → EReal} {t b : ℕ} (r : Fin 256) (d : Fin 64) (hb : b + 256 ≤ 2048)
    (hW : ∀ j : Fin 256, W (ix2 r j) = attm q k t (b + j.val)) (hV : ∀ j : Fin 256, V (ix2 j d) = v (b + j.val))
    (hA : A (ix3 0 r d) = AF q k v t (b + 256)) : acc256 W V A (ix3 0 r d) = AF q k v t b := by
  pointwise [acc256]
  simp only [hW, hV, hA]
  exact AF_block q k v t b hb

/-- The scores of the block's keys. -/
def z256 (K : Vec Ideal S1x256x64 .bf16) (Q : Vec Ideal S1x256x64 .bf16) : FVec Ideal S256x256 .f32 :=
  mulf (matmul dot_S256x64_S256x64_S256x256_1_1_0_0_n_n none (shapeCast S256x64 Q shapeCasts_S1x256x64_S256x64 : FVec Ideal S256x64 .bf16)
    (shapeCast S256x64 K shapeCasts_S1x256x64_S256x64 : FVec Ideal S256x64 .bf16) (constant S256x256 .f32 0x00000000#32))
    (broadcast S256x256 (Named.named (F := Ideal) κ "log2e" (φ := .f32) 0x3FB8AA3B#32))

/-- The softplus of the scores. -/
def sp256 (Z : FVec Ideal S256x256 .f32) : FVec Ideal S256x256 .f32 :=
  addf (maximumf Z (broadcast S256x256 (Scalar.ofBits .f32 0x00000000#32)))
    (mulf (log (addf (broadcast S256x256 (Scalar.ofBits .f32 0x3F800000#32))
      (exp2 (subf (broadcast S256x256 (Scalar.ofBits .f32 0x00000000#32)) (absf Z)))))
      (broadcast S256x256 (Named.named (F := Ideal) κ "log2e" (φ := .f32) 0x3FB8AA3B#32)))

/-- The weights of the block's positions. -/
def att256 (Z P : FVec Ideal S256x256 .f32) : FVec Ideal S256x256 .f32 := exp2 (subf (subf Z (sp256 Z)) P)

/-- The scaled score of a half query block at a row and a key: the product of the two rows in base two. -/
theorem z256_apply (K : Vec Ideal S1x256x64 .bf16) (Q : Vec Ideal S1x256x64 .bf16) (r : Fin 256) (j : Fin 256) :
    z256 K Q (ix2 r j) = zAt (fun d => Q (ix3 0 r d)) (fun d => K (ix3 0 j d)) := by
  pointwise [z256]
  rw [named_L2]; rfl

/-- The softplus of a half block is the scalar softplus of each entry. -/
theorem sp256_apply (Z : FVec Ideal S256x256 .f32) (r : Fin 256) (j : Fin 256) : sp256 Z (ix2 r j) = sp (Z (ix2 r j)) := by
  pointwise [sp256]
  rw [named_L2]; rfl

/-- The weights of a half block: two to the score less its softplus less what the later keys have taken. -/
theorem att256_apply (Z P : FVec Ideal S256x256 .f32) (r : Fin 256) (j : Fin 256) :
    att256 Z P (ix2 r j) = FloatOps.exp2 (F := Ideal) (φ := .f32) (Z (ix2 r j) - sp (Z (ix2 r j)) - P (ix2 r j)) := by
  pointwise [att256]
  rw [sp256_apply]

/-- A block whose positions are masked by `m`: its carry and its accumulator. -/
theorem block256_masked {m : IVec S256x256 1} {K : Vec Ideal S1x256x64 .bf16} {Q : Vec Ideal S1x256x64 .bf16}
    {C : Vec Ideal S1x256x128 .f32} {V : FVec Ideal S256x64 .bf16} {A : Vec Ideal S1x256x64 .f32} {q : Fin 64 → EReal}
    {k : ℕ → Fin 64 → EReal} {v : ℕ → EReal} {t b : ℕ} (r : Fin 256) (d : Fin 64) (l : Fin 128) (hb : b + 256 ≤ 2048)
    (hm : ∀ j : Fin 256, m (ix2 r j) = if b + j.val < t then 1#1 else 0#1)
    (hQ : ∀ d, Q (ix3 0 r d) = q d) (hK : ∀ (j : Fin 256) d, K (ix3 0 j d) = k (b + j.val) d)
    (hC : ∀ l : Fin 128, C (ix3 0 r l) = CF q k t (b + 256)) (hV : ∀ j : Fin 256, V (ix2 j d) = v (b + j.val))
    (hA : A (ix3 0 r d) = AF q k v t (b + 256)) :
    let S := select m (sp256 (z256 K Q)) (broadcast S256x256 (Scalar.ofBits (F := Ideal) .f32 0x00000000#32))
    let P := after256 S (k0_pay55 (F := Ideal)) C
    carry256 S P (ix3 0 r l) = CF q k t b
      ∧ acc256 (select m (att256 (z256 K Q) P) (broadcast S256x256 (Scalar.ofBits (F := Ideal) .f32 0x00000000#32))) V A (ix3 0 r d)
        = AF q k v t b := by
  intro S P
  have hz : ∀ j : Fin 256, z256 K Q (ix2 r j) = zAt q (k (b + j.val)) := fun j => by
    rw [z256_apply]; simp only [hQ, hK]
  have hS : ∀ x : Fin 256, S (ix2 r x) = spm q k t (b + x.val) := fun x => by
    have h0 : S (ix2 r x) = Scalar.select (m (ix2 r x)) (sp256 (z256 K Q) (ix2 r x)) (Scalar.ofBits (F := Ideal) .f32 0x00000000#32) := rfl
    rw [h0, hm, sp256_apply, hz, spm]
    by_cases h : b + x.val < t
    · rw [if_pos h, if_pos h]; rfl
    · rw [if_neg h, if_neg h]; exact (if_neg (by decide)).trans (Ideal.ofBits_zero _)
  refine ⟨carry256_apply r hb hS hC l, acc256_apply r d hb (fun j => ?_) hV hA⟩
  have h0 : select m (att256 (z256 K Q) P) (broadcast S256x256 (Scalar.ofBits (F := Ideal) .f32 0x00000000#32)) (ix2 r j)
    = Scalar.select (m (ix2 r j)) (att256 (z256 K Q) P (ix2 r j)) (Scalar.ofBits (F := Ideal) .f32 0x00000000#32) := rfl
  have hP : P (ix2 r j) = CF q k t (b + j.val + 1) := after256_apply r hb hS hC j
  rw [h0, hm, att256_apply, hz, hP, attm]
  by_cases h : b + j.val < t
  · rw [if_pos h, if_pos h]; rfl
  · rw [if_neg h, if_neg h]; exact (if_neg (by decide)).trans (Ideal.ofBits_zero _)

/-- A block all of whose positions come before the row's own: no mask. -/
theorem block512_open {K : Vec Ideal S1x256x64 .bf16} {Q : Vec Ideal S1x512x64 .bf16}
    {C : Vec Ideal S1x512x128 .f32} {V : FVec Ideal S256x64 .bf16} {A : Vec Ideal S1x512x64 .f32} {q : Fin 64 → EReal}
    {k : ℕ → Fin 64 → EReal} {v : ℕ → EReal} {t b : ℕ} (r : Fin 512) (d : Fin 64) (l : Fin 128) (hb : b + 256 ≤ 2048)
    (hm : b + 256 ≤ t)
    (hQ : ∀ d, Q (ix3 0 r d) = q d) (hK : ∀ (j : Fin 256) d, K (ix3 0 j d) = k (b + j.val) d)
    (hC : ∀ l : Fin 128, C (ix3 0 r l) = CF q k t (b + 256)) (hV : ∀ j : Fin 256, V (ix2 j d) = v (b + j.val))
    (hA : A (ix3 0 r d) = AF q k v t (b + 256)) :
    let S := sp512 (z512 K Q)
    let P := after512 S (k0_pay55 (F := Ideal)) C
    carry512 S P (ix3 0 r l) = CF q k t b ∧ acc512 (att512 (z512 K Q) P) V A (ix3 0 r d) = AF q k v t b := by
  intro S P
  have hz : ∀ j : Fin 256, z512 K Q (ix2 r j) = zAt q (k (b + j.val)) := fun j => by
    rw [z512_apply]; simp only [hQ, hK]
  have hS : ∀ x : Fin 256, S (ix2 r x) = spm q k t (b + x.val) := fun x => by
    rw [show S = sp512 (z512 K Q) from rfl, sp512_apply, hz, spm, if_pos (by omega)]
  refine ⟨carry512_apply r hb hS hC l, acc512_apply r d hb (fun j => ?_) hV hA⟩
  have hP : P (ix2 r j) = CF q k t (b + j.val + 1) := after512_apply r hb hS hC j
  rw [att512_apply, hz, hP, attm, if_pos (by omega)]

end Cert.KernelIdeal.Att
end
-- ==== Proof.Trip.lean ====
/- One trip of the loop over the key blocks: from the sums past two blocks, the sums from their first position on,
   and from there all trips. -/
module

public import proofs.«01_k».proof.Proof.Gen.KernelIdeal.Loops
public import proofs.«01_k».proof.Proof.Pay
public import Idealize.ShloMosaic.Lib.WritesUnit
public import Idealize.ShloMosaic.Lib.Pipeline.ReadBack

@[expose] public section

set_option maxRecDepth 16384
noncomputable section

namespace Cert.KernelIdeal.Att

open Idealize.ShloMosaic Idealize.ShloMosaic.Tactic Cert.KernelIdeal Cert.KernelIdeal.Gen Cert.Stick
open Idealize.SL.Sem

/-- The carry of a head after an open block with keys `K`. -/
def updC (U : FVec Ideal S256x256 .bf16) (K : Vec Ideal S1x256x64 .bf16) (Q : Vec Ideal S1x512x64 .bf16)
    (C : Vec Ideal S1x512x128 .f32) : FVec Ideal S1x512x128 .f32 :=
  carry512 (sp512 (z512 K Q)) (after512 (sp512 (z512 K Q)) U C)

/-- The accumulator of a head after an open block with keys `K` and values `V`. -/
def updA (U : FVec Ideal S256x256 .bf16) (K V : Vec Ideal S1x256x64 .bf16) (Q : Vec Ideal S1x512x64 .bf16)
    (C : Vec Ideal S1x512x128 .f32) (A : Vec Ideal S1x512x64 .f32) : FVec Ideal S1x512x64 .f32 :=
  acc512 (att512 (z512 K Q) (after512 (sp512 (z512 K Q)) U C)) (shapeCast S256x64 V shapeCasts_S1x256x64_S256x64) A

variable (𝒱 : Variants) (c : Dev nD) (bd : Option 𝒱.V) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .bf16) (harg6 : arg6.IsWhole) (arg7 : Memref sig .tc .vmem S2x512x64 .f32) (harg7 : arg7.IsWhole) (arg8 : Memref sig .tc .vmem S2x512x128 .f32) (harg8 : arg8.IsWhole) (arg2 : BitVec 32) (v13 : FVec Ideal S256x256 .bf16) (X3 : BufTy.Contents (Elt Ideal) arg3.view.ty) (X4 : BufTy.Contents (Elt Ideal) arg4.view.ty) (X5 : BufTy.Contents (Elt Ideal) arg5.view.ty)

/-- The whole of head `h` of the carries. -/
abbrev rC (h : Nat) (inb : ∀ a, (![h, 0, 0] : Fin 3 → ℕ) a + S1x512x128.size a ≤ S2x512x128.size a) : Rect S2x512x128 :=
  Rect.unit ![h, 0, 0] S1x512x128.size inb

/-- The whole of head `h` of the accumulators. -/
abbrev rA (h : Nat) (inb : ∀ a, (![h, 0, 0] : Fin 3 → ℕ) a + S1x512x64.size a ≤ S2x512x64.size a) : Rect S2x512x64 :=
  Rect.unit ![h, 0, 0] S1x512x64.size inb

/-- A block of keys or values as loaded. -/
abbrev ldB (m : Memref sig .tc .vmem S1x2048x128 .bf16) (X : BufTy.Contents (Elt Ideal) m.view.ty) (off : Fin 3 → ℕ)
    (h : ∀ a, off a + S1x256x64.size a ≤ S1x2048x128.size a) : Vec Ideal S1x256x64 .bf16 :=
  View.readAt (Elt Ideal) m.view (Rect.unit (s := S1x2048x128) off S1x256x64.size h).toLoadRect X

/-- The queries of a head as loaded. -/
abbrev ldQ (m : Memref sig .tc .vmem S1x512x128 .bf16) (X : BufTy.Contents (Elt Ideal) m.view.ty) (off : Fin 3 → ℕ)
    (h : ∀ a, off a + S1x512x64.size a ≤ S1x512x128.size a) : Vec Ideal S1x512x64 .bf16 :=
  View.readAt (Elt Ideal) m.view (Rect.unit (s := S1x512x128) off S1x512x64.size h).toLoadRect X

/-- What a trip writes to the accumulators: each head over its two blocks in turn. -/
theorem trip_acc (k : Fin (k0_t1_loop i).trips) (f7 : BufTy.Contents (Elt Ideal) arg7.view.ty) (f8 : BufTy.Contents (Elt Ideal) arg8.view.ty) :
    let Q0 := ldQ arg3 X3 ![0,0,0] (by decide)
    let Q1 := ldQ arg3 X3 ![0,0,64] (by decide)
    let C0 := View.readAt (Elt Ideal) arg8.view (rC 0 (by decide)).toLoadRect f8
    let C1 := View.readAt (Elt Ideal) arg8.view (rC 1 (by decide)).toLoadRect f8
    let A0 := View.readAt (Elt Ideal) arg7.view (rA 0 (by decide)).toLoadRect f7
    let A1 := View.readAt (Elt Ideal) arg7.view (rA 1 (by decide)).toLoadRect f7
    let K00 := ldB arg4 X4 (k0_off3 i k 0#32) (k0_off3_inb i k 0)
    let K01 := ldB arg4 X4 (k0_off4 i k 0#32) (k0_off4_inb i k 0)
    let V00 := ldB arg5 X5 (k0_off3 i k 0#32) (k0_off3_inb i k 0)
    let V01 := ldB arg5 X5 (k0_off4 i k 0#32) (k0_off4_inb i k 0)
    (trip_k0_t1 (F := Ideal) 𝒱 c bd i arg3 harg3 arg4 harg4 arg5 harg5 arg6 harg6 arg7 harg7 arg8 harg8 (BitVec.ofNat 32 (i 2).val) v13 X3 X4 X5 k).1 f7 f8 =
    [⟨rA 1 (by decide), updA v13 (ldB arg4 X4 (k0_off4 i k 1#32) (k0_off4_inb i k 1)) (ldB arg5 X5 (k0_off4 i k 1#32) (k0_off4_inb i k 1)) Q1
        (updC v13 K01 Q1 C1) (updA v13 K01 V01 Q1 C1 A1)⟩,
     ⟨rA 0 (by decide), updA v13 (ldB arg4 X4 (k0_off3 i k 1#32) (k0_off3_inb i k 1)) (ldB arg5 X5 (k0_off3 i k 1#32) (k0_off3_inb i k 1)) Q0
        (updC v13 K00 Q0 C0) (updA v13 K00 V00 Q0 C0 A0)⟩,
     ⟨rA 1 (by decide), updA v13 K01 V01 Q1 C1 A1⟩, ⟨rA 0 (by decide), updA v13 K00 V00 Q0 C0 A0⟩] := by
  intro Q0 Q1 C0 C1 A0 A1 K00 K01 V00 V01
  unfold trip_k0_t1
  dsimp only
  sl_unfold_words
  rw [View.readCov_skip, View.readCov_cons_toLoadRect, View.readCov_skip, View.readCov_cons_toLoadRect, View.readCov_skip,
    View.readCov_cons_toLoadRect, View.readCov_skip, View.readCov_cons_toLoadRect]
  · rfl
  all_goals decide

/-- What a trip writes to the carries: each head over its two blocks in turn. -/
theorem trip_carry (k : Fin (k0_t1_loop i).trips) (f7 : BufTy.Contents (Elt Ideal) arg7.view.ty) (f8 : BufTy.Contents (Elt Ideal) arg8.view.ty) :
    let Q0 := ldQ arg3 X3 ![0,0,0] (by decide)
    let Q1 := ldQ arg3 X3 ![0,0,64] (by decide)
    let C0 := View.readAt (Elt Ideal) arg8.view (rC 0 (by decide)).toLoadRect f8
    let C1 := View.readAt (Elt Ideal) arg8.view (rC 1 (by decide)).toLoadRect f8
    let C0' := updC v13 (ldB arg4 X4 (k0_off3 i k 0#32) (k0_off3_inb i k 0)) Q0 C0
    let C1' := updC v13 (ldB arg4 X4 (k0_off4 i k 0#32) (k0_off4_inb i k 0)) Q1 C1
    (trip_k0_t1 (F := Ideal) 𝒱 c bd i arg3 harg3 arg4 harg4 arg5 harg5 arg6 harg6 arg7 harg7 arg8 harg8 (BitVec.ofNat 32 (i 2).val) v13 X3 X4 X5 k).2.1 f7 f8 =
    [⟨rC 1 (by decide), updC v13 (ldB arg4 X4 (k0_off4 i k 1#32) (k0_off4_inb i k 1)) Q1 C1'⟩,
     ⟨rC 0 (by decide), updC v13 (ldB arg4 X4 (k0_off3 i k 1#32) (k0_off3_inb i k 1)) Q0 C0'⟩,
     ⟨rC 1 (by decide), C1'⟩, ⟨rC 0 (by decide), C0'⟩] := by
  intro Q0 Q1 C0 C1 C0' C1'
  unfold trip_k0_t1
  dsimp only
  sl_unfold_words
  rw [View.readCov_skip, View.readCov_cons_toLoadRect, View.readCov_skip, View.readCov_cons_toLoadRect]
  · rfl
  all_goals decide

end Cert.KernelIdeal.Att
end
-- ==== Proof.Loop.lean ====
/- The loop over the key blocks at an index: where its loads lie, what one trip makes of the sums, and what all its
   trips leave. -/
module

public import proofs.«01_k».proof.Proof.Trip

@[expose] public section

set_option maxRecDepth 16384
noncomputable section

namespace Cert.KernelIdeal.Att

open Idealize.ShloMosaic Idealize.ShloMosaic.Tactic Cert.KernelIdeal Cert.KernelIdeal.Gen Cert.Stick
open Idealize.SL.Sem

/-- The lane of coordinate `d` of head `h` of a pair. -/
abbrev lane (h : Fin 2) (d : Fin 64) : Fin 128 := ⟨64 * h.val + d.val, by omega⟩

/-- Row `s` of head `h` of the keys (or the values) a buffer holds. -/
def rowOf (m : Memref sig .tc .vmem S1x2048x128 .bf16) (X : BufTy.Contents (Elt Ideal) m.view.ty) (h : Fin 2) (s : ℕ) (d : Fin 64) : EReal :=
  if hs : s < 2048 then m.view.read (Elt Ideal) X (ix3 0 ⟨s, hs⟩ (lane h d)) else 0

/-- Query row `r` of head `h` a buffer holds. -/
def qOf (m : Memref sig .tc .vmem S1x512x128 .bf16) (X : BufTy.Contents (Elt Ideal) m.view.ty) (h : Fin 2) (r : Fin 512) (d : Fin 64) : EReal :=
  m.view.read (Elt Ideal) X (ix3 0 r (lane h d))

/-- A load of a block of rows of a head reads those rows. -/
theorem ldB_apply (m : Memref sig .tc .vmem S1x2048x128 .bf16) (X : BufTy.Contents (Elt Ideal) m.view.ty) {off : Fin 3 → ℕ}
    (inb : ∀ a, off a + S1x256x64.size a ≤ S1x2048x128.size a) {h : Fin 2} {b : ℕ} (hb : b + 256 ≤ 2048)
    (hoff : off = ![0, b, 64 * h.val]) (j : Fin 256) (d : Fin 64) : ldB m X off inb (ix3 0 j d) = rowOf m X h (b + j.val) d := by
  subst hoff
  rw [rowOf, dif_pos (by omega)]
  refine congrArg (m.view.read (Elt Ideal) X) (funext fun a => Fin.ext ?_)
  fin_cases a
  · rfl
  · show b + 1 * j.val = b + j.val
    rw [one_mul]
  · show 64 * h.val + 1 * d.val = 64 * h.val + d.val
    rw [one_mul]

/-- A load of all query rows of a head reads them. -/
theorem ldQ_apply (m : Memref sig .tc .vmem S1x512x128 .bf16) (X : BufTy.Contents (Elt Ideal) m.view.ty) {off : Fin 3 → ℕ}
    (inb : ∀ a, off a + S1x512x64.size a ≤ S1x512x128.size a) {h : Fin 2} (hoff : off = ![0, 0, 64 * h.val]) (r : Fin 512) (d : Fin 64) :
    ldQ m X off inb (ix3 0 r d) = qOf m X h r d := by
  subst hoff
  refine congrArg (m.view.read (Elt Ideal) X) (funext fun a => Fin.ext ?_)
  fin_cases a
  · rfl
  · show 0 + 1 * r.val = r.val
    rw [one_mul, zero_add]
  · show 64 * h.val + 1 * d.val = 64 * h.val + d.val
    rw [one_mul]

/-- The loop runs once per query block before the row's own. -/
theorem trips1 : ∀ i : grid0.Coords, (k0_t1_loop i).trips = (i 2).val := by decide +kernel

/-- The rest of the loop never runs. -/
theorem trips2 : ∀ i : grid0.Coords, (k0_t2_loop i).trips = 0 := by decide +kernel

/-- Where a trip's blocks of the first head lie. -/
theorem off3_eq : ∀ (i : grid0.Coords) (k : Fin (k0_t1_loop i).trips) (r : Fin 2),
    k0_off3 i k (BitVec.ofNat 32 r.val) = ![0, ((i 2).val - k.val) * 512 - 256 - 256 * r.val, 0] := by decide +kernel

/-- Where a trip's blocks of the second head lie. -/
theorem off4_eq : ∀ (i : grid0.Coords) (k : Fin (k0_t1_loop i).trips) (r : Fin 2),
    k0_off4 i k (BitVec.ofNat 32 r.val) = ![0, ((i 2).val - k.val) * 512 - 256 - 256 * r.val, 64] := by decide +kernel

/-- One open block of a head: from the sums past it to the sums from its first position on. -/
theorem upd_apply (m4 m5 : Memref sig .tc .vmem S1x2048x128 .bf16) (X4 : BufTy.Contents (Elt Ideal) m4.view.ty)
    (X5 : BufTy.Contents (Elt Ideal) m5.view.ty) {off : Fin 3 → ℕ} (inb : ∀ a, off a + S1x256x64.size a ≤ S1x2048x128.size a)
    {h : Fin 2} {b t : ℕ} (hb : b + 256 ≤ 2048) (hoff : off = ![0, b, 64 * h.val]) (hm : b + 256 ≤ t)
    {Q : Vec Ideal S1x512x64 .bf16} {C : Vec Ideal S1x512x128 .f32} {A : Vec Ideal S1x512x64 .f32} {q : Fin 64 → EReal} (r : Fin 512)
    (hQ : ∀ d, Q (ix3 0 r d) = q d) (hC : ∀ l, C (ix3 0 r l) = CF q (rowOf m4 X4 h) t (b + 256))
    (hA : ∀ d, A (ix3 0 r d) = AF q (rowOf m4 X4 h) (fun s => rowOf m5 X5 h s d) t (b + 256)) :
    (∀ l, updC (k0_pay55 (F := Ideal)) (ldB m4 X4 off inb) Q C (ix3 0 r l) = CF q (rowOf m4 X4 h) t b)
    ∧ ∀ d, updA (k0_pay55 (F := Ideal)) (ldB m4 X4 off inb) (ldB m5 X5 off inb) Q C A (ix3 0 r d)
        = AF q (rowOf m4 X4 h) (fun s => rowOf m5 X5 h s d) t b := by
  have key := fun l d => block512_open (V := shapeCast S256x64 (ldB m5 X5 off inb) shapeCasts_S1x256x64_S256x64) r d l hb hm hQ
    (ldB_apply m4 X4 inb hb hoff) hC (v := fun s => rowOf m5 X5 h s d)
    (fun j => by
      rw [← ldB_apply m5 X5 inb hb hoff]
      pointwise []) (hA d)
  exact ⟨fun l => (key l 0).1, fun d => (key 0 d).2⟩

/-- A row a store to head `h` covers reads the store. -/
theorem read_in {n o m : ℕ} (v : View sig .tc .vmem (⟨3, ![2, 512, n]⟩ : Shape) .f32) (f : v.ty.Contents (Elt Ideal)) (h : ℕ) (h' : Fin 2)
    (inb : ∀ a, (![h, o, 0] : Fin 3 → ℕ) a + (![1, m, n] : Fin 3 → ℕ) a ≤ (![2, 512, n] : Fin 3 → ℕ) a)
    (w : Vec Ideal (⟨3, ![1, m, n]⟩ : Shape) .f32) (L : List (View.Piece (Elt Ideal) (⟨3, ![2, 512, n]⟩ : Shape) .f32)) (hh : h = h'.val)
    (r : Fin 512) (r' : Fin m) (hr : r.val = o + r'.val) (l : Fin n) :
    v.read (Elt Ideal) (v.writes (Elt Ideal) f (⟨Rect.unit (s := ⟨3, ![2, 512, n]⟩) ![h, o, 0] ![1, m, n] inb, w⟩ :: L)) (ix3 h' r l)
      = w (ix3 0 r' l) := by
  subst hh
  refine View.read_writes_cons_unit_of_mem (off' := ![h'.val, o, 0]) (size := ![1, m, n]) v f inb w L (ix3 h' r l) (ix3 0 r' l) rfl fun a => ?_
  fin_cases a
  · rfl
  · exact hr
  · exact (Nat.zero_add _).symm

/-- A row a store to head `h` does not cover reads what was there. -/
theorem read_out {n o m : ℕ} (v : View sig .tc .vmem (⟨3, ![2, 512, n]⟩ : Shape) .f32) (f : v.ty.Contents (Elt Ideal)) (h : ℕ) (h' : Fin 2)
    (inb : ∀ a, (![h, o, 0] : Fin 3 → ℕ) a + (![1, m, n] : Fin 3 → ℕ) a ≤ (![2, 512, n] : Fin 3 → ℕ) a)
    (w : Vec Ideal (⟨3, ![1, m, n]⟩ : Shape) .f32) (L : List (View.Piece (Elt Ideal) (⟨3, ![2, 512, n]⟩ : Shape) .f32))
    (r : Fin 512) (hr : h ≠ h'.val ∨ r.val < o) (l : Fin n) :
    v.read (Elt Ideal) (v.writes (Elt Ideal) f (⟨Rect.unit (s := ⟨3, ![2, 512, n]⟩) ![h, o, 0] ![1, m, n] inb, w⟩ :: L)) (ix3 h' r l)
      = v.read (Elt Ideal) (v.writes (Elt Ideal) f L) (ix3 h' r l) := by
  rcases hr with hr | hr
  · refine View.read_writes_cons_unit_of_not_mem (off' := ![h, o, 0]) (size := ![1, m, n]) v f inb w L (ix3 h' r l) rfl 0 ?_
    show h'.val < h ∨ h + 1 ≤ h'.val
    omega
  · exact View.read_writes_cons_unit_of_not_mem (off' := ![h, o, 0]) (size := ![1, m, n]) v f inb w L (ix3 h' r l) rfl 1 (Or.inl hr)

/-- After a store of each head, a head reads its own store. -/
theorem read_heads {n : ℕ} (v : View sig .tc .vmem (⟨3, ![2, 512, n]⟩ : Shape) .f32) (f : v.ty.Contents (Elt Ideal)) (i1 i0)
    (w1 w0 : Vec Ideal (⟨3, ![1, 512, n]⟩ : Shape) .f32) (L : List (View.Piece (Elt Ideal) (⟨3, ![2, 512, n]⟩ : Shape) .f32)) (h : Fin 2) (r : Fin 512) (l : Fin n) :
    v.read (Elt Ideal) (v.writes (Elt Ideal) f (⟨Rect.unit (s := ⟨3, ![2, 512, n]⟩) ![1, 0, 0] ![1, 512, n] i1, w1⟩
        :: ⟨Rect.unit (s := ⟨3, ![2, 512, n]⟩) ![0, 0, 0] ![1, 512, n] i0, w0⟩ :: L)) (ix3 h r l)
      = if h = 0 then w0 (ix3 0 r l) else w1 (ix3 0 r l) := by
  fin_cases h
  · refine (read_out (o := 0) (m := 512) v f 1 0 i1 w1 _ r (Or.inl Nat.one_ne_zero) l).trans ?_
    exact read_in (o := 0) (m := 512) v f 0 0 i0 w0 L rfl r r (Nat.zero_add _).symm l
  · exact read_in (o := 0) (m := 512) v f 1 1 i1 w1 _ rfl r r (Nat.zero_add _).symm l

/-- A load of rows of a head reads them. -/
theorem ld_head {n o m : ℕ} (v : View sig .tc .vmem (⟨3, ![2, 512, n]⟩ : Shape) .f32) (f : v.ty.Contents (Elt Ideal)) (h : ℕ) (h' : Fin 2)
    (inb : ∀ a, (![h, o, 0] : Fin 3 → ℕ) a + (![1, m, n] : Fin 3 → ℕ) a ≤ (![2, 512, n] : Fin 3 → ℕ) a) (hh : h = h'.val)
    (r : Fin 512) (r' : Fin m) (hr : r.val = o + r'.val) (l : Fin n) :
    View.readAt (Elt Ideal) v (Rect.unit (s := ⟨3, ![2, 512, n]⟩) ![h, o, 0] ![1, m, n] inb).toLoadRect f (ix3 0 r' l)
      = v.read (Elt Ideal) f (ix3 h' r l) := by
  subst hh
  refine congrArg (v.read (Elt Ideal) f) (funext fun a => Fin.ext ?_)
  fin_cases a
  · rfl
  · show o + 1 * r'.val = r.val
    rw [one_mul, hr]
  · show 0 + 1 * l.val = l.val
    rw [one_mul, zero_add]

variable (𝒱 : Variants) (c : Dev nD) (bd : Option 𝒱.V) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .bf16) (harg6 : arg6.IsWhole) (arg7 : Memref sig .tc .vmem S2x512x64 .f32) (harg7 : arg7.IsWhole) (arg8 : Memref sig .tc .vmem S2x512x128 .f32) (harg8 : arg8.IsWhole) (X3 : BufTy.Contents (Elt Ideal) arg3.view.ty) (X4 : BufTy.Contents (Elt Ideal) arg4.view.ty) (X5 : BufTy.Contents (Elt Ideal) arg5.view.ty)

/-- The two scratch buffers hold, for every row of the block of queries at `T` and both heads, the sums from `lo` on. -/
def Inv (f7 : BufTy.Contents (Elt Ideal) arg7.view.ty) (f8 : BufTy.Contents (Elt Ideal) arg8.view.ty) (T lo : ℕ) : Prop :=
  ∀ (h : Fin 2) (r : Fin 512),
    (∀ l, arg8.view.read (Elt Ideal) f8 (ix3 h r l) = CF (qOf arg3 X3 h r) (rowOf arg4 X4 h) (T + r.val) lo)
    ∧ ∀ d, arg7.view.read (Elt Ideal) f7 (ix3 h r d) = AF (qOf arg3 X3 h r) (rowOf arg4 X4 h) (fun s => rowOf arg5 X5 h s d) (T + r.val) lo

/-- The position a trip starts from. -/
theorem trip_lt (k : Fin (k0_t1_loop i).trips) : k.val < (i 2).val ∧ (i 2).val < 4 :=
  ⟨trips1 i ▸ k.isLt, (i 2).isLt⟩

/-- One trip moves the sums down by its two blocks. -/
theorem trip_inv (k : Fin (k0_t1_loop i).trips) (f7 : BufTy.Contents (Elt Ideal) arg7.view.ty) (f8 : BufTy.Contents (Elt Ideal) arg8.view.ty)
    (H : Inv arg3 arg4 arg5 arg7 arg8 X3 X4 X5 f7 f8 ((i 2).val * 512) (((i 2).val - k.val) * 512)) :
    Inv arg3 arg4 arg5 arg7 arg8 X3 X4 X5
      (arg7.view.writes (Elt Ideal) f7 ((trip_k0_t1 (F := Ideal) 𝒱 c bd i arg3 harg3 arg4 harg4 arg5 harg5 arg6 harg6 arg7 harg7 arg8 harg8 (BitVec.ofNat 32 (i 2).val) (k0_pay55 (F := Ideal)) X3 X4 X5 k).1 f7 f8))
      (arg8.view.writes (Elt Ideal) f8 ((trip_k0_t1 (F := Ideal) 𝒱 c bd i arg3 harg3 arg4 harg4 arg5 harg5 arg6 harg6 arg7 harg7 arg8 harg8 (BitVec.ofNat 32 (i 2).val) (k0_pay55 (F := Ideal)) X3 X4 X5 k).2.1 f7 f8))
      ((i 2).val * 512) (((i 2).val - (k.val + 1)) * 512) := by
  obtain ⟨hk, hi⟩ := trip_lt i k
  rw [trip_carry, trip_acc]
  intro h r
  obtain ⟨H8, H7⟩ := H h r
  have e1 : ((i 2).val - k.val) * 512 = (((i 2).val - k.val) * 512 - 256) + 256 := by omega
  have e2 : ((i 2).val - k.val) * 512 - 256 = ((i 2).val - (k.val + 1)) * 512 + 256 := by omega
  have e3 : ((i 2).val - k.val) * 512 - 256 - 256 * (1 : Fin 2).val = ((i 2).val - (k.val + 1)) * 512 := by
    rw [show (1 : Fin 2).val = 1 from rfl]; omega
  rw [e1] at H8 H7
  rcases (by omega : h = 0 ∨ h = 1) with rfl | rfl
  · have s1 := upd_apply arg4 arg5 X4 X5 (k0_off3_inb i k 0) (h := 0) (t := (i 2).val * 512 + r.val) (by omega) (off3_eq i k 0) (by omega) r
      (ldQ_apply arg3 X3 (h := 0) (by decide) rfl r) (fun l => (ld_head (o := 0) arg8.view f8 0 0 (by decide) rfl r r (Nat.zero_add _).symm l).trans (H8 l))
      (fun l => (ld_head (o := 0) arg7.view f7 0 0 (by decide) rfl r r (Nat.zero_add _).symm l).trans (H7 l))
    rw [e2] at s1
    have s2 := upd_apply arg4 arg5 X4 X5 (k0_off3_inb i k 1) (h := 0) (t := (i 2).val * 512 + r.val) (by omega)
      ((off3_eq i k 1).trans (by rw [e3]; rfl)) (by omega) r (ldQ_apply arg3 X3 (h := 0) (by decide) rfl r) s1.1 s1.2
    exact ⟨fun l => (read_heads arg8.view f8 _ _ _ _ _ 0 r l).trans (s2.1 l), fun l => (read_heads arg7.view f7 _ _ _ _ _ 0 r l).trans (s2.2 l)⟩
  · have s1 := upd_apply arg4 arg5 X4 X5 (k0_off4_inb i k 0) (h := 1) (t := (i 2).val * 512 + r.val) (by omega) (off4_eq i k 0) (by omega) r
      (ldQ_apply arg3 X3 (h := 1) (by decide) rfl r) (fun l => (ld_head (o := 0) arg8.view f8 1 1 (by decide) rfl r r (Nat.zero_add _).symm l).trans (H8 l))
      (fun l => (ld_head (o := 0) arg7.view f7 1 1 (by decide) rfl r r (Nat.zero_add _).symm l).trans (H7 l))
    rw [e2] at s1
    have s2 := upd_apply arg4 arg5 X4 X5 (k0_off4_inb i k 1) (h := 1) (t := (i 2).val * 512 + r.val) (by omega)
      ((off4_eq i k 1).trans (by rw [e3]; rfl)) (by omega) r (ldQ_apply arg3 X3 (h := 1) (by decide) rfl r) s1.1 s1.2
    exact ⟨fun l => (read_heads arg8.view f8 _ _ _ _ _ 1 r l).trans (s2.1 l), fun l => (read_heads arg7.view f7 _ _ _ _ _ 1 r l).trans (s2.2 l)⟩

/-- The loop, from the sums past the query block's own positions to the whole sums. -/
theorem loop_inv (f7 : BufTy.Contents (Elt Ideal) arg7.view.ty) (f8 : BufTy.Contents (Elt Ideal) arg8.view.ty)
    (H : Inv arg3 arg4 arg5 arg7 arg8 X3 X4 X5 f7 f8 ((i 2).val * 512) ((i 2).val * 512)) (n : ℕ) (hn : n ≤ (k0_t1_loop i).trips) :
    let p := pb_k0_t1 (F := Ideal) 𝒱 c bd i arg3 harg3 arg4 harg4 arg5 harg5 arg6 harg6 arg7 harg7 arg8 harg8 (BitVec.ofNat 32 (i 2).val) (k0_pay55 (F := Ideal)) X3 X4 X5 f7 f8 n
    Inv arg3 arg4 arg5 arg7 arg8 X3 X4 X5 (arg7.view.writes (Elt Ideal) f7 p.1) (arg8.view.writes (Elt Ideal) f8 p.2)
      ((i 2).val * 512) (((i 2).val - n) * 512) := by
  induction n with
  | zero => exact H
  | succ n ih =>
    have h := trip_inv 𝒱 c bd i arg3 harg3 arg4 harg4 arg5 harg5 arg6 harg6 arg7 harg7 arg8 harg8 X3 X4 X5 ⟨n, hn⟩ _ _ (ih (Nat.le_of_lt hn))
    rw [← View.writes_append, ← View.writes_append] at h
    intro p
    rw [show p = _ from pb_k0_t1_succ 𝒱 c bd i arg3 harg3 arg4 harg4 arg5 harg5 arg6 harg6 arg7 harg7 arg8 harg8 (BitVec.ofNat 32 (i 2).val) (k0_pay55 (F := Ideal)) X3 X4 X5 f7 f8 ⟨n, hn⟩]
    exact h

end Cert.KernelIdeal.Att
end
-- ==== Proof.Prologue.lean ====
/- The two blocks on the diagonal, before the loop: from empty sums to the sums from the first position of the
   query block on. -/
module

public import proofs.«01_k».proof.Proof.Loop
public import proofs.«01_k».proof.Proof.Gen.KernelIdeal.Frame

@[expose] public section

set_option maxRecDepth 16384
noncomputable section

namespace Cert.KernelIdeal.Att

open Idealize.ShloMosaic Idealize.ShloMosaic.Tactic Cert.KernelIdeal Cert.KernelIdeal.Gen Cert.Stick
open Idealize.SL.Sem

/-- The softplus of the upper block on the diagonal, nothing where the mask is not set. -/
def lateS (K Q : Vec Ideal S1x256x64 .bf16) : FVec Ideal S256x256 .f32 :=
  select k0_pay53 (sp256 (z256 K Q)) (broadcast S256x256 (Scalar.ofBits (F := Ideal) .f32 0x00000000#32))

/-- The carry of a head's later rows after the later block on the diagonal. -/
def lateC (K Q : Vec Ideal S1x256x64 .bf16) (C : Vec Ideal S1x256x128 .f32) : FVec Ideal S1x256x128 .f32 :=
  carry256 (lateS K Q) (after256 (lateS K Q) (k0_pay55 (F := Ideal)) C)

/-- The accumulator of a head's later rows after the later block on the diagonal. -/
def lateA (K V Q : Vec Ideal S1x256x64 .bf16) (C : Vec Ideal S1x256x128 .f32) (A : Vec Ideal S1x256x64 .f32) : FVec Ideal S1x256x64 .f32 :=
  acc256 (select k0_pay53 (att256 (z256 K Q) (after256 (lateS K Q) (k0_pay55 (F := Ideal)) C))
    (broadcast S256x256 (Scalar.ofBits (F := Ideal) .f32 0x00000000#32))) (shapeCast S256x64 V shapeCasts_S1x256x64_S256x64) A

/-- The softplus of the earlier block on the diagonal, nothing where the mask is not set. -/
def earlyS (K : Vec Ideal S1x256x64 .bf16) (Q : Vec Ideal S1x512x64 .bf16) : FVec Ideal S512x256 .f32 :=
  select k0_pay54 (sp512 (z512 K Q)) (broadcast S512x256 (Scalar.ofBits (F := Ideal) .f32 0x00000000#32))

/-- The carry of a head after the earlier block on the diagonal. -/
def earlyC (K : Vec Ideal S1x256x64 .bf16) (Q : Vec Ideal S1x512x64 .bf16) (C : Vec Ideal S1x512x128 .f32) : FVec Ideal S1x512x128 .f32 :=
  carry512 (earlyS K Q) (after512 (earlyS K Q) (k0_pay55 (F := Ideal)) C)

/-- The accumulator of a head after the earlier block on the diagonal. -/
def earlyA (K V : Vec Ideal S1x256x64 .bf16) (Q : Vec Ideal S1x512x64 .bf16) (C : Vec Ideal S1x512x128 .f32)
    (A : Vec Ideal S1x512x64 .f32) : FVec Ideal S1x512x64 .f32 :=
  acc512 (select k0_pay54 (att512 (z512 K Q) (after512 (earlyS K Q) (k0_pay55 (F := Ideal)) C))
    (broadcast S512x256 (Scalar.ofBits (F := Ideal) .f32 0x00000000#32))) (shapeCast S256x64 V shapeCasts_S1x256x64_S256x64) A

/-- The later rows of head `h` of the carries. -/
abbrev rC' (h : Nat) (inb : ∀ a, (![h, 256, 0] : Fin 3 → ℕ) a + S1x256x128.size a ≤ S2x512x128.size a) : Rect S2x512x128 :=
  Rect.unit ![h, 256, 0] S1x256x128.size inb

/-- The later rows of head `h` of the accumulators. -/
abbrev rA' (h : Nat) (inb : ∀ a, (![h, 256, 0] : Fin 3 → ℕ) a + S1x256x64.size a ≤ S2x512x64.size a) : Rect S2x512x64 :=
  Rect.unit ![h, 256, 0] S1x256x64.size inb

/-- The later query rows of a head as loaded. -/
abbrev ldQ' (m : Memref sig .tc .vmem S1x512x128 .bf16) (X : BufTy.Contents (Elt Ideal) m.view.ty) (off : Fin 3 → ℕ)
    (h : ∀ a, off a + S1x256x64.size a ≤ S1x512x128.size a) : Vec Ideal S1x256x64 .bf16 :=
  View.readAt (Elt Ideal) m.view (Rect.unit (s := S1x512x128) off S1x256x64.size h).toLoadRect X

/-- A load of the later query rows of a head reads them. -/
theorem ldQ'_apply (m : Memref sig .tc .vmem S1x512x128 .bf16) (X : BufTy.Contents (Elt Ideal) m.view.ty) {off : Fin 3 → ℕ}
    (inb : ∀ a, off a + S1x256x64.size a ≤ S1x512x128.size a) {h : Fin 2} (hoff : off = ![0, 256, 64 * h.val]) (r : Fin 256)
    (r' : Fin 512) (hr : r'.val = 256 + r.val) (d : Fin 64) : ldQ' m X off inb (ix3 0 r d) = qOf m X h r' d := by
  subst hoff
  refine congrArg (m.view.read (Elt Ideal) X) (funext fun a => Fin.ext ?_)
  fin_cases a
  · rfl
  · show 256 + 1 * r.val = r'.val
    rw [one_mul, hr]
  · show 64 * h.val + 1 * d.val = 64 * h.val + d.val
    rw [one_mul]

/-- Where the blocks on the diagonal of the first head lie. -/
theorem off1_eq : ∀ (i : grid0.Coords) (r : Fin 2), k0_off1 i (BitVec.ofNat 32 (1 + r.val)) = ![0, (i 2).val * 512 + 256 - 256 * r.val, 0] := by
  decide +kernel

/-- Where the blocks on the diagonal of the second head lie. -/
theorem off2_eq : ∀ (i : grid0.Coords) (r : Fin 2), k0_off2 i (BitVec.ofNat 32 (1 + r.val)) = ![0, (i 2).val * 512 + 256 - 256 * r.val, 64] := by
  decide +kernel

variable (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .bf16) (harg6 : arg6.IsWhole) (arg7 : Memref sig .tc .vmem S2x512x64 .f32) (harg7 : arg7.IsWhole) (arg8 : Memref sig .tc .vmem S2x512x128 .f32) (harg8 : arg8.IsWhole)

section Lists
variable (x0 : Vec Ideal S1x512x128 .bf16) (x1 x2 : Vec Ideal S1x2048x128 .bf16)

open kernelRun0_A.sl in
/-- What the blocks on the diagonal write to the carries, store by store. -/
theorem carry_pieces :
    let K1 := fun r : Fin 2 => ldB arg4 (harg4.unread x1) (k0_off1 i (BitVec.ofNat 32 (1 + r.val))) (k0_off1_inb i r)
    let K2 := fun r : Fin 2 => ldB arg4 (harg4.unread x1) (k0_off2 i (BitVec.ofNat 32 (1 + r.val))) (k0_off2_inb i r)
    let X3 := harg3.unread x0
    HS1_2 (F := Ideal) c i arg3 harg3 arg4 harg4 arg8 x0 x1 = ⟨rC' 0 (by decide), lateC (K1 0) (ldQ' arg3 X3 ![0,256,0] (by decide))
        (arg8.view.readCov (HS1_1 (F := Ideal)) (rC' 0 (by decide)).toLoadRect)⟩ :: (HS1_1 (F := Ideal))
    ∧ HS1_3 (F := Ideal) c i arg3 harg3 arg4 harg4 arg8 x0 x1 = ⟨rC' 1 (by decide), lateC (K2 0) (ldQ' arg3 X3 ![0,256,64] (by decide))
        (arg8.view.readCov (HS1_2 c i arg3 harg3 arg4 harg4 arg8 x0 x1) (rC' 1 (by decide)).toLoadRect)⟩
        :: HS1_2 c i arg3 harg3 arg4 harg4 arg8 x0 x1
    ∧ HS1_4 (F := Ideal) c i arg3 harg3 arg4 harg4 arg8 x0 x1 = ⟨rC 0 (by decide), earlyC (K1 1) (ldQ arg3 X3 ![0,0,0] (by decide))
        (arg8.view.readCov (HS1_3 c i arg3 harg3 arg4 harg4 arg8 x0 x1) (rC 0 (by decide)).toLoadRect)⟩ :: HS1_3 c i arg3 harg3 arg4 harg4 arg8 x0 x1
    ∧ HS1_5 (F := Ideal) c i arg3 harg3 arg4 harg4 arg8 x0 x1 = ⟨rC 1 (by decide), earlyC (K2 1) (ldQ arg3 X3 ![0,0,64] (by decide))
        (arg8.view.readCov (HS1_4 c i arg3 harg3 arg4 harg4 arg8 x0 x1) (rC 1 (by decide)).toLoadRect)⟩ :: HS1_4 c i arg3 harg3 arg4 harg4 arg8 x0 x1 :=
  by
  refine ⟨?_, ?_, ?_, ?_⟩
  · rfl
  · rfl
  · rfl
  · rfl

open kernelRun0_A.sl in
/-- What the blocks on the diagonal write to the accumulators, store by store. -/
theorem acc_pieces :
    let K1 := fun r : Fin 2 => ldB arg4 (harg4.unread x1) (k0_off1 i (BitVec.ofNat 32 (1 + r.val))) (k0_off1_inb i r)
    let K2 := fun r : Fin 2 => ldB arg4 (harg4.unread x1) (k0_off2 i (BitVec.ofNat 32 (1 + r.val))) (k0_off2_inb i r)
    let V1 := fun r : Fin 2 => ldB arg5 (harg5.unread x2) (k0_off1 i (BitVec.ofNat 32 (1 + r.val))) (k0_off1_inb i r)
    let V2 := fun r : Fin 2 => ldB arg5 (harg5.unread x2) (k0_off2 i (BitVec.ofNat 32 (1 + r.val))) (k0_off2_inb i r)
    let X3 := harg3.unread x0
    HS0_2 (F := Ideal) c i arg3 harg3 arg4 harg4 arg5 harg5 arg7 arg8 x0 x1 x2 = ⟨rA' 0 (by decide), lateA (K1 0) (V1 0) (ldQ' arg3 X3 ![0,256,0] (by decide))
        (arg8.view.readCov (HS1_1 (F := Ideal)) (rC' 0 (by decide)).toLoadRect)
        (arg7.view.readCov (HS0_1 (F := Ideal)) (rA' 0 (by decide)).toLoadRect)⟩ :: (HS0_1 (F := Ideal))
    ∧ HS0_3 (F := Ideal) c i arg3 harg3 arg4 harg4 arg5 harg5 arg7 arg8 x0 x1 x2 = ⟨rA' 1 (by decide), lateA (K2 0) (V2 0) (ldQ' arg3 X3 ![0,256,64] (by decide))
        (arg8.view.readCov (HS1_2 c i arg3 harg3 arg4 harg4 arg8 x0 x1) (rC' 1 (by decide)).toLoadRect)
        (arg7.view.readCov (HS0_2 c i arg3 harg3 arg4 harg4 arg5 harg5 arg7 arg8 x0 x1 x2) (rA' 1 (by decide)).toLoadRect)⟩
        :: HS0_2 c i arg3 harg3 arg4 harg4 arg5 harg5 arg7 arg8 x0 x1 x2
    ∧ HS0_4 (F := Ideal) c i arg3 harg3 arg4 harg4 arg5 harg5 arg7 arg8 x0 x1 x2 = ⟨rA 0 (by decide), earlyA (K1 1) (V1 1) (ldQ arg3 X3 ![0,0,0] (by decide))
        (arg8.view.readCov (HS1_3 c i arg3 harg3 arg4 harg4 arg8 x0 x1) (rC 0 (by decide)).toLoadRect)
        (arg7.view.readCov (HS0_3 c i arg3 harg3 arg4 harg4 arg5 harg5 arg7 arg8 x0 x1 x2) (rA 0 (by decide)).toLoadRect)⟩ :: HS0_3 c i arg3 harg3 arg4 harg4 arg5 harg5 arg7 arg8 x0 x1 x2
    ∧ HS0_5 (F := Ideal) c i arg3 harg3 arg4 harg4 arg5 harg5 arg7 arg8 x0 x1 x2 = ⟨rA 1 (by decide), earlyA (K2 1) (V2 1) (ldQ arg3 X3 ![0,0,64] (by decide))
        (arg8.view.readCov (HS1_4 c i arg3 harg3 arg4 harg4 arg8 x0 x1) (rC 1 (by decide)).toLoadRect)
        (arg7.view.readCov (HS0_4 c i arg3 harg3 arg4 harg4 arg5 harg5 arg7 arg8 x0 x1 x2) (rA 1 (by decide)).toLoadRect)⟩ :: HS0_4 c i arg3 harg3 arg4 harg4 arg5 harg5 arg7 arg8 x0 x1 x2 :=
  by
  refine ⟨?_, ?_, ?_, ?_⟩
  · rfl
  · rfl
  · rfl
  · rfl

end Lists

end Cert.KernelIdeal.Att
end
-- ==== Proof.Body.lean ====
/- The whole body at a grid point: the block it stores holds, for every query row and both heads, the weighted
   values summed over the whole sequence. -/
module

public import proofs.«01_k».proof.Proof.Prologue

@[expose] public section

set_option maxRecDepth 16384
noncomputable section

namespace Cert.KernelIdeal.Att

open Idealize.ShloMosaic Idealize.ShloMosaic.Tactic Cert.KernelIdeal Cert.KernelIdeal.Gen Cert.Stick
open Idealize.SL.Sem

section Steps
variable (arg3 : Memref sig .tc .vmem S1x512x128 .bf16) (arg4 arg5 : Memref sig .tc .vmem S1x2048x128 .bf16)
  (arg7 : Memref sig .tc .vmem S2x512x64 .f32) (arg8 : Memref sig .tc .vmem S2x512x128 .f32)
  (X3 : BufTy.Contents (Elt Ideal) arg3.view.ty) (X4 : BufTy.Contents (Elt Ideal) arg4.view.ty) (X5 : BufTy.Contents (Elt Ideal) arg5.view.ty)

/-- After the stores `L7` and `L8` the scratch buffers hold head `h`'s sums from `lo r` on, for every row `r`. -/
def HInv (L7 : List (View.Piece (Elt Ideal) S2x512x64 .f32)) (L8 : List (View.Piece (Elt Ideal) S2x512x128 .f32)) (h : Fin 2) (T : ℕ)
    (lo : Fin 512 → ℕ) : Prop :=
  ∀ r : Fin 512,
    (∀ l, arg8.view.read (Elt Ideal) (arg8.view.writes (Elt Ideal) arg8.view.junk L8) (ix3 h r l)
      = CF (qOf arg3 X3 h r) (rowOf arg4 X4 h) (T + r.val) (lo r))
    ∧ ∀ d, arg7.view.read (Elt Ideal) (arg7.view.writes (Elt Ideal) arg7.view.junk L7) (ix3 h r d)
      = AF (qOf arg3 X3 h r) (rowOf arg4 X4 h) (fun s => rowOf arg5 X5 h s d) (T + r.val) (lo r)

/-- Before any block: nothing counts past a row's own position, so the first rows stand at the end of the earlier block and the
    later rows at the end of the later block. -/
def lo0 (T : ℕ) (r : Fin 512) : ℕ := if r.val < 256 then T + 256 else T + 512

variable {arg3 arg4 arg5 arg7 arg8 X3 X4 X5}
variable {L7 : List (View.Piece (Elt Ideal) S2x512x64 .f32)} {L8 : List (View.Piece (Elt Ideal) S2x512x128 .f32)} {h : Fin 2} {T : ℕ}

/-- The later block on the diagonal brings a head's later rows to the end of the earlier block. -/
theorem late_step (n : ℕ) (hn : n = h.val) (hT : T + 512 ≤ 2048) {off : Fin 3 → ℕ} (inb : ∀ a, off a + S1x256x64.size a ≤ S1x2048x128.size a)
    (hoff : off = ![0, T + 256, 64 * h.val]) {qoff : Fin 3 → ℕ} (qinb : ∀ a, qoff a + S1x256x64.size a ≤ S1x512x128.size a)
    (hq : qoff = ![0, 256, 64 * h.val]) (i7 i7' i8 i8') (H : HInv arg3 arg4 arg5 arg7 arg8 X3 X4 X5 L7 L8 h T (lo0 T)) :
    let K := ldB arg4 X4 off inb
    let Q := ldQ' arg3 X3 qoff qinb
    let C := arg8.view.readCov L8 (rC' n i8').toLoadRect
    HInv arg3 arg4 arg5 arg7 arg8 X3 X4 X5
      (⟨rA' n i7, lateA K (ldB arg5 X5 off inb) Q C (arg7.view.readCov L7 (rA' n i7').toLoadRect)⟩ :: L7)
      (⟨rC' n i8, lateC K Q C⟩ :: L8) h T (fun _ => T + 256) := by
  intro K Q C r
  by_cases hr : r.val < 256
  · obtain ⟨H8, H7⟩ := H r
    simp only [lo0, if_pos hr] at H8 H7
    exact ⟨fun l => (read_out (o := 256) (m := 256) arg8.view _ n h i8 _ L8 r (Or.inr hr) l).trans (H8 l),
      fun d => (read_out (o := 256) (m := 256) arg7.view _ n h i7 _ L7 r (Or.inr hr) d).trans (H7 d)⟩
  · obtain ⟨H8, H7⟩ := H r
    simp only [lo0, if_neg hr] at H8 H7
    have hr' : r.val = 256 + (⟨r.val - 256, by omega⟩ : Fin 256).val := by show r.val = 256 + (r.val - 256); omega
    have key := fun l d => block256_masked (m := k0_pay53) (K := K) (Q := Q) (C := C)
      (V := shapeCast S256x64 (ldB arg5 X5 off inb) shapeCasts_S1x256x64_S256x64) (q := qOf arg3 X3 h r) (k := rowOf arg4 X4 h)
      (t := T + r.val) (b := T + 256) (v := fun s => rowOf arg5 X5 h s d)
      (A := arg7.view.readCov L7 (rA' n i7').toLoadRect) ⟨r.val - 256, by omega⟩ d l hT
      (fun j => by
        rw [late_apply]
        refine if_congr ?_ rfl rfl
        show j.val < r.val - 256 ↔ _
        omega)
      (ldQ'_apply arg3 X3 qinb hq _ r hr') (ldB_apply arg4 X4 inb hT hoff)
      (fun l => (ld_head (o := 256) arg8.view _ n h i8' hn r _ hr' l).trans (H8 l))
      (fun j => by
        rw [← ldB_apply arg5 X5 inb hT hoff]
        pointwise [])
      ((ld_head (o := 256) arg7.view _ n h i7' hn r _ hr' d).trans (H7 d))
    exact ⟨fun l => (read_in (o := 256) (m := 256) arg8.view _ n h i8 _ L8 hn r _ hr' l).trans (key l 0).1,
      fun d => (read_in (o := 256) (m := 256) arg7.view _ n h i7 _ L7 hn r _ hr' d).trans (key 0 d).2⟩

/-- The earlier block on the diagonal brings a head's rows to the first position of the query block. -/
theorem early_step (n : ℕ) (hn : n = h.val) (hT : T + 512 ≤ 2048) {off : Fin 3 → ℕ} (inb : ∀ a, off a + S1x256x64.size a ≤ S1x2048x128.size a)
    (hoff : off = ![0, T, 64 * h.val]) {qoff : Fin 3 → ℕ} (qinb : ∀ a, qoff a + S1x512x64.size a ≤ S1x512x128.size a)
    (hq : qoff = ![0, 0, 64 * h.val]) (i7 i7' i8 i8') (H : HInv arg3 arg4 arg5 arg7 arg8 X3 X4 X5 L7 L8 h T (fun _ => T + 256)) :
    let K := ldB arg4 X4 off inb
    let Q := ldQ arg3 X3 qoff qinb
    let C := arg8.view.readCov L8 (rC n i8').toLoadRect
    HInv arg3 arg4 arg5 arg7 arg8 X3 X4 X5
      (⟨rA n i7, earlyA K (ldB arg5 X5 off inb) Q C (arg7.view.readCov L7 (rA n i7').toLoadRect)⟩ :: L7)
      (⟨rC n i8, earlyC K Q C⟩ :: L8) h T (fun _ => T) := by
  intro K Q C r
  obtain ⟨H8, H7⟩ := H r
  have hr : r.val = 0 + r.val := (Nat.zero_add _).symm
  have key := fun l d => block512_masked (m := k0_pay54) (K := K) (Q := Q) (C := C)
    (V := shapeCast S256x64 (ldB arg5 X5 off inb) shapeCasts_S1x256x64_S256x64) (q := qOf arg3 X3 h r) (k := rowOf arg4 X4 h)
    (t := T + r.val) (b := T) (v := fun s => rowOf arg5 X5 h s d)
    (A := arg7.view.readCov L7 (rA n i7').toLoadRect) r d l (by omega)
    (fun j => by
      rw [early_apply]
      exact if_congr (by omega) rfl rfl)
    (ldQ_apply arg3 X3 qinb hq r) (ldB_apply arg4 X4 inb (by omega) hoff)
    (fun l => (ld_head (o := 0) arg8.view _ n h i8' hn r r hr l).trans (H8 l))
    (fun j => by
      rw [← ldB_apply arg5 X5 inb (by omega) hoff]
      pointwise [])
    ((ld_head (o := 0) arg7.view _ n h i7' hn r r hr d).trans (H7 d))
  exact ⟨fun l => (read_in (o := 0) (m := 512) arg8.view _ n h i8 _ L8 hn r r hr l).trans (key l 0).1,
    fun d => (read_in (o := 0) (m := 512) arg7.view _ n h i7 _ L7 hn r r hr d).trans (key 0 d).2⟩

/-- A store to the other head changes nothing. -/
theorem other_step {o m : ℕ} (n : ℕ) (hn : n ≠ h.val) (i7) (i8) (w7 : Vec Ideal (⟨3, ![1, m, 64]⟩ : Shape) .f32) (w8 : Vec Ideal (⟨3, ![1, m, 128]⟩ : Shape) .f32)
    {lo : Fin 512 → ℕ} (H : HInv arg3 arg4 arg5 arg7 arg8 X3 X4 X5 L7 L8 h T lo) :
    HInv arg3 arg4 arg5 arg7 arg8 X3 X4 X5 (⟨Rect.unit (s := ⟨3, ![2, 512, 64]⟩) ![n, o, 0] ![1, m, 64] i7, w7⟩ :: L7)
      (⟨Rect.unit (s := ⟨3, ![2, 512, 128]⟩) ![n, o, 0] ![1, m, 128] i8, w8⟩ :: L8) h T lo := fun r =>
  ⟨fun l => (read_out arg8.view _ n h i8 w8 L8 r (Or.inl hn) l).trans ((H r).1 l),
    fun d => (read_out arg7.view _ n h i7 w7 L7 r (Or.inl hn) d).trans ((H r).2 d)⟩

open kernelRun0_A.sl in
/-- The scratch buffers start at zero. -/
theorem zero_step (hT : T + 512 ≤ 2048) : HInv arg3 arg4 arg5 arg7 arg8 X3 X4 X5 (HS0_1 (F := Ideal)) (HS1_1 (F := Ideal)) h T (lo0 T) := fun r => by
  have hle : T + r.val ≤ lo0 T r := by unfold lo0; split <;> omega
  refine ⟨fun l => ?_, fun d => ?_⟩
  · rw [CF_of_le _ _ _ _ hle]
    refine (View.read_writes_cons_unit_of_mem (off' := ![0, 0, 0]) arg8.view _ _ _ _ (ix3 h r l) (ix3 h r l) rfl fun a => ?_).trans ?_
    · fin_cases a <;> exact (Nat.zero_add _).symm
    · exact Ideal.ofBits_zero .f32
  · rw [AF_of_le _ _ _ _ _ hle]
    refine (View.read_writes_cons_unit_of_mem (off' := ![0, 0, 0]) arg7.view _ _ _ _ (ix3 h r d) (ix3 h r d) rfl fun a => ?_).trans ?_
    · fin_cases a <;> exact (Nat.zero_add _).symm
    · exact Ideal.ofBits_zero .f32

/-- The same stores, written otherwise. -/
theorem HInv.congr {L7' : List (View.Piece (Elt Ideal) S2x512x64 .f32)} {L8' : List (View.Piece (Elt Ideal) S2x512x128 .f32)} {lo : Fin 512 → ℕ}
    (e7 : L7' = L7) (e8 : L8' = L8) (H : HInv arg3 arg4 arg5 arg7 arg8 X3 X4 X5 L7 L8 h T lo) :
    HInv arg3 arg4 arg5 arg7 arg8 X3 X4 X5 L7' L8' h T lo := by
  subst e7 e8
  exact H

end Steps

variable (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .bf16) (harg6 : arg6.IsWhole) (arg7 : Memref sig .tc .vmem S2x512x64 .f32) (harg7 : arg7.IsWhole) (arg8 : Memref sig .tc .vmem S2x512x128 .f32) (harg8 : arg8.IsWhole)
  (x0 : Vec Ideal S1x512x128 .bf16) (x1 x2 : Vec Ideal S1x2048x128 .bf16)

open kernelRun0_A.sl in
/-- After the blocks on the diagonal both heads stand at the first position of the query block. -/
theorem diag_inv (h : Fin 2) : HInv arg3 arg4 arg5 arg7 arg8 (harg3.unread x0) (harg4.unread x1) (harg5.unread x2)
    (HS0_5 (F := Ideal) c i arg3 harg3 arg4 harg4 arg5 harg5 arg7 arg8 x0 x1 x2) (HS1_5 (F := Ideal) c i arg3 harg3 arg4 harg4 arg8 x0 x1) h ((i 2).val * 512)
    (fun _ => (i 2).val * 512) := by
  have hi : (i 2).val < 4 := (i 2).isLt
  have hT : (i 2).val * 512 + 512 ≤ 2048 := by omega
  obtain ⟨p2, p3, p4, p5⟩ := carry_pieces c i arg3 harg3 arg4 harg4 arg8 x0 x1
  obtain ⟨a2, a3, a4, a5⟩ := acc_pieces c i arg3 harg3 arg4 harg4 arg5 harg5 arg7 arg8 x0 x1 x2
  rcases (by omega : h = 0 ∨ h = 1) with rfl | rfl
  · have s2 := HInv.congr a2 p2 (late_step (h := 0) 0 rfl hT (k0_off1_inb i 0) (off1_eq i 0) (by decide) rfl (by decide) (by decide) (by decide) (by decide)
      (zero_step (arg3 := arg3) (arg4 := arg4) (arg5 := arg5) (arg7 := arg7) (arg8 := arg8) (X3 := harg3.unread x0) (X4 := harg4.unread x1) (X5 := harg5.unread x2) hT))
    have s3 := HInv.congr a3 p3 (other_step (h := 0) 1 Nat.one_ne_zero _ _ _ _ s2)
    have s4 := HInv.congr a4 p4 (early_step (h := 0) 0 rfl hT (k0_off1_inb i 1) (off1_eq i 1) (by decide) rfl (by decide) (by decide) (by decide) (by decide) s3)
    exact HInv.congr a5 p5 (other_step (h := 0) 1 Nat.one_ne_zero _ _ _ _ s4)
  · have s2 := HInv.congr a2 p2 (other_step (h := 1) 0 Nat.zero_ne_one _ _ _ _
      (zero_step (arg3 := arg3) (arg4 := arg4) (arg5 := arg5) (arg7 := arg7) (arg8 := arg8) (X3 := harg3.unread x0) (X4 := harg4.unread x1) (X5 := harg5.unread x2) hT))
    have s3 := HInv.congr a3 p3 (late_step (h := 1) 1 rfl hT (k0_off2_inb i 0) (off2_eq i 0) (by decide) rfl (by decide) (by decide) (by decide) (by decide) s2)
    have s4 := HInv.congr a4 p4 (other_step (h := 1) 0 Nat.zero_ne_one _ _ _ _ s3)
    exact HInv.congr a5 p5 (early_step (h := 1) 1 rfl hT (k0_off2_inb i 1) (off2_eq i 1) (by decide) rfl (by decide) (by decide) (by decide) (by decide) s4)

/-- The trips' stores, after the blocks on the diagonal. -/
abbrev loopPieces := pb_k0_t1 (F := Ideal) Variants.none c none i arg3 harg3 arg4 harg4 arg5 harg5 arg6 harg6 arg7 harg7 arg8 harg8 (BitVec.ofNat 32 (i 2).val)
  (k0_pay55 (F := Ideal)) (harg3.unread x0) (harg4.unread x1) (harg5.unread x2)
  (arg7.view.writes (Elt Ideal) arg7.view.junk (kernelRun0_A.sl.HS0_5 (F := Ideal) c i arg3 harg3 arg4 harg4 arg5 harg5 arg7 arg8 x0 x1 x2))
  (arg8.view.writes (Elt Ideal) arg8.view.junk (kernelRun0_A.sl.HS1_5 (F := Ideal) c i arg3 harg3 arg4 harg4 arg8 x0 x1)) (k0_t1_loop i).trips

/-- The accumulators read at the end: those the trips left. -/
theorem acc_read :
    kernelRun0_A.sl.v243 (F := Ideal) c i arg3 harg3 arg4 harg4 arg5 harg5 arg6 harg6 arg7 harg7 arg8 harg8 x0 x1 x2
      = View.readAt (Elt Ideal) arg7.view (rA 0 (by decide)).toLoadRect (arg7.view.writes (Elt Ideal) arg7.view.junk ((loopPieces c i arg3 harg3 arg4 harg4 arg5 harg5 arg6 harg6 arg7 harg7 arg8 harg8 x0 x1 x2).1
          ++ kernelRun0_A.sl.HS0_5 (F := Ideal) c i arg3 harg3 arg4 harg4 arg5 harg5 arg7 arg8 x0 x1 x2))
    ∧ kernelRun0_A.sl.v245 (F := Ideal) c i arg3 harg3 arg4 harg4 arg5 harg5 arg6 harg6 arg7 harg7 arg8 harg8 x0 x1 x2
      = View.readAt (Elt Ideal) arg7.view (rA 1 (by decide)).toLoadRect (arg7.view.writes (Elt Ideal) arg7.view.junk ((loopPieces c i arg3 harg3 arg4 harg4 arg5 harg5 arg6 harg6 arg7 harg7 arg8 harg8 x0 x1 x2).1
          ++ kernelRun0_A.sl.HS0_5 (F := Ideal) c i arg3 harg3 arg4 harg4 arg5 harg5 arg7 arg8 x0 x1 x2)) := by
  have e : Scf.trips (k0_t2_loop i).lb (k0_t2_loop i).ub (k0_t2_loop i).st = 0 := trips2 i
  constructor
  · unfold kernelRun0_A.sl.v243
    rw [e]
    rfl
  · unfold kernelRun0_A.sl.v245
    rw [e]
    rfl

/-- After all trips the accumulators hold the weighted values over the whole sequence. -/
theorem acc_final (h : Fin 2) (r : Fin 512) (d : Fin 64) :
    arg7.view.read (Elt Ideal) (arg7.view.writes (Elt Ideal) arg7.view.junk ((loopPieces c i arg3 harg3 arg4 harg4 arg5 harg5 arg6 harg6 arg7 harg7 arg8 harg8 x0 x1 x2).1
        ++ kernelRun0_A.sl.HS0_5 (F := Ideal) c i arg3 harg3 arg4 harg4 arg5 harg5 arg7 arg8 x0 x1 x2)) (ix3 h r d)
      = AF (qOf arg3 (harg3.unread x0) h r) (rowOf arg4 (harg4.unread x1) h) (fun s => rowOf arg5 (harg5.unread x2) h s d) ((i 2).val * 512 + r.val) 0 := by
  rw [View.writes_append]
  have H := loop_inv Variants.none c none i arg3 harg3 arg4 harg4 arg5 harg5 arg6 harg6 arg7 harg7 arg8 harg8 (harg3.unread x0) (harg4.unread x1) (harg5.unread x2) _ _
    (fun h r => diag_inv c i arg3 harg3 arg4 harg4 arg5 harg5 arg7 arg8 x0 x1 x2 h r) (k0_t1_loop i).trips le_rfl h r
  have e : ((i 2).val - (k0_t1_loop i).trips) * 512 = 0 := by rw [trips1 i, Nat.sub_self, Nat.zero_mul]
  rw [e] at H
  exact H.2 d

/-- The block a grid point stores: for each row and both heads the weighted values over the whole sequence. -/
theorem out_apply (h : Fin 2) (r : Fin 512) (d : Fin 64) :
    out0_A_3 (F := Ideal) c i arg3 harg3 arg4 harg4 arg5 harg5 arg6 harg6 arg7 harg7 arg8 harg8 x0 x1 x2 (ix3 0 r (lane h d))
      = AF (qOf arg3 (harg3.unread x0) h r) (rowOf arg4 (harg4.unread x1) h) (fun s => rowOf arg5 (harg5.unread x2) h s d) ((i 2).val * 512 + r.val) 0 := by
  unfold out0_A_3
  rw [View.read_writes_eq_canon _ _ _ (cover0_A_3 c i arg3 harg3 arg4 harg4 arg5 harg5 arg6 harg6 arg7 harg7 arg8 harg8 x0 x1 x2)]
  unfold kernelRun0_A
  dsimp only
  refine (congrFun (View.canon_unit_zero (S := S1x512x128) (Val := Elt Ideal) (e := .bf16) (off := ![0, 0, 0]) (by decide) inb_S1x512x128_S1x512x128_0_0_0
    (kernelRun0_A.sl.r_13 c i arg3 harg3 arg4 harg4 arg5 harg5 arg6 harg6 arg7 harg7 arg8 harg8 x0 x1 x2)) (ix3 0 r (lane h d))).trans ?_
  unfold kernelRun0_A.sl.r_13
  rw [(acc_read c i arg3 harg3 arg4 harg4 arg5 harg5 arg6 harg6 arg7 harg7 arg8 harg8 x0 x1 x2).1, (acc_read c i arg3 harg3 arg4 harg4 arg5 harg5 arg6 harg6 arg7 harg7 arg8 harg8 x0 x1 x2).2]
  pointwise [k0_pay96]
  rcases (by omega : h = 0 ∨ h = 1) with rfl | rfl
  · rw [dif_pos (show ((lane 0 d) : Fin 128).val < 64 by show 64 * 0 + d.val < 64; omega)]
    have hd : (⟨64 * (0 : Fin 2).val + d.val, by omega⟩ : Fin 64) = d := Fin.ext (by show 64 * 0 + d.val = d.val; omega)
    rw [hd]
    exact (ld_head (o := 0) arg7.view _ 0 0 (by decide) rfl r r (Nat.zero_add _).symm d).trans
      (acc_final c i arg3 harg3 arg4 harg4 arg5 harg5 arg6 harg6 arg7 harg7 arg8 harg8 x0 x1 x2 0 r d)
  · rw [dif_neg (show ¬((lane 1 d) : Fin 128).val < 64 by show ¬64 * 1 + d.val < 64; omega)]
    have hd : (⟨64 * (1 : Fin 2).val + d.val - 64, by show 64 * 1 + d.val - 64 < 64; omega⟩ : Fin 64) = d :=
      Fin.ext (by show 64 * 1 + d.val - 64 = d.val; omega)
    rw [hd]
    exact (ld_head (o := 0) arg7.view _ 1 1 (by decide) rfl r r (Nat.zero_add _).symm d).trans
      (acc_final c i arg3 harg3 arg4 harg4 arg5 harg5 arg6 harg6 arg7 harg7 arg8 harg8 x0 x1 x2 1 r d)

end Cert.KernelIdeal.Att
end
-- ==== Proof.Scalar.lean ====
/- The weight of a position in base-two units, as the kernel computes it, is the weight of the stick-breaking
   attention written with natural exponentials and logarithms, at every score an extended real can be. -/
module

public import proofs.«01_k».proof.Proof.Math

@[expose] public section

noncomputable section

namespace Cert.Stick

open Idealize.ShloMosaic

/-- The softplus: the logarithm of one plus the exponential. -/
def SP (x : EReal) : EReal := max x 0 + Ideal.log1p (Ideal.exp (-max x (-x)))

/-- The logarithm of the probability that position `s` is passed over, nothing at or past the row's own position. -/
def lnot (x : ℕ → EReal) (t s : ℕ) : EReal := if s < t then -SP (x s) else 0

/-- The weight of position `s`: the probability that it is taken and every later position is passed over. -/
def wt (x : ℕ → EReal) (t s : ℕ) : EReal :=
  if s < t then Ideal.exp (-SP (-x s) + ((∑ s' ∈ Finset.Ico s 2048, lnot x t s') - lnot x t s)) else 0

/-- The reciprocal of the logarithm of two is positive. -/
theorem log2_pos : 0 < (Real.log 2)⁻¹ := inv_pos.mpr (Real.log_pos one_lt_two)

/-- The same, among the extended reals. -/
theorem L2_nonneg : (0 : EReal) ≤ L2 := EReal.coe_nonneg.mpr log2_pos.le

/-- A positive real multiplies out of a sum of two extended reals. -/
theorem add_mul_coe {c : ℝ} (hc : 0 ≤ c) (x y : EReal) : (x + y) * (c : EReal) = x * c + y * c := by
  rw [mul_comm, EReal.left_distrib_of_nonneg_of_ne_top (EReal.coe_nonneg.mpr hc) (EReal.coe_ne_top c), mul_comm x, mul_comm y]

/-- A positive real multiplies out of a finite sum of extended reals. -/
theorem sum_mul_coe {ι : Type} (S : Finset ι) (f : ι → EReal) {c : ℝ} (hc : 0 ≤ c) : (∑ i ∈ S, f i) * (c : EReal) = ∑ i ∈ S, f i * c := by
  classical
  induction S using Finset.induction_on with
  | empty => simp
  | insert a S ha ih => rw [Finset.sum_insert ha, Finset.sum_insert ha, add_mul_coe hc, ih]

/-- The exponential in base-two units. -/
theorem exp2_L2 (y : EReal) : Ideal.exp2 (y * L2) = Ideal.exp y := by
  unfold L2
  induction y using EReal.rec with
  | bot => rw [EReal.bot_mul_coe_of_pos log2_pos]; rfl
  | top => rw [EReal.top_mul_coe_of_pos log2_pos]; rfl
  | coe r =>
    rw [← EReal.coe_mul, Ideal.exp2_coe, Ideal.exp_coe]
    congr 1
    show (2 : ℝ) ^ (r * (Real.log 2)⁻¹) = Real.exp r
    rw [Real.rpow_def_of_pos two_pos]
    congr 1
    have := (Real.log_pos one_lt_two).ne'
    field_simp

/-- The larger of two real numbers, as extended reals. -/
theorem coe_max (a b : ℝ) : ((max a b : ℝ) : EReal) = max (a : EReal) b :=
  EReal.coe_strictMono.monotone.map_max

/-- The logarithm of one. -/
theorem log_one : Ideal.log 1 = 0 := by
  rw [← EReal.coe_one, Ideal.log_coe, if_neg (by norm_num), Real.log_one, EReal.coe_zero]

/-- Base-two units keep the order. -/
theorem mul_L2_mono : Monotone fun a : EReal => a * L2 := fun _ _ h => mul_le_mul_of_nonneg_right h L2_nonneg

/-- The softplus at a real number. -/
theorem SP_coe (r : ℝ) : SP (r : EReal) = ((max r 0 + Real.log (1 + Real.exp (-max r (-r))) : ℝ) : EReal) := by
  have h : ¬(1 + Real.exp (-max r (-r)) ≤ 0) := not_le.mpr (by positivity)
  unfold SP Ideal.log1p
  rw [← EReal.coe_neg, ← coe_max, ← EReal.coe_neg, Ideal.exp_coe, ← EReal.coe_one, ← EReal.coe_add, Ideal.log_coe, if_neg h,
    ← EReal.coe_zero, ← coe_max, ← EReal.coe_add]

/-- Softplus at plus infinity. -/
theorem SP_top : SP ⊤ = ⊤ := by simp [SP, Ideal.log1p, log_one]

/-- Softplus at minus infinity. -/
theorem SP_bot : SP ⊥ = 0 := by simp [SP, Ideal.log1p, log_one]

/-- The softplus is the number's positive part and something positive. -/
theorem SP_nonneg (x : EReal) : 0 ≤ SP x := by
  induction x using EReal.rec with
  | bot => rw [SP_bot]
  | top => rw [SP_top]; exact le_top
  | coe r =>
    rw [SP_coe]
    refine EReal.coe_nonneg.mpr (add_nonneg (le_max_right _ _) (Real.log_nonneg ?_))
    have := (Real.exp_pos (-max r (-r))).le
    linarith

/-- A real number is the difference of its softplus and the softplus of its opposite. -/
theorem neg_SP_neg (r : ℝ) : -SP (-(r : EReal)) = (r : EReal) - SP r := by
  rw [← EReal.coe_neg, SP_coe, SP_coe, ← EReal.coe_neg, ← EReal.coe_sub]
  congr 1
  rw [neg_neg, max_comm (-r) r]
  rcases le_total 0 r with h | h
  · rw [max_eq_right (neg_nonpos.mpr h), max_eq_left h]; ring
  · rw [max_eq_left (neg_nonneg.mpr h), max_eq_right h]; ring

/-- The softplus in base-two units is the softplus, in base-two units. -/
theorem sp_mul (x : EReal) : sp (x * L2) = SP x * L2 := by
  have e1 : FloatOps.exp2 (F := Ideal) (φ := .f32) (0 - FloatOps.absf (F := Ideal) (φ := .f32) (x * L2)) = Ideal.exp (-max x (-x)) := by
    rw [← exp2_L2]
    show Ideal.exp2 (0 - max (x * L2) (-(x * L2))) = _
    congr 1
    rw [zero_sub, EReal.neg_mul, ← EReal.neg_mul x]
    congr 1
    exact mul_L2_mono.map_max.symm
  have e2 : max (x * L2) 0 = max x 0 * L2 := by
    exact (congrArg (max (x * L2)) (zero_mul L2).symm).trans mul_L2_mono.map_max.symm
  unfold sp SP Ideal.log1p
  rw [e1, e2]
  exact (add_mul_coe log2_pos.le _ _).symm

variable (x : ℕ → EReal) (t : ℕ)

/-- The masked softplus. -/
def spx (s : ℕ) : EReal := if s < t then SP (x s) else 0

/-- The masked softplus of a key is never negative. -/
theorem spx_nonneg (s : ℕ) : 0 ≤ spx x t s := by
  unfold spx
  split_ifs
  · exact SP_nonneg _
  · exact le_rfl

/-- The logarithm of what a key leaves over is minus its masked softplus. -/
theorem lnot_eq (s : ℕ) : lnot x t s = -spx x t s := by
  unfold lnot spx
  split_ifs <;> simp

/-- A sum of opposites of nonnegative numbers is the opposite of their sum. -/
theorem sum_lnot (S : Finset ℕ) : ∑ s ∈ S, lnot x t s = -∑ s ∈ S, spx x t s := by
  classical
  induction S using Finset.induction_on with
  | empty => simp
  | insert a S ha ih =>
    rw [Finset.sum_insert ha, Finset.sum_insert ha, ih, lnot_eq,
      EReal.neg_add (Or.inl (ne_bot_of_le_ne_bot EReal.zero_ne_bot (spx_nonneg x t a)))
        (Or.inr (ne_bot_of_le_ne_bot EReal.zero_ne_bot (Finset.sum_nonneg fun s _ => spx_nonneg x t s))), sub_eq_add_neg]

/-- The exponent of the weight, as the kernel and as the attention write it. -/
theorem exponent (s : ℕ) (hs : s < 2048) (hst : s < t) :
    Ideal.exp (-SP (-x s) + ((∑ s' ∈ Finset.Ico s 2048, lnot x t s') - lnot x t s))
      = Ideal.exp (x s - SP (x s) - ∑ s' ∈ Finset.Ico (s + 1) 2048, spx x t s') := by
  rw [sum_lnot, lnot_eq, Finset.sum_eq_sum_Ico_succ_bot hs]
  have h0 : spx x t s = SP (x s) := if_pos hst
  have hC : (0 : EReal) ≤ ∑ s' ∈ Finset.Ico (s + 1) 2048, spx x t s' := Finset.sum_nonneg fun s' _ => spx_nonneg x t s'
  have hC' : (∑ s' ∈ Finset.Ico (s + 1) 2048, spx x t s') ≠ ⊥ := ne_bot_of_le_ne_bot EReal.zero_ne_bot hC
  rw [h0]
  generalize (∑ s' ∈ Finset.Ico (s + 1) 2048, spx x t s') = C at hC hC'
  generalize x s = y
  induction y using EReal.rec with
  | bot => simp [SP_top, SP_bot]
  | top =>
    rw [SP_top, EReal.top_add_of_ne_bot hC']
    simp [SP_bot, sub_eq_add_neg]
  | coe r =>
    rw [neg_SP_neg, SP_coe]
    generalize max r 0 + Real.log (1 + Real.exp (-max r (-r))) = p
    induction C using EReal.rec with
    | bot => exact absurd rfl hC'
    | top => simp [sub_eq_add_neg]
    | coe c =>
      congr 1
      norm_cast
      ring

/-- The kernel's weight of a position is the attention's. -/
theorem attm_eq (q : Fin 64 → EReal) (k : ℕ → Fin 64 → EReal) (hz : ∀ s, zAt q (k s) = x s * L2) (s : ℕ) (hs : s < 2048) :
    attm q k t s = wt x t s := by
  unfold attm wt
  split_ifs with hst
  · rw [exponent x t s hs hst]
    have hc : CF q k t (s + 1) = (∑ s' ∈ Finset.Ico (s + 1) 2048, spx x t s') * L2 := by
      unfold CF L2
      rw [sum_mul_coe _ _ log2_pos.le]
      refine Finset.sum_congr rfl fun s' _ => ?_
      unfold spm spx
      split_ifs
      · rw [hz, sp_mul]; rfl
      · rw [zero_mul]
    rw [← exp2_L2, hc, hz, sp_mul]
    show Ideal.exp2 _ = Ideal.exp2 _
    congr 1
    have h1 : ∀ a b : EReal, (a - b) * L2 = a * L2 - b * L2 := fun a b => by
      rw [sub_eq_add_neg, sub_eq_add_neg, ← EReal.neg_mul]
      exact add_mul_coe log2_pos.le _ _
    rw [h1, h1]
  · rfl

/-- The kernel's row of the output is the attention's. -/
theorem AF_eq (q : Fin 64 → EReal) (k : ℕ → Fin 64 → EReal) (v : ℕ → EReal) (hz : ∀ s, zAt q (k s) = x s * L2) :
    AF q k v t 0 = ∑ s : Fin 2048, v s.val * wt x t s.val := by
  unfold AF
  rw [← Finset.range_eq_Ico, Finset.sum_range]
  refine Finset.sum_congr rfl fun s _ => ?_
  rw [attm_eq x t q k hz s.val s.isLt, mul_comm]

/-- A score whose query row is scaled first is the score scaled, in base-two units. -/
theorem zAt_scaled (q k : Fin 64 → EReal) {c : ℝ} (hc : 0 ≤ c) : zAt (fun d => q d * (c : EReal)) k = (∑ d, q d * k d) * (c : EReal) * L2 := by
  unfold zAt
  rw [sum_mul_coe _ _ hc]
  congr 1
  exact Finset.sum_congr rfl fun d _ => by rw [mul_assoc, mul_comm (c : EReal), ← mul_assoc]

end Cert.Stick
end
-- ==== Proof.RefRead.lean ====
/- The reference at an index: the values weighted by the stick-breaking attention's weights. -/
module

public import proofs.«01_k».proof.Proof.Scalar
public import proofs.«01_k».proof.Proof.Gen.ReferenceIdeal.Read
public import Idealize.ShloMosaic.Lib.Pointwise

@[expose] public section

set_option maxRecDepth 16384

noncomputable section

namespace Cert.ReferenceIdeal.Att

open Cert.ReferenceIdeal Cert.ReferenceIdeal.Gen Cert.ReferenceIdeal.Read Cert.Stick Idealize.ShloMosaic

/-- The column of coordinate `d` of head `h`. -/
abbrev col (h : Fin 8) (d : Fin 64) : Fin 512 := ⟨64 * h.val + d.val, by omega⟩

/-- The index of position `s` of row `t` of the scores. -/
abbrev at4 (b h : Fin 8) (t s : Fin 2048) : S8x8x2048x2048.Idx := ix4 b h t s

/-- A fold of additions is the start and the sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The window over the last axis. -/
abbrev W4 : Shape := ⟨4, ![1, 1, 1, 2048]⟩

/-- The window of the suffix sum has 2048 places. -/
theorem W4_numel : W4.numel = 2048 := by decide

/-- Position `n` of the window is its last coordinate. -/
theorem W4_symm (n : Fin W4.numel) : (∀ a : Fin 4, a ≠ 3 → (W4.rowMajor.symm n a).val = 0) ∧ (W4.rowMajor.symm n 3).val = n.val := by
  have h := Shape.rowMajor_val_four (W4.rowMajor.symm n)
  rw [Equiv.apply_symm_apply] at h
  have h0 : (W4.rowMajor.symm n 0).val < 1 := (W4.rowMajor.symm n 0).isLt
  have h1 : (W4.rowMajor.symm n 1).val < 1 := (W4.rowMajor.symm n 1).isLt
  have h2 : (W4.rowMajor.symm n 2).val < 1 := (W4.rowMajor.symm n 2).isLt
  have e0 : (W4.rowMajor.symm n 0).val = 0 := by omega
  have e1 : (W4.rowMajor.symm n 1).val = 0 := by omega
  have e2 : (W4.rowMajor.symm n 2).val = 0 := by omega
  refine ⟨fun a ha => ?_, ?_⟩
  · fin_cases a
    · exact e0
    · exact e1
    · exact e2
    · exact absurd rfl ha
  · rw [h, e0, e1, e2]
    simp

/-- The running sum from the end: entry `s` of a row is the sum of the row from `s` on. -/
theorem suffix_apply (x : S8x8x2048x2048.Idx → EReal) (v : S_.Idx → EReal) (hv : ∀ i, v i = 0) (b h : Fin 8) (t s : Fin 2048) (X : ℕ → EReal)
    (hx : ∀ s' : Fin 2048, x (at4 b h t s') = X s'.val)
    (hw : S8x8x2048x2048.ReduceWindows ![1, 1, 1, 2048] ![1, 1, 1, 1] ![0, 0, 0, 0] ![0, 0, 0, 2047] S8x8x2048x2048) (hu : 0 < S_.numel) :
    Host.reduceWindowAdd (F := Ideal) (φ := .f32) ![1, 1, 1, 2048] ![1, 1, 1, 1] ![0, 0, 0, 0] ![0, 0, 0, 2047] x v hw hu (at4 b h t s)
      = ∑ s' ∈ Finset.Ico s.val 2048, X s' := by
  unfold Host.reduceWindowAdd
  rw [hv]
  change Ideal.hostReduceWindowAdd ![1, 1, 1, 2048] ![1, 1, 1, 1] ![0, 0, 0, 0] ![0, 0, 0, 2047] hw x 0 (at4 b h t s) = _
  unfold Ideal.hostReduceWindowAdd Host.reduceWindow
  rw [foldl_add, zero_add, ← Fin.sum_univ_def, Finset.sum_Ico_eq_sum_range]
  have all : ∀ g : Fin W4.numel → EReal, (∀ n, g n = if n.val < 2048 - s.val then X (s.val + n.val) else 0) →
      ∑ n, g n = ∑ k ∈ Finset.range (2048 - s.val), X (s.val + k) := by
    intro g hg
    rw [Finset.sum_congr rfl fun n _ => hg n, Fin.sum_univ_eq_sum_range (fun n => if n < 2048 - s.val then X (s.val + n) else 0) W4.numel, W4_numel,
      ← Finset.sum_filter]
    refine Finset.sum_congr (Finset.ext fun n => ?_) fun _ _ => rfl
    rw [Finset.mem_filter, Finset.mem_range, Finset.mem_range]
    omega
  refine all _ fun n => ?_
  obtain ⟨h0, h3⟩ := W4_symm n
  have hp : ∀ a : Fin 4, (at4 b h t s a).val * (![1, 1, 1, 1] : Fin 4 → ℕ) a + (W4.rowMajor.symm n a).val = (![b.val, h.val, t.val, s.val + n.val] : Fin 4 → ℕ) a := by
    intro a
    fin_cases a
    · show b.val * 1 + (W4.rowMajor.symm n 0).val = b.val
      rw [h0 0 (by decide)]; omega
    · show h.val * 1 + (W4.rowMajor.symm n 1).val = h.val
      rw [h0 1 (by decide)]; omega
    · show t.val * 1 + (W4.rowMajor.symm n 2).val = t.val
      rw [h0 2 (by decide)]; omega
    · show s.val * 1 + (W4.rowMajor.symm n 3).val = s.val + n.val
      rw [h3]; omega
  have hz : ∀ a : Fin 4, (![0, 0, 0, 0] : Fin 4 → ℕ) a = 0 := by intro a; fin_cases a <;> rfl
  by_cases hn : n.val < 2048 - s.val
  · rw [if_pos hn, ← hx ⟨s.val + n.val, by omega⟩]
    refine (dif_pos fun a => ⟨(hz a).le.trans (Nat.zero_le _), ?_⟩).trans (congrArg x (funext fun a => Fin.ext ?_))
    rotate_left
    · show (at4 b h t s a).val * (![1, 1, 1, 1] : Fin 4 → ℕ) a + (W4.rowMajor.symm n a).val - (![0, 0, 0, 0] : Fin 4 → ℕ) a < _
      rw [hp, hz]
      revert a
      intro (a : Fin 4)
      fin_cases a
      · exact b.isLt
      · exact h.isLt
      · exact t.isLt
      · show s.val + n.val - 0 < 2048
        omega
    · show (at4 b h t s a).val * (![1, 1, 1, 1] : Fin 4 → ℕ) a + (W4.rowMajor.symm n a).val - (![0, 0, 0, 0] : Fin 4 → ℕ) a = _
      rw [hp, hz]
      revert a
      intro (a : Fin 4)
      fin_cases a <;> rfl
  · rw [if_neg hn]
    refine dif_neg fun hin => hn ?_
    have h' : (at4 b h t s 3).val * (![1, 1, 1, 1] : Fin 4 → ℕ) 3 + (W4.rowMajor.symm n 3).val - (![0, 0, 0, 0] : Fin 4 → ℕ) 3 < 2048 := (hin 3).2
    rw [hp] at h'
    have h'' : s.val + n.val - 0 < 2048 := h'
    omega

/-- The scaling of the scores. -/
theorem eighth : Ideal.ofBits .f32 0x3E000000#32 = ((1 / 8 : ℝ) : EReal) := by
  simp [Ideal.ofBits, Ideal.ieee, -EReal.coe_mul]; norm_num

variable (x0 x1 x2 : (⟨S8x2048x512, .f32⟩ : BufTy).Contents (Elt Ideal)) (b h : Fin 8) (t : Fin 2048)

/-- The scores of query row `t` of head `h` of sequence `b`. -/
def score (s : ℕ) : EReal :=
  if hs : s < 2048 then (∑ d : Fin 64, x0 (ix3 b t (col h d)) * x1 (ix3 b ⟨s, hs⟩ (col h d))) * ((1 / 8 : ℝ) : EReal) else 0

/-- The scores, as the reference computes them. -/
theorem v5_apply (s : Fin 2048) : val_main_v5 (F := Ideal) x0 x1 (at4 b h t s) = score x0 x1 b h t s.val := by
  rw [val_main_v5_apply, val_main_v3_apply, val_main_v4_apply, val_main_cst_apply, score, dif_pos s.isLt, ← eighth]
  show _ * _ = _
  refine congrArg (· * _) (Finset.sum_congr rfl fun d _ => ?_)
  rw [val_main_v0_apply, val_main_v1_apply]
  congr 1
  · refine congrArg x0 (funext fun a => Fin.ext ?_)
    fin_cases a
    · show (((b.val * 2048 + t.val) * 8 + h.val) * 64 + d.val) / 1048576 = b.val
      omega
    · show (((b.val * 2048 + t.val) * 8 + h.val) * 64 + d.val) / 512 % 2048 = t.val
      omega
    · show (((b.val * 2048 + t.val) * 8 + h.val) * 64 + d.val) % 512 = 64 * h.val + d.val
      omega
  · refine congrArg x1 (funext fun a => Fin.ext ?_)
    fin_cases a
    · show (((b.val * 2048 + s.val) * 8 + h.val) * 64 + d.val) / 1048576 = b.val
      omega
    · show (((b.val * 2048 + s.val) * 8 + h.val) * 64 + d.val) / 512 % 2048 = s.val
      omega
    · show (((b.val * 2048 + s.val) * 8 + h.val) * 64 + d.val) % 512 = 64 * h.val + d.val
      omega

/-- The softplus as a select of two branches, one of which no extended real takes. -/
theorem softplus_select (y : EReal) :
    Scalar.select (FloatOps.cmpf (F := Ideal) (φ := .f32) .une (y - 0) (y - 0)) (y + 0)
      (max y 0 + Ideal.log1p (Ideal.exp (-max (y - 0) (-(y - 0))))) = SP y := by
  have : FloatOps.cmpf (F := Ideal) (φ := .f32) .une (y - 0) (y - 0) = 0#1 := by
    show Ideal.cmp .une (y - 0) (y - 0) = 0#1
    simp [Ideal.cmp]
  rw [this, sub_zero]
  rfl

/-- The softplus of the scores, as the reference computes it for the positions passed over. -/
theorem call0_apply (i : S8x8x2048x2048.Idx) : val_main_call0_v1 (F := Ideal) x0 x1 i = SP (val_main_v5 (F := Ideal) x0 x1 i) := by
  have e : val_main_call0_v0 (F := Ideal) x0 x1 i = val_main_v5 (F := Ideal) x0 x1 i := neg_neg (val_main_v5 (F := Ideal) x0 x1 i)
  rw [← e, ← softplus_select]
  simp only [val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply, Ideal.ofBits_def, Ideal.ofBits_zero_f32]
  rfl

/-- The softplus of the opposite scores, as the reference computes it for the position taken. -/
theorem call3_apply (i : S8x8x2048x2048.Idx) : val_main_call3_v1 (F := Ideal) x0 x1 i = SP (-val_main_v5 (F := Ideal) x0 x1 i) := by
  have e : val_main_call3_v0 (F := Ideal) x0 x1 i = -val_main_v5 (F := Ideal) x0 x1 i := rfl
  rw [← e, ← softplus_select]
  simp only [val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_call0_cst_apply, Ideal.ofBits_def, Ideal.ofBits_zero_f32]
  rfl

/-- A signed comparison of two positions. -/
theorem slt_pos (s t : Fin 2048) : IntOp.cmpi .slt (BitVec.ofNat 32 s.val) (BitVec.ofNat 32 t.val) = if s.val < t.val then 1#1 else 0#1 := by
  have hs : (BitVec.ofNat 32 s.val).toInt = s.val := by
    rw [BitVec.toInt_eq_toNat_of_lt] <;> rw [BitVec.toNat_ofNat, Nat.mod_eq_of_lt (by omega)]; omega
  have ht : (BitVec.ofNat 32 t.val).toInt = t.val := by
    rw [BitVec.toInt_eq_toNat_of_lt] <;> rw [BitVec.toNat_ofNat, Nat.mod_eq_of_lt (by omega)]; omega
  show BitVec.ofBool (BitVec.slt _ _) = _
  rw [BitVec.slt, hs, ht]
  by_cases h : s.val < t.val <;> simp [h]

/-- The strictly lower triangle. -/
theorem mask_apply (i : S2048x2048.Idx) (s : Fin 2048) (h0 : (i 0).val = t.val) (h1 : (i 1).val = s.val) :
    val_main_v12 (F := Ideal) i = if s.val < t.val then 1#1 else 0#1 := by
  rw [val_main_v12_apply, val_main_v10_apply, val_main_v7_apply, val_main_v6_apply, val_main_v11_apply, val_main_v9_apply, val_main_v8_apply,
    ← slt_pos]
  show IntOp.cmpi .slt (BitVec.ofNat 32 (i 1).val) (BitVec.ofNat 32 (i 0).val) = _
  rw [h0, h1]

/-- The masked logarithm of a position being passed over. -/
theorem v15_apply (s : Fin 2048) : val_main_v15 (F := Ideal) x0 x1 (at4 b h t s) = lnot (score x0 x1 b h t) t.val s.val := by
  rw [val_main_v15_apply, val_main_call1_v1_apply, mask_apply t (idx_main_call1_v1 (at4 b h t s)) s rfl rfl, val_main_v14_apply, call0_apply, v5_apply,
    val_main_call1_v2_apply, val_main_call1_v0_apply, val_main_cst_0_apply, Ideal.ofBits_def, Ideal.ofBits_zero_f32]
  unfold lnot
  split_ifs <;> rfl

/-- The weights, as the reference computes them. -/
theorem v21_apply (s : Fin 2048) : val_main_v21 (F := Ideal) x0 x1 (at4 b h t s) = wt (score x0 x1 b h t) t.val s.val := by
  rw [val_main_v21_apply, val_main_call4_v1_apply, mask_apply t (idx_main_call4_v1 (at4 b h t s)) s rfl rfl, val_main_v20_apply, val_main_v19_apply,
    val_main_v18_apply, call3_apply, v5_apply, val_main_v17_apply, v15_apply, val_main_call4_v2_apply, val_main_call4_v0_apply, val_main_cst_1_apply,
    Ideal.ofBits_def, Ideal.ofBits_zero_f32]
  have e : val_main_v16 (F := Ideal) x0 x1 (at4 b h t s) = ∑ s' ∈ Finset.Ico s.val 2048, lnot (score x0 x1 b h t) t.val s' :=
    suffix_apply _ _ (fun i => by
      rw [val_main_call2_v0_apply, val_main_call2_cst_apply, Ideal.ofBits_def, Ideal.ofBits_zero_f32]) b h t s _ (v15_apply x0 x1 b h t) _ _
  rw [e]
  unfold wt
  split_ifs <;> rfl

/-- The reference at an index: the values of the head, weighted. -/
theorem result_apply (d : Fin 64) : val_main_v25 (F := Ideal) x0 x1 x2 (ix3 b t (col h d))
    = ∑ s : Fin 2048, x2 (ix3 b s (col h d)) * wt (score x0 x1 b h t) t.val s.val := by
  rw [val_main_v25_apply]
  show val_main_v24 (F := Ideal) x0 x1 x2 (ix3 b t (col h d)) = _
  have e : idx_main_v23 (idx_main_v24 (ix3 b t (col h d))) = ix4 b h d t := by
    refine funext fun a => Fin.ext ?_
    fin_cases a
    · show ((b.val * 2048 + t.val) * 512 + (64 * h.val + d.val)) / 1048576 = b.val
      omega
    · show ((b.val * 2048 + t.val) * 512 + (64 * h.val + d.val)) / 64 % 8 = h.val
      omega
    · show ((b.val * 2048 + t.val) * 512 + (64 * h.val + d.val)) % 64 = d.val
      omega
    · show ((b.val * 2048 + t.val) * 512 + (64 * h.val + d.val)) / 512 % 2048 = t.val
      omega
  rw [val_main_v24_apply, val_main_v23_apply, e, val_main_v22_apply]
  refine Finset.sum_congr rfl fun s _ => ?_
  congr 1
  · rw [val_main_v2_apply]
    refine congrArg x2 (funext fun a => Fin.ext ?_)
    fin_cases a
    · show (((b.val * 2048 + s.val) * 8 + h.val) * 64 + d.val) / 1048576 = b.val
      omega
    · show (((b.val * 2048 + s.val) * 8 + h.val) * 64 + d.val) / 512 % 2048 = s.val
      omega
    · show (((b.val * 2048 + s.val) * 8 + h.val) * 64 + d.val) % 512 = 64 * h.val + d.val
      omega
  · refine Eq.trans (congrArg _ (funext fun a => Fin.ext ?_)) (v21_apply x0 x1 b h t s)
    fin_cases a <;> rfl

end Cert.ReferenceIdeal.Att
end
-- ==== Proof.Arr.lean ====
/- The kernel's result array: block by block, the attention of the arguments. -/
module

public import proofs.«01_k».proof.Proof.Body
public import proofs.«01_k».proof.Proof.RefRead
public import proofs.«01_k».proof.Proof.Gen.KernelIdeal.Value
public import Idealize.ShloMosaic.Lib.Pipeline.ValueKit
public import Idealize.ShloMosaic.Lib.StableHlo.ReadAt
public import Idealize.ShloMosaic.Lib.Claim

@[expose] public section

set_option maxRecDepth 16384

noncomputable section

namespace Cert.KernelIdeal.Att

open Idealize.ShloMosaic Idealize.ShloMosaic.TcCoe Idealize.ShloMosaic.Tactic Cert.KernelIdeal Cert.KernelIdeal.Gen Cert.Stick
open Idealize.SL.Sem
open Cert.ReferenceIdeal.Att (score col)

variable (m : (ℓ : Loc nD τ sig) → Buf (Elt Ideal) ℓ) (c : Dev nD)

/-- The queries, the keys and the values the run starts from. -/
abbrev A0 : S8x2048x512.Idx → EReal := m ((c : Thread nD τ).loc main_arg0)
/-- The keys at the start. -/
abbrev A1 : S8x2048x512.Idx → EReal := m ((c : Thread nD τ).loc main_arg1)
/-- The values at the start. -/
abbrev A2 : S8x2048x512.Idx → EReal := m ((c : Thread nD τ).loc main_arg2)

/-- The array the region reads: the scaled queries, the keys and the values side by side. -/
theorem V3_apply (b : Fin 8) (t : Fin 2048) (j : Fin 1536) : V m c main_v3 (ix3 b t j)
    = if h : j.val < 512 then A0 m c (ix3 b t ⟨j.val, h⟩) * Ideal.ofBits .f32 0x3E000000#32
      else if h' : j.val - 512 < 512 then A1 m c (ix3 b t ⟨j.val - 512, h'⟩)
      else A2 m c (ix3 b t ⟨j.val - 512 - 512, by omega⟩) := by
  have e : V m c main_v3 = truncf .bf16 (concatenate S8x2048x1536 2 [⟨S8x2048x512, mulf (F := Ideal) (φ := .f32) (A0 m c) (broadcastInDim S8x2048x512 ![] bcast_S_S8x2048x512 (constant (F := Ideal) S_ .f32 0x3E000000#32))⟩, ⟨S8x2048x512, A1 m c⟩, ⟨S8x2048x512, A2 m c⟩] concatenates_S8x2048x512_S8x2048x512_S8x2048x512_S8x2048x1536_d2) bitsLt_bf16_f32 := by
    unfold V
    after_results
    rfl
  rw [e]
  pointwise

/-- The region's array, read where a block lies. -/
abbrev V3 (i : S8x2048x1536.Idx) : EReal := V m c main_v3 i

/-- Where each window's block lies at a grid point. -/
theorem idx_w : ∀ t : Fin cfg0.N, win0_0.index t = ![(grid0.coords t 0).val, (grid0.coords t 2).val, (grid0.coords t 1).val]
    ∧ win0_1.index t = ![(grid0.coords t 0).val, 0, 4 + (grid0.coords t 1).val]
    ∧ win0_2.index t = ![(grid0.coords t 0).val, 0, 8 + (grid0.coords t 1).val]
    ∧ win0_3.index t = ![(grid0.coords t 0).val, (grid0.coords t 2).val, (grid0.coords t 1).val] :=
  (by decide +kernel : ∀ t : Fin grid0.N, _)

variable {m c}

/-- The block of queries. -/
theorem iblk0 (t : Fin cfg0.N) (r : Fin 512) (j : Fin 128) (b : Fin 8) (t' : Fin 2048) (j' : Fin 1536)
    (hb : (grid0.coords t 0).val = b.val) (ht : (grid0.coords t 2).val * 512 + r.val = t'.val) (hj : (grid0.coords t 1).val * 128 + j.val = j'.val) :
    iblk m c 0 t (ix3 0 r j : S1x512x128.Idx) = V3 m c (ix3 b t' j') := by
  blk_simp [iblk]
  refine congrArg (V m c main_v3) (funext fun a => Fin.ext ?_)
  fin_cases a
  · blk_simp [(idx_w t).1]
    exact hb
  · blk_simp [(idx_w t).1]
    exact ht
  · blk_simp [(idx_w t).1]
    exact hj

/-- The block of keys. -/
theorem iblk1 (t : Fin cfg0.N) (s : Fin 2048) (j : Fin 128) (b : Fin 8) (j' : Fin 1536)
    (hb : (grid0.coords t 0).val = b.val) (hj : (4 + (grid0.coords t 1).val) * 128 + j.val = j'.val) :
    iblk m c 1 t (ix3 0 s j : S1x2048x128.Idx) = V3 m c (ix3 b s j') := by
  blk_simp [iblk]
  refine congrArg (V m c main_v3) (funext fun a => Fin.ext ?_)
  fin_cases a
  · blk_simp [(idx_w t).2.1]
    exact hb
  · blk_simp [(idx_w t).2.1]
    rfl
  · blk_simp [(idx_w t).2.1]
    exact hj

/-- The block of values. -/
theorem iblk2 (t : Fin cfg0.N) (s : Fin 2048) (j : Fin 128) (b : Fin 8) (j' : Fin 1536)
    (hb : (grid0.coords t 0).val = b.val) (hj : (8 + (grid0.coords t 1).val) * 128 + j.val = j'.val) :
    iblk m c 2 t (ix3 0 s j : S1x2048x128.Idx) = V3 m c (ix3 b s j') := by
  blk_simp [iblk]
  refine congrArg (V m c main_v3) (funext fun a => Fin.ext ?_)
  fin_cases a
  · blk_simp [(idx_w t).2.2.1]
    exact hb
  · blk_simp [(idx_w t).2.2.1]
    rfl
  · blk_simp [(idx_w t).2.2.1]
    exact hj

variable (m c)

/-- Row `r` of head `h` of the output block of a grid point is the attention of the arguments. -/
theorem out_ref (t : Fin cfg0.N) (h : Fin 2) (r : Fin 512) (d : Fin 64) (b : Fin 8) (g : Fin 8) (t' : Fin 2048)
    (hb : (grid0.coords t 0).val = b.val) (hg : (grid0.coords t 1).val * 2 + h.val = g.val) (ht : (grid0.coords t 2).val * 512 + r.val = t'.val) :
    out0_A_3 (F := Ideal) c (grid0.coords t) (ms0_0 t) (hs0_0 t) (ms0_1 t) (hs0_1 t) (ms0_2 t) (hs0_2 t) (ms0_3 t) (hs0_3 t) scM0_0 (Memref.isWhole_whole _)
        scM0_1 (Memref.isWhole_whole _) (iblk m c 0 t) (iblk m c 1 t) (iblk m c 2 t) (ix3 0 r (lane h d))
      = Cert.ReferenceIdeal.Read.val_main_v25 (F := Ideal) (A0 m c) (A1 m c) (A2 m c) (ix3 b t' (col g d)) := by
  have hh := h.isLt
  have hq : ∀ d : Fin 64, qOf (ms0_0 t) ((hs0_0 t).unread (iblk m c 0 t)) h r d = A0 m c (ix3 b t' (col g d)) * ((1 / 8 : ℝ) : EReal) := fun d => by
    unfold qOf
    rw [(hs0_0 t).read_unread, iblk0 t r (lane h d) b t' ⟨64 * g.val + d.val, by omega⟩ hb ht (by
      show (grid0.coords t 1).val * 128 + (64 * h.val + d.val) = 64 * g.val + d.val
      omega)]
    show V m c main_v3 _ = _
    rw [V3_apply, dif_pos (show 64 * g.val + d.val < 512 by omega), Cert.ReferenceIdeal.Att.eighth]
  have hk : ∀ (s : ℕ) (hs : s < 2048) (d : Fin 64), rowOf (ms0_1 t) ((hs0_1 t).unread (iblk m c 1 t)) h s d = A1 m c (ix3 b ⟨s, hs⟩ (col g d)) := fun s hs d => by
    unfold rowOf
    rw [dif_pos hs, (hs0_1 t).read_unread, iblk1 t ⟨s, hs⟩ (lane h d) b ⟨512 + (64 * g.val + d.val), by omega⟩ hb (by
      show (4 + (grid0.coords t 1).val) * 128 + (64 * h.val + d.val) = 512 + (64 * g.val + d.val)
      omega)]
    show V m c main_v3 _ = _
    rw [V3_apply, dif_neg (show ¬512 + (64 * g.val + d.val) < 512 by omega), dif_pos (show 512 + (64 * g.val + d.val) - 512 < 512 by omega)]
    exact congrArg (fun j => A1 m c (ix3 b ⟨s, hs⟩ j)) (Fin.ext (show 512 + (64 * g.val + d.val) - 512 = 64 * g.val + d.val by omega))
  have hv : ∀ (s : ℕ) (hs : s < 2048) (d : Fin 64), rowOf (ms0_2 t) ((hs0_2 t).unread (iblk m c 2 t)) h s d = A2 m c (ix3 b ⟨s, hs⟩ (col g d)) := fun s hs d => by
    unfold rowOf
    rw [dif_pos hs, (hs0_2 t).read_unread, iblk2 t ⟨s, hs⟩ (lane h d) b ⟨1024 + (64 * g.val + d.val), by omega⟩ hb (by
      show (8 + (grid0.coords t 1).val) * 128 + (64 * h.val + d.val) = 1024 + (64 * g.val + d.val)
      omega)]
    show V m c main_v3 _ = _
    rw [V3_apply, dif_neg (show ¬1024 + (64 * g.val + d.val) < 512 by omega), dif_neg (show ¬1024 + (64 * g.val + d.val) - 512 < 512 by omega)]
    exact congrArg (fun j => A2 m c (ix3 b ⟨s, hs⟩ j)) (Fin.ext (show 1024 + (64 * g.val + d.val) - 512 - 512 = 64 * g.val + d.val by omega))
  have hz : ∀ s, zAt (qOf (ms0_0 t) ((hs0_0 t).unread (iblk m c 0 t)) h r) (rowOf (ms0_1 t) ((hs0_1 t).unread (iblk m c 1 t)) h s)
      = score (A0 m c) (A1 m c) b g t' s * L2 := fun s => by
    rw [show qOf (ms0_0 t) ((hs0_0 t).unread (iblk m c 0 t)) h r = fun d => A0 m c (ix3 b t' (col g d)) * ((1 / 8 : ℝ) : EReal) from funext hq,
      zAt_scaled _ _ (by norm_num)]
    unfold score
    by_cases hs : s < 2048
    · rw [dif_pos hs]
      exact congrArg (· * _ * L2) (Finset.sum_congr rfl fun d _ => by rw [hk s hs d])
    · rw [dif_neg hs, Finset.sum_eq_zero fun d _ => by rw [rowOf, dif_neg hs, mul_zero], zero_mul]
  rw [out_apply, Cert.ReferenceIdeal.Att.result_apply, ht, AF_eq (score (A0 m c) (A1 m c) b g t') t'.val _ _ _ hz]
  exact Finset.sum_congr rfl fun s _ => by rw [hv s.val s.isLt d]

/-- The kernel's result array is the reference's. -/
theorem arr_eq : (dats m 0 c).arrAt 3 cfg0.N = Cert.ReferenceIdeal.Read.val_main_v25 (F := Ideal) (A0 m c) (A1 m c) (A2 m c) := by
  refine (dats m 0 c).arrAt_eq_of_covers 3 _ (by decide +kernel) fun t hf y => ?_
  blk_simp
  rw [after0_3]
  unfold outsAt0
  have h0 : (y 0).val < 1 := (y 0).isLt
  have h1 : (y 1).val < 512 := (y 1).isLt
  have h2 : (y 2).val < 128 := (y 2).isLt
  have c0 : (grid0.coords t 0).val < 8 := (grid0.coords t 0).isLt
  have c1 : (grid0.coords t 1).val < 4 := (grid0.coords t 1).isLt
  have c2 : (grid0.coords t 2).val < 4 := (grid0.coords t 2).isLt
  have key := out_ref m c t ⟨(y 2).val / 64, by omega⟩ ⟨(y 1).val, h1⟩ ⟨(y 2).val % 64, by omega⟩ ⟨(grid0.coords t 0).val, c0⟩
    ⟨(grid0.coords t 1).val * 2 + (y 2).val / 64, by omega⟩ ⟨(grid0.coords t 2).val * 512 + (y 1).val, by omega⟩ rfl rfl rfl
  refine Eq.trans (congrArg _ (funext fun a => Fin.ext ?_)) (key.trans (congrArg _ (funext fun a => Fin.ext ?_)))
  · fin_cases a
    · show (y 0).val = 0
      omega
    · rfl
    · show (y 2).val = 64 * ((y 2).val / 64) + (y 2).val % 64
      omega
  · fin_cases a
    · blk_simp [(idx_w t).2.2.2]
      rfl
    · blk_simp [(idx_w t).2.2.2]
      rfl
    · blk_simp [(idx_w t).2.2.2]
      show 64 * ((grid0.coords t 1).val * 2 + (y 2).val / 64) + (y 2).val % 64 = (grid0.coords t 1).val * 128 + (y 2).val
      omega

end Cert.KernelIdeal.Att
end
-- ==== Proof.Rows.lean ====
/- What the layer does to one row of 1024 numbers: the norm, its modulation, the squared-ReLU network. -/
module

public import Idealize.ShloMosaic.Lib.Pipeline.ValueKit
public import Mathlib.Algebra.BigOperators.Fin

@[expose] public section

noncomputable section

namespace Cert.Rows

open Idealize.ShloMosaic

/-- A row of the model's width. -/
abbrev Row := Fin 1024 → EReal

/-- The reciprocal root of a row's mean square, with the norm's small constant added. -/
def rinv (x : Row) : EReal :=
  Ideal.rsqrt (Ideal.div (∑ k, x k * x k) (Ideal.ofBits .f32 0x44800000#32) + Ideal.ofBits .f32 0x358637BD#32)

/-- The root-mean-square norm of a row, times the weights. -/
def rms (x w : Row) : Row := fun d => x d * rinv x * w d

/-- The norm of a row, scaled and shifted by the modulation. -/
def modded (x w sc sh : Row) : Row := fun d => rms x w d * (1 + sc d) + sh d

/-- A hidden unit: the square of the positive part of a product. -/
def unit (h u : Row) : EReal := max (∑ k, h k * u k) 0 * max (∑ k, h k * u k) 0

/-- The network's output for a row: the sum over the hidden units. -/
def mlp (h : Row) (up : Fin 4096 → Row) (dn : Fin 4096 → Row) : Row := fun d => ∑ k, unit h (up k) * dn k d

/-- The sublayer's output for a row: the input plus the gated network. -/
def gated (x g y : Row) : Row := fun d => x d + g d * y d

/-- Row `j` of the six modulation rows of a sequence. -/
def part (a : Shape.Idx ⟨2, ![8, 6144]⟩ → EReal) (j : Fin 6) (b : Fin 8) : Row := fun d => a (ix2 b ⟨1024 * j.val + d.val, by omega⟩)

/-- The modulated norm of a token, scaled by row `j` and shifted by row `k` of the modulation. -/
def normRow (x : Shape.Idx ⟨3, ![8, 2048, 1024]⟩ → EReal) (a : Shape.Idx ⟨2, ![8, 6144]⟩ → EReal) (w : Shape.Idx ⟨1, ![1024]⟩ → EReal)
    (j k : Fin 6) (b : Fin 8) (t : Fin 2048) : Row :=
  modded (fun d => x (ix3 b t d)) (fun d => w (ix1 d)) (part a j b) (part a k b)

/-- The token that row `r` of the `q`-th block of `w` rows stands for. -/
def tok (w q r : ℕ) : Fin 16384 := ⟨(w * q + r) % 16384, by omega⟩

/-- Its sequence. -/
def seqOf (n : Fin 16384) : Fin 8 := ⟨n.val / 2048, by omega⟩

/-- Its place in the sequence. -/
def posOf (n : Fin 16384) : Fin 2048 := ⟨n.val % 2048, by omega⟩

/-- A sum over 4096 places, taken in four runs of 1024. -/
theorem sum_quarters (f : ℕ → EReal) :
    ∑ j ∈ Finset.range 4, ∑ k : Fin 1024, f (1024 * j + k.val) = ∑ k : Fin 4096, f k.val := by
  have step : ∀ j, ∑ j ∈ Finset.range j, ∑ k : Fin 1024, f (1024 * j + k.val) = ∑ i ∈ Finset.range (1024 * j), f i := fun j => by
    induction j with
    | zero => simp
    | succ j ih =>
      rw [Finset.sum_range_succ, ih, Nat.mul_succ, Finset.sum_range_add]
      exact congrArg _ (Fin.sum_univ_eq_sum_range (fun k => f (1024 * j + k)) 1024)
  rw [step, Fin.sum_univ_eq_sum_range f 4096]

end Cert.Rows

end
-- ==== Proof.MlpRef.lean ====
/- What the reference of the squared-ReLU network computes at an index. -/
module

public import proofs.«01_k».proof.Proof.Rows
public import proofs.«01_k».proof.Proof.Gen.Reference2Ideal.Read
public import Idealize.ShloMosaic.Lib.Pipeline.ValueKit
public import Idealize.ShloMosaic.Lib.StableHlo.ReadAt
public import Idealize.ShloMosaic.Lib.Claim

@[expose] public section

set_option maxRecDepth 16384

noncomputable section

namespace Cert.Reference2Ideal.Mlp

open Idealize.ShloMosaic Idealize.ShloMosaic.Tactic Cert.Reference2Ideal Cert.Reference2Ideal.Read Cert.Rows

variable (x0 : S8x2048x1024.Idx → EReal) (x1 : S8x6144.Idx → EReal) (x2 : S1024.Idx → EReal)
  (x3 : S1024x4096.Idx → EReal) (x4 : S4096x1024.Idx → EReal) (x5 : S1024.Idx → EReal)

/-- The modulated norm of a token. -/
def hRow (b : Fin 8) (t : Fin 2048) : Row :=
  normRow x0 x1 x2 4 3 b t

/-- A token after the sublayer. -/
def yRow (b : Fin 8) (t : Fin 2048) : Row :=
  gated (fun d => x0 (ix3 b t d)) (part x1 5 b) (mlp (hRow x0 x1 x2 b t) (fun k d => x3 (ix2 d k)) (fun k d => x4 (ix2 k d)))

/-- The modulated norm, as the reference computes it. -/
theorem v25_apply (b : Fin 8) (t : Fin 2048) (d : Fin 1024) : val_main_v25 (F := Ideal) x0 x1 x2 (ix3 b t d) = hRow x0 x1 x2 b t d := by
  pointwise [val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v5, val_main_v4, val_main_v0, val_main_cst, val_main_cst_0, val_main_cst_1, val_main_cst_2]
  rfl

/-- The residual sum, as the reference computes it. -/
theorem v32_apply (b : Fin 8) (t : Fin 2048) (d : Fin 1024) :
    val_main_v32 (F := Ideal) x0 x1 x2 x3 x4 (ix3 b t d) = yRow x0 x1 x2 x3 x4 b t d := by
  pointwise [val_main_v32, val_main_v31, val_main_v30, val_main_v29, val_main_v28, val_main_v27, val_main_v26, val_main_v6, val_main_v0,
    val_main_call0_v0, val_main_call0_cst]
  simp only [v25_apply]
  rfl

/-- The result, as the reference computes it: the closing norm of the residual sum. -/
theorem result_apply (n : Fin 16384) (d : Fin 1024) :
    val_main_v46 (F := Ideal) x0 x1 x2 x3 x4 x5 (ix2 n d)
      = rms (yRow x0 x1 x2 x3 x4 (seqOf n) (posOf n)) (fun d => x5 (ix1 d)) d := by
  pointwise [val_main_v46, val_main_v45, val_main_v44, val_main_v43, val_main_v42, val_main_v41, val_main_v40, val_main_v39, val_main_v38,
    val_main_v37, val_main_v36, val_main_v35, val_main_v34, val_main_v33, val_main_cst_3, val_main_cst_4, val_main_cst_5]
  simp only [v32_apply]
  rfl

end Cert.Reference2Ideal.Mlp

end
-- ==== Proof.MlpArr.lean ====
/- The network kernel's result array: block by block, what the reference computes. -/
module

public import proofs.«01_k».proof.Proof.MlpRef
public import proofs.«01_k».proof.Proof.Gen.Kernel2Ideal.Value
public import Idealize.ShloMosaic.Lib.Pipeline.ReadBack
public import Idealize.ShloMosaic.Lib.Pipeline.ValueKit.Held

@[expose] public section

set_option maxRecDepth 16384

noncomputable section

namespace Cert.Kernel2Ideal.Mlp

open Idealize.ShloMosaic Idealize.ShloMosaic.TcCoe Idealize.ShloMosaic.Tactic Cert.Kernel2Ideal Cert.Kernel2Ideal.Gen Cert.Rows
open Idealize.SL.Sem
open Cert.Reference2Ideal.Mlp (hRow yRow)

variable (m : (ℓ : Loc nD τ sig) → Buf (Elt Ideal) ℓ) (c : Dev nD)

/-- The tokens. -/
abbrev A0 : S8x2048x1024.Idx → EReal := m ((c : Thread nD τ).loc main_arg0)
/-- The modulation. -/
abbrev A1 : S8x6144.Idx → EReal := m ((c : Thread nD τ).loc main_arg1)
/-- The norm's weights. -/
abbrev A2 : S1024.Idx → EReal := m ((c : Thread nD τ).loc main_arg2)
/-- The weights into the hidden units. -/
abbrev A3 : S1024x4096.Idx → EReal := m ((c : Thread nD τ).loc main_arg3)
/-- The weights out of the hidden units. -/
abbrev A4 : S4096x1024.Idx → EReal := m ((c : Thread nD τ).loc main_arg4)
/-- The closing norm's weights. -/
abbrev A5 : S1024.Idx → EReal := m ((c : Thread nD τ).loc main_arg5)

/-- Hidden unit `x` of run `j`. -/
def hid (j : ℕ) (x : Fin 1024) : Fin 4096 := ⟨(1024 * j + x.val) % 4096, by omega⟩

/-- The tokens the region reads, one row each. -/
theorem V0_apply (n : Fin 16384) (d : Fin 1024) : V m c main_v0 (ix2 n d) = A0 m c (ix3 (seqOf n) (posOf n) d) := by
  unfold V
  after_results
  pointwise
  rfl

/-- The modulation the region reads, six rows a sequence. -/
theorem V1_apply (b : Fin 8) (j : Fin 6) (d : Fin 1024) : V m c main_v1 (ix3 b j d) = part (A1 m c) j b d := by
  unfold V part
  after_results
  pointwise
  blk_ext

/-- The norm's weights the region reads. -/
theorem V4_apply (d : Fin 1024) : V m c main_v4 (ix2 0 d) = A2 m c (ix1 d) := by
  unfold V
  after_results
  pointwise

/-- The closing norm's weights the region reads. -/
theorem V5_apply (d : Fin 1024) : V m c main_v5 (ix2 0 d) = A5 m c (ix1 d) := by
  unfold V
  after_results
  pointwise

/-- Where each window's block lies at a grid point. -/
theorem idx_w : ∀ t : Fin cfg0.N, win0_0.index t = ![t.val / 4, 0] ∧ win0_1.index t = ![t.val / 8, 0, 0] ∧ win0_2.index t = ![0, 0]
    ∧ win0_3.index t = ![0, t.val % 4] ∧ win0_4.index t = ![t.val % 4, 0] ∧ win0_5.index t = ![0, 0] ∧ win0_6.index t = ![t.val / 4, 0] :=
  (by decide +kernel : ∀ t : Fin grid0.N, _)

/-- The block of tokens. -/
theorem iblk0 (t : Fin cfg0.N) (r d : Fin 1024) :
    iblk m c 0 t (ix2 r d : S1024x1024.Idx) = A0 m c (ix3 (seqOf (tok 1024 (t.val / 4) r.val)) (posOf (tok 1024 (t.val / 4) r.val)) d) := by
  have ht : t.val < 64 := lt_of_lt_of_eq t.isLt N_0
  rw [← V0_apply]
  unfold tok
  blk_ext [iblk, (idx_w t).1]

/-- The modulation rows of a block. -/
theorem iblk1 (t : Fin cfg0.N) (j : Fin 6) (r d : Fin 1024) :
    iblk m c 1 t (ix3 0 j d : S1x6x1024.Idx) = part (A1 m c) j (seqOf (tok 1024 (t.val / 4) r.val)) d := by
  have ht : t.val < 64 := lt_of_lt_of_eq t.isLt N_0
  rw [← V1_apply]
  unfold tok seqOf
  blk_ext [iblk, (idx_w t).2.1]

/-- The norm's weights in a block. -/
theorem iblk2 (t : Fin cfg0.N) (d : Fin 1024) : iblk m c 2 t (ix2 0 d : S1x1024.Idx) = A2 m c (ix1 d) := by
  rw [← V4_apply]
  blk_ext [iblk, (idx_w t).2.2.1]

/-- The weights into a run of hidden units. -/
theorem iblk3 (t : Fin cfg0.N) (d x : Fin 1024) : iblk m c 3 t (ix2 d x : S1024x1024.Idx) = A3 m c (ix2 d (hid (t.val % 4) x)) := by
  unfold hid
  blk_ext [iblk, V, (idx_w t).2.2.2.1]

/-- The weights out of a run of hidden units. -/
theorem iblk4 (t : Fin cfg0.N) (x d : Fin 1024) : iblk m c 4 t (ix2 x d : S1024x1024.Idx) = A4 m c (ix2 (hid (t.val % 4) x) d) := by
  unfold hid
  blk_ext [iblk, V, (idx_w t).2.2.2.2.1]

/-- The closing norm's weights in a block. -/
theorem iblk5 (t : Fin cfg0.N) (d : Fin 1024) : iblk m c 5 t (ix2 0 d : S1x1024.Idx) = A5 m c (ix1 d) := by
  rw [← V5_apply]
  blk_ext [iblk, (idx_w t).2.2.2.2.2.1]

/-- The modulated norm of a token. -/
abbrev H (n : Fin 16384) : Row := hRow (A0 m c) (A1 m c) (A2 m c) (seqOf n) (posOf n)

/-- One run of hidden units' share of the network's output. -/
def share (j : ℕ) (h : Row) : Row := fun d =>
  ∑ x, unit h (fun k => A3 m c (ix2 k (hid j x))) * A4 m c (ix2 (hid j x) d)

/-- The norm a block starts with. -/
theorem pay1_eq (t : Fin cfg0.N) (i0 i1) : k0_pay1 (F := Ideal) (iblk m c 0 t) (iblk m c 2 t)
    (View.ld (iblk m c 1 t) (Rect.unit (s := S1x6x1024) ![0, 4, 0] ![1, 1, 1024] i0)) (View.ld (iblk m c 1 t) (Rect.unit (s := S1x6x1024) ![0, 3, 0] ![1, 1, 1024] i1))
    = fun y => H m c (tok 1024 (t.val / 4) (y 0).val) (y 1) := by
  funext y
  obtain ⟨r, d, rfl⟩ : ∃ r d : Fin 1024, y = ix2 r d := ⟨y 0, y 1, by funext a; fin_cases a <;> rfl⟩
  pointwise [k0_pay1]
  simp only [iblk0, iblk2]
  rw [show iblk m c 1 t (ix3 0 4 d : S1x6x1024.Idx) = _ from iblk1 m c t 4 r d, show iblk m c 1 t (ix3 0 3 d : S1x6x1024.Idx) = _ from iblk1 m c t 3 r d]
  rfl

/-- What a run of hidden units adds. -/
theorem pay3_eq (t : Fin cfg0.N) (h : FVec Ideal S1024x1024 .bf16) (a : FVec Ideal S1024x1024 .f32) (r d : Fin 1024) :
    k0_pay3 (F := Ideal) h (iblk m c 3 t) a (iblk m c 4 t) (ix2 r d) = a (ix2 r d) + share m c (t.val % 4) (fun k => h (ix2 r k)) d := by
  pointwise [k0_pay3]
  simp only [iblk3, iblk4]
  rfl

/-- The norm the kernel keeps in scratch through the runs of a block. -/
theorem held (t : Fin cfg0.N) : (outsAt0 m c t.val t.isLt).2.1 = fun y => H m c (tok 1024 (t.val / 4) (y 0).val) (y 1) := by
  refine (Pipeline.eq_of_write_hold (fun n h => (outsAt0 m c n h).2.1) 4 (fun t y => H m c (tok 1024 (t.val / 4) (y 0).val) (y 1)) (fun t h => ?_) (fun t h => ?_) t).trans ?_
  · rw [outsAt0_A m c t h (by omega)]
    frame_out
    exact pay1_eq m c t _ _
  · by_cases h3 : t.val % 4 = 3
    · rw [outsAt0_C m c t h h3]
      frame_out
      rfl
    · rw [outsAt0_B m c t h h3]
      frame_out
      rfl
  · rw [show 4 * (t.val / 4) / 4 = t.val / 4 by omega]

/-- The sum the kernel keeps in scratch, after the runs so far. -/
theorem acc_apply (t : Fin cfg0.N) (ht : t.val % 4 = 3) (r d : Fin 1024) :
    (outsAt0 m c t.val t.isLt).2.2 (ix2 r d) = mlp (H m c (tok 1024 (t.val / 4) r.val)) (fun k d => A3 m c (ix2 d k)) (fun k d => A4 m c (ix2 k d)) d := by
  have key := Pipeline.eq_sum_of_reset_step_of_mod (fun n h => (outsAt0 m c n h).2.2 (ix2 r d)) 4 0
    (fun n => share m c (n % 4) (H m c (tok 1024 (n / 4) r.val)) d) (fun t h => ?_) (fun t h => ?_) t ht
  · rw [key, zero_add]
    refine Eq.trans (Finset.sum_congr rfl fun j hj => ?_) ((sum_quarters fun n =>
      unit (H m c (tok 1024 (t.val / 4) r.val)) (fun k => A3 m c (ix2 k ⟨n % 4096, by omega⟩)) * A4 m c (ix2 ⟨n % 4096, by omega⟩ d)).trans
        (Finset.sum_congr rfl fun k _ => ?_))
    · have hj : j < 4 := Finset.mem_range.mp hj
      rw [show (4 * (t.val / 4) + j) % 4 = j by omega, show (4 * (t.val / 4) + j) / 4 = t.val / 4 by omega]
      rfl
    · rw [show (⟨k.val % 4096, by omega⟩ : Fin 4096) = k from Fin.ext (by show k.val % 4096 = k.val; omega)]
  · rw [outsAt0_A m c t h (by omega)]
    frame_out
    rw [pay3_eq, pay1_eq]
    refine congrArg (· + _) ?_
    pointwise [k0_pay2]
  · have hp := held m c ⟨t.val - 1, Nat.lt_of_le_of_lt (Nat.sub_le _ _) t.isLt⟩
    have hq : (outsAt0 m c (t.val - 1) (Nat.lt_of_le_of_lt (Nat.sub_le _ _) t.isLt)).2.1 = fun y => H m c (tok 1024 (t.val / 4) (y 0).val) (y 1) := by
      rw [show t.val / 4 = (t.val - 1) / 4 by omega]
      exact hp
    by_cases h3 : t.val % 4 = 3
    · rw [outsAt0_C m c t h h3]
      frame_out
      simp only [read_unread_whole]
      rw [pay3_eq, hq]
      rfl
    · rw [outsAt0_B m c t h h3]
      frame_out
      simp only [read_unread_whole]
      rw [pay3_eq, hq]
      rfl

/-- What the last run of a block writes, from the sum in scratch. -/
theorem out_eq (t : Fin cfg0.N) (h : t.val % 4 = 3) : (outsAt0 m c t.val t.isLt).1
    = k0_pay4 (F := Ideal) (iblk m c 0 t) (View.ld (iblk m c 1 t) (Rect.unit (s := S1x6x1024) ![0, 5, 0] ![1, 1, 1024] inb_S1x6x1024_S1x1x1024_0_5_0)) (outsAt0 m c t.val t.isLt).2.2 (iblk m c 5 t) := by
  rw [outsAt0_C m c t (by omega) h]
  frame_out
  rfl

/-- A row of the block the kernel writes. -/
theorem out_apply (t : Fin cfg0.N) (h : t.val % 4 = 3) (r d : Fin 1024) : (outsAt0 m c t.val t.isLt).1 (ix2 r d)
    = Cert.Reference2Ideal.Read.val_main_v46 (F := Ideal) (A0 m c) (A1 m c) (A2 m c) (A3 m c) (A4 m c) (A5 m c) (ix2 (tok 1024 (t.val / 4) r.val) d) := by
  rw [out_eq m c t h, Cert.Reference2Ideal.Mlp.result_apply]
  pointwise [k0_pay4]
  simp only [iblk0, iblk5, acc_apply m c t h, fun d => show iblk m c 1 t (ix3 0 5 d : S1x6x1024.Idx) = _ from iblk1 m c t 5 r d]
  rfl

/-- The kernel's result array is the reference's. -/
theorem arr_eq : (dats m 0 c).arrAt 6 cfg0.N
    = Cert.Reference2Ideal.Read.val_main_v46 (F := Ideal) (A0 m c) (A1 m c) (A2 m c) (A3 m c) (A4 m c) (A5 m c) := by
  refine (dats m 0 c).arrAt_eq_of_covers 6 _ (by decide +kernel) fun t hf y => ?_
  have hN : t.val < 64 := lt_of_lt_of_eq t.isLt N_0
  have h0 : (y 0).val < 1024 := (y 0).isLt
  have h1 : (y 1).val < 1024 := (y 1).isLt
  blk_simp
  rw [after0_6]
  refine Eq.trans (congrArg _ (funext fun a => ?_)) ((out_apply m c t ((flush0_6 t).mp hf) ⟨(y 0).val, h0⟩ ⟨(y 1).val, h1⟩).trans (congrArg _ (funext fun a => Fin.ext ?_)))
  · fin_cases a <;> rfl
  · fin_cases a
    · blk_simp [(idx_w t).2.2.2.2.2.2]
      show (1024 * (t.val / 4) + (y 0).val) % 16384 = t.val / 4 * 1024 + (y 0).val
      omega
    · blk_simp [(idx_w t).2.2.2.2.2.2]
      rfl

end Cert.Kernel2Ideal.Mlp

end
-- ==== Proof.Merge.lean ====
/- The merge: what its reference computes at an index, and that the kernel's result array is that. -/
module

public import proofs.«01_k».proof.Proof.Rows
public import proofs.«01_k».proof.Proof.Gen.Kernel3Ideal.Value
public import proofs.«01_k».proof.Proof.Gen.Reference3Ideal.Read
public import Idealize.ShloMosaic.Lib.StableHlo.ReadAt
public import Idealize.ShloMosaic.Lib.Claim

@[expose] public section

set_option maxRecDepth 16384

noncomputable section

namespace Cert.Kernel3Ideal.Merge

open Idealize.ShloMosaic Idealize.ShloMosaic.TcCoe Idealize.ShloMosaic.Tactic Cert.Kernel3Ideal Cert.Kernel3Ideal.Gen Cert.Rows
open Idealize.SL.Sem

section Reference
open Cert.Reference3Ideal Cert.Reference3Ideal.Read

variable (x0 : S8x2048x1024.Idx → EReal) (x1 : S8x6144.Idx → EReal) (x2 : S8x2048x1024.Idx → EReal) (x3 x4 : S8x2048x512.Idx → EReal)
  (x5 : S8x2048x3072.Idx → EReal) (x6 : S1024x1024.Idx → EReal) (x7 x8 : S512x1024.Idx → EReal) (x9 : S1024x1024.Idx → EReal)

/-- The opening value of a gate. -/
def gate (b : Fin 8) (t : Fin 2048) (j : Fin 3) (k : Fin 1024) : EReal := Ideal.logistic (x5 (ix3 b t ⟨1024 * j.val + k.val, by omega⟩))

/-- The merged branches of a token: each branch's product with its weights, times its gate. -/
def merged (b : Fin 8) (t : Fin 2048) : Row := fun k =>
  gate x5 b t 0 k * ∑ i, x2 (ix3 b t i) * x6 (ix2 i k) + gate x5 b t 1 k * ∑ i, x3 (ix3 b t i) * x7 (ix2 i k)
    + gate x5 b t 2 k * ∑ i, x4 (ix3 b t i) * x8 (ix2 i k)

/-- A token after the sublayer. -/
def mergeRow (b : Fin 8) (t : Fin 2048) : Row :=
  gated (fun d => x0 (ix3 b t d)) (part x1 2 b) fun d => ∑ k, merged x2 x3 x4 x5 x6 x7 x8 b t k * x9 (ix2 k d)

/-- The result, as the reference computes it. -/
theorem result_apply (n : Fin 16384) (d : Fin 1024) :
    val_main_v28 (F := Ideal) x0 x1 x2 x3 x4 x5 x6 x7 x8 x9 (ix2 n d) = mergeRow x0 x1 x2 x3 x4 x5 x6 x7 x8 x9 (seqOf n) (posOf n) d := by
  pointwise [val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v9, val_main_v8, val_main_v7, val_main_v3, val_main_v0, val_main_cst, val_main_cst_0]
  unfold mergeRow gated merged gate
  simp only [show ∀ k : Fin 1024, (⟨1024 * (0 : Fin 3).val + k.val, by show 1024 * 0 + k.val < 3072; omega⟩ : Fin 3072) = ⟨k.val, by omega⟩ from fun k => Fin.ext (by show 1024 * 0 + k.val = k.val; omega)]
  rfl

end Reference

variable (m : (ℓ : Loc nD τ sig) → Buf (Elt Ideal) ℓ) (c : Dev nD)

/-- The tokens. -/
abbrev A0 : S8x2048x1024.Idx → EReal := m ((c : Thread nD τ).loc main_arg0)
/-- The modulation. -/
abbrev A1 : S8x6144.Idx → EReal := m ((c : Thread nD τ).loc main_arg1)
/-- The first branch. -/
abbrev A2 : S8x2048x1024.Idx → EReal := m ((c : Thread nD τ).loc main_arg2)
/-- The second branch. -/
abbrev A3 : S8x2048x512.Idx → EReal := m ((c : Thread nD τ).loc main_arg3)
/-- The third branch. -/
abbrev A4 : S8x2048x512.Idx → EReal := m ((c : Thread nD τ).loc main_arg4)
/-- The gates before the logistic function. -/
abbrev A5 : S8x2048x3072.Idx → EReal := m ((c : Thread nD τ).loc main_arg5)
/-- The first branch's weights. -/
abbrev A6 : S1024x1024.Idx → EReal := m ((c : Thread nD τ).loc main_arg6)
/-- The second branch's weights. -/
abbrev A7 : S512x1024.Idx → EReal := m ((c : Thread nD τ).loc main_arg7)
/-- The third branch's weights. -/
abbrev A8 : S512x1024.Idx → EReal := m ((c : Thread nD τ).loc main_arg8)
/-- The output weights. -/
abbrev A9 : S1024x1024.Idx → EReal := m ((c : Thread nD τ).loc main_arg9)

/-- The tokens the region reads, one row each. -/
theorem V0_apply (n : Fin 16384) (d : Fin 1024) : V m c main_v0 (ix2 n d) = A0 m c (ix3 (seqOf n) (posOf n) d) := by
  unfold V
  after_results
  pointwise
  rfl

/-- The modulation the region reads, six rows a sequence. -/
theorem V1_apply (b : Fin 8) (j : Fin 6) (d : Fin 1024) : V m c main_v1 (ix3 b j d) = part (A1 m c) j b d := by
  unfold V part
  after_results
  pointwise
  blk_ext

/-- The first branch the region reads. -/
theorem V3_apply (n : Fin 16384) (d : Fin 1024) : V m c main_v3 (ix2 n d) = A2 m c (ix3 (seqOf n) (posOf n) d) := by
  unfold V
  after_results
  pointwise
  rfl

/-- The second branch the region reads. -/
theorem V5_apply (n : Fin 16384) (d : Fin 512) : V m c main_v5 (ix2 n d) = A3 m c (ix3 (seqOf n) (posOf n) d) := by
  unfold V
  after_results
  pointwise
  rfl

/-- The third branch the region reads. -/
theorem V7_apply (n : Fin 16384) (d : Fin 512) : V m c main_v7 (ix2 n d) = A4 m c (ix3 (seqOf n) (posOf n) d) := by
  unfold V
  after_results
  pointwise
  rfl

/-- The gates the region reads. -/
theorem V8_apply (n : Fin 16384) (j : Fin 3072) : V m c main_v8 (ix2 n j) = A5 m c (ix3 (seqOf n) (posOf n) j) := by
  unfold V
  after_results
  pointwise
  rfl

/-- Where each window's block lies at a grid point. -/
theorem idx_w : ∀ t : Fin cfg0.N, (win0_0.index t = ![t.val, 0] ∧ win0_1.index t = ![t.val / 4, 0, 0] ∧ win0_2.index t = ![t.val, 0]
    ∧ win0_3.index t = ![t.val, 0] ∧ win0_4.index t = ![t.val, 0] ∧ win0_5.index t = ![t.val, 0] ∧ win0_6.index t = ![t.val, 1] ∧ win0_7.index t = ![t.val, 2])
    ∧ (win0_8.index t = ![0, 0] ∧ win0_9.index t = ![0, 0] ∧ win0_10.index t = ![0, 0] ∧ win0_11.index t = ![0, 0]) ∧ win0_12.index t = ![t.val, 0] :=
  (by decide +kernel : ∀ t : Fin grid0.N, _)

/-- The block of tokens. -/
theorem iblk0 (t : Fin cfg0.N) (r : Fin 512) (d : Fin 1024) :
    iblk m c 0 t (ix2 r d : S512x1024.Idx) = A0 m c (ix3 (seqOf (tok 512 t.val r.val)) (posOf (tok 512 t.val r.val)) d) := by
  have ht : t.val < 32 := lt_of_lt_of_eq t.isLt N_0
  rw [← V0_apply]
  unfold tok
  blk_ext [iblk, (idx_w t).1.1]

/-- The modulation rows of a block. -/
theorem iblk1 (t : Fin cfg0.N) (j : Fin 6) (r : Fin 512) (d : Fin 1024) :
    iblk m c 1 t (ix3 0 j d : S1x6x1024.Idx) = part (A1 m c) j (seqOf (tok 512 t.val r.val)) d := by
  have ht : t.val < 32 := lt_of_lt_of_eq t.isLt N_0
  rw [← V1_apply]
  unfold tok seqOf
  blk_ext [iblk, (idx_w t).1.2.1]

/-- The first branch in a block. -/
theorem iblk2 (t : Fin cfg0.N) (r : Fin 512) (d : Fin 1024) :
    iblk m c 2 t (ix2 r d : S512x1024.Idx) = A2 m c (ix3 (seqOf (tok 512 t.val r.val)) (posOf (tok 512 t.val r.val)) d) := by
  have ht : t.val < 32 := lt_of_lt_of_eq t.isLt N_0
  rw [← V3_apply]
  unfold tok
  blk_ext [iblk, (idx_w t).1.2.2.1]

/-- The second branch in a block. -/
theorem iblk3 (t : Fin cfg0.N) (r : Fin 512) (d : Fin 512) :
    iblk m c 3 t (ix2 r d : S512x512.Idx) = A3 m c (ix3 (seqOf (tok 512 t.val r.val)) (posOf (tok 512 t.val r.val)) d) := by
  have ht : t.val < 32 := lt_of_lt_of_eq t.isLt N_0
  rw [← V5_apply]
  unfold tok
  blk_ext [iblk, (idx_w t).1.2.2.2.1]

/-- The third branch in a block. -/
theorem iblk4 (t : Fin cfg0.N) (r : Fin 512) (d : Fin 512) :
    iblk m c 4 t (ix2 r d : S512x512.Idx) = A4 m c (ix3 (seqOf (tok 512 t.val r.val)) (posOf (tok 512 t.val r.val)) d) := by
  have ht : t.val < 32 := lt_of_lt_of_eq t.isLt N_0
  rw [← V7_apply]
  unfold tok
  blk_ext [iblk, (idx_w t).1.2.2.2.2.1]

/-- The first branch's gates in a block. -/
theorem iblk5 (t : Fin cfg0.N) (r : Fin 512) (d : Fin 1024) : Ideal.logistic (iblk m c 5 t (ix2 r d : S512x1024.Idx) : EReal)
    = gate (A5 m c) (seqOf (tok 512 t.val r.val)) (posOf (tok 512 t.val r.val)) 0 d := by
  have ht : t.val < 32 := lt_of_lt_of_eq t.isLt N_0
  unfold gate
  rw [← V8_apply]
  unfold tok
  refine congrArg Ideal.logistic ?_
  blk_ext [iblk, (idx_w t).1.2.2.2.2.2.1]

/-- The second branch's gates in a block. -/
theorem iblk6 (t : Fin cfg0.N) (r : Fin 512) (d : Fin 1024) : Ideal.logistic (iblk m c 6 t (ix2 r d : S512x1024.Idx) : EReal)
    = gate (A5 m c) (seqOf (tok 512 t.val r.val)) (posOf (tok 512 t.val r.val)) 1 d := by
  have ht : t.val < 32 := lt_of_lt_of_eq t.isLt N_0
  unfold gate
  rw [← V8_apply]
  unfold tok
  refine congrArg Ideal.logistic ?_
  blk_ext [iblk, (idx_w t).1.2.2.2.2.2.2.1]

/-- The third branch's gates in a block. -/
theorem iblk7 (t : Fin cfg0.N) (r : Fin 512) (d : Fin 1024) : Ideal.logistic (iblk m c 7 t (ix2 r d : S512x1024.Idx) : EReal)
    = gate (A5 m c) (seqOf (tok 512 t.val r.val)) (posOf (tok 512 t.val r.val)) 2 d := by
  have ht : t.val < 32 := lt_of_lt_of_eq t.isLt N_0
  unfold gate
  rw [← V8_apply]
  unfold tok
  refine congrArg Ideal.logistic ?_
  blk_ext [iblk, (idx_w t).1.2.2.2.2.2.2.2]

/-- The first branch's weights in a block. -/
theorem iblk8 (t : Fin cfg0.N) (i d : Fin 1024) : iblk m c 8 t (ix2 i d : S1024x1024.Idx) = A6 m c (ix2 i d) := by
  blk_ext [iblk, V, (idx_w t).2.1.1]

/-- The second branch's weights in a block. -/
theorem iblk9 (t : Fin cfg0.N) (i : Fin 512) (d : Fin 1024) : iblk m c 9 t (ix2 i d : S512x1024.Idx) = A7 m c (ix2 i d) := by
  blk_ext [iblk, V, (idx_w t).2.1.2.1]

/-- The third branch's weights in a block. -/
theorem iblk10 (t : Fin cfg0.N) (i : Fin 512) (d : Fin 1024) : iblk m c 10 t (ix2 i d : S512x1024.Idx) = A8 m c (ix2 i d) := by
  blk_ext [iblk, V, (idx_w t).2.1.2.2.1]

/-- The output weights in a block. -/
theorem iblk11 (t : Fin cfg0.N) (i d : Fin 1024) : iblk m c 11 t (ix2 i d : S1024x1024.Idx) = A9 m c (ix2 i d) := by
  blk_ext [iblk, V, (idx_w t).2.1.2.2.2]

/-- A row of the block the kernel writes. -/
theorem out_apply (t : Fin cfg0.N) (r : Fin 512) (d : Fin 1024) :
    out0_12 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 r d)
      = Cert.Reference3Ideal.Read.val_main_v28 (F := Ideal) (A0 m c) (A1 m c) (A2 m c) (A3 m c) (A4 m c) (A5 m c) (A6 m c) (A7 m c) (A8 m c) (A9 m c)
        (ix2 (tok 512 t.val r.val) d) := by
  rw [result_apply]
  unfold out0_12
  frame_out
  pointwise [k0_pay1, k0_pay2, k0_pay3, k0_pay4]
  simp only [iblk0, iblk2, iblk3, iblk4, iblk5, iblk6, iblk7, iblk8, iblk9, iblk10, iblk11]
  rw [show iblk m c 1 t (ix3 0 2 d : S1x6x1024.Idx) = _ from iblk1 m c t 2 r d]
  rfl

/-- The kernel's result array is the reference's. -/
theorem arr_eq : (dats m 0 c).arrAt 12 cfg0.N
    = Cert.Reference3Ideal.Read.val_main_v28 (F := Ideal) (A0 m c) (A1 m c) (A2 m c) (A3 m c) (A4 m c) (A5 m c) (A6 m c) (A7 m c) (A8 m c) (A9 m c) := by
  refine (dats m 0 c).arrAt_eq_of_covers 12 _ (by decide +kernel) fun t hf y => ?_
  have hN : t.val < 32 := lt_of_lt_of_eq t.isLt N_0
  have h0 : (y 0).val < 512 := (y 0).isLt
  have h1 : (y 1).val < 1024 := (y 1).isLt
  blk_simp
  rw [after0_12]
  refine Eq.trans (congrArg _ (funext fun a => ?_)) ((out_apply m c t ⟨(y 0).val, h0⟩ ⟨(y 1).val, h1⟩).trans (congrArg _ (funext fun a => Fin.ext ?_)))
  · fin_cases a <;> rfl
  · fin_cases a
    · blk_simp [(idx_w t).2.2]
      show (512 * t.val + (y 0).val) % 16384 = t.val * 512 + (y 0).val
      omega
    · blk_simp [(idx_w t).2.2]
      rfl

end Cert.Kernel3Ideal.Merge

end
-- ==== Proof.Gates.lean ====
/- The gates' projection: what its reference computes at an index, and that the kernel's result array is that. -/
module

public import proofs.«01_k».proof.Proof.Rows
public import proofs.«01_k».proof.Proof.Gen.Kernel4Ideal.Value
public import proofs.«01_k».proof.Proof.Gen.Reference4Ideal.Read
public import Idealize.ShloMosaic.Lib.StableHlo.ReadAt
public import Idealize.ShloMosaic.Lib.Claim

@[expose] public section

set_option maxRecDepth 16384

noncomputable section

namespace Cert.Kernel4Ideal.Gates

open Idealize.ShloMosaic Idealize.ShloMosaic.TcCoe Idealize.ShloMosaic.Tactic Cert.Kernel4Ideal Cert.Kernel4Ideal.Gen Cert.Rows
open Idealize.SL.Sem

section Reference
open Cert.Reference4Ideal Cert.Reference4Ideal.Read

variable (x0 : S8x2048x1024.Idx → EReal) (x1 : S8x6144.Idx → EReal) (x2 : S1024.Idx → EReal) (x3 : S1024x8536.Idx → EReal)

/-- The modulated norm, as the reference computes it. -/
theorem v25_apply (b : Fin 8) (t : Fin 2048) (d : Fin 1024) : val_main_v25 (F := Ideal) x0 x1 x2 (ix3 b t d) = normRow x0 x1 x2 1 0 b t d := by
  pointwise [val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v2, val_main_v1, val_main_v0, val_main_cst, val_main_cst_0, val_main_cst_1, val_main_cst_2]
  unfold normRow modded part
  simp only [show (⟨1024 * (0 : Fin 6).val + d.val, by show 1024 * 0 + d.val < 6144; omega⟩ : Fin 6144) = ⟨d.val, by omega⟩ from Fin.ext (by show 1024 * 0 + d.val = d.val; omega)]
  rfl

/-- The result, as the reference computes it. -/
theorem result_apply (n : Fin 16384) (j : Fin 3072) :
    val_main_v28 (F := Ideal) x0 x1 x2 x3 (ix2 n j) = ∑ k, normRow x0 x1 x2 1 0 (seqOf n) (posOf n) k * x3 (ix2 k ⟨5464 + j.val, by omega⟩) := by
  pointwise [val_main_v28, val_main_v27, val_main_v26]
  simp only [v25_apply]
  rfl

end Reference

variable (m : (ℓ : Loc nD τ sig) → Buf (Elt Ideal) ℓ) (c : Dev nD)

/-- The tokens. -/
abbrev A0 : S8x2048x1024.Idx → EReal := m ((c : Thread nD τ).loc main_arg0)
/-- The modulation. -/
abbrev A1 : S8x6144.Idx → EReal := m ((c : Thread nD τ).loc main_arg1)
/-- The norm's weights. -/
abbrev A2 : S1024.Idx → EReal := m ((c : Thread nD τ).loc main_arg2)
/-- The projection's weights. -/
abbrev A3 : S1024x8536.Idx → EReal := m ((c : Thread nD τ).loc main_arg3)

/-- The tokens the region reads, one row each. -/
theorem V0_apply (n : Fin 16384) (d : Fin 1024) : V m c main_v0 (ix2 n d) = A0 m c (ix3 (seqOf n) (posOf n) d) := by
  unfold V
  after_results
  pointwise
  rfl

/-- The modulation the region reads, six rows a sequence. -/
theorem V1_apply (b : Fin 8) (j : Fin 6) (d : Fin 1024) : V m c main_v1 (ix3 b j d) = part (A1 m c) j b d := by
  unfold V part
  after_results
  pointwise
  blk_ext

/-- The norm's weights the region reads. -/
theorem V4_apply (d : Fin 1024) : V m c main_v4 (ix2 0 d) = A2 m c (ix1 d) := by
  unfold V
  after_results
  pointwise

/-- The columns the region reads. -/
theorem V3_apply (k : Fin 1024) (j : Fin 3072) : V m c main_v3 (ix2 k j) = A3 m c (ix2 k ⟨5464 + j.val, by omega⟩) := by
  unfold V
  after_results
  pointwise

/-- Where each window's block lies at a grid point. -/
theorem idx_w : ∀ t : Fin cfg0.N, win0_0.index t = ![t.val, 0] ∧ win0_1.index t = ![t.val / 4, 0, 0] ∧ win0_2.index t = ![0, 0]
    ∧ win0_3.index t = ![0, 0] ∧ win0_4.index t = ![t.val, 0] :=
  (by decide +kernel : ∀ t : Fin grid0.N, _)

/-- The block of tokens. -/
theorem iblk0 (t : Fin cfg0.N) (r : Fin 512) (d : Fin 1024) :
    iblk m c 0 t (ix2 r d : S512x1024.Idx) = A0 m c (ix3 (seqOf (tok 512 t.val r.val)) (posOf (tok 512 t.val r.val)) d) := by
  have ht : t.val < 32 := lt_of_lt_of_eq t.isLt N_0
  rw [← V0_apply]
  unfold tok
  blk_ext [iblk, (idx_w t).1]

/-- The modulation rows of a block. -/
theorem iblk1 (t : Fin cfg0.N) (j : Fin 6) (r : Fin 512) (d : Fin 1024) :
    iblk m c 1 t (ix3 0 j d : S1x6x1024.Idx) = part (A1 m c) j (seqOf (tok 512 t.val r.val)) d := by
  have ht : t.val < 32 := lt_of_lt_of_eq t.isLt N_0
  rw [← V1_apply]
  unfold tok seqOf
  blk_ext [iblk, (idx_w t).2.1]

/-- The norm's weights in a block. -/
theorem iblk2 (t : Fin cfg0.N) (d : Fin 1024) : iblk m c 2 t (ix2 0 d : S1x1024.Idx) = A2 m c (ix1 d) := by
  rw [← V4_apply]
  blk_ext [iblk, (idx_w t).2.2.1]

/-- The columns in a block. -/
theorem iblk3 (t : Fin cfg0.N) (k : Fin 1024) (j : Fin 3072) : iblk m c 3 t (ix2 k j : S1024x3072.Idx) = A3 m c (ix2 k ⟨5464 + j.val, by omega⟩) := by
  rw [← V3_apply]
  blk_ext [iblk, (idx_w t).2.2.2.1]

/-- A row of the block the kernel writes. -/
theorem out_apply (t : Fin cfg0.N) (r : Fin 512) (j : Fin 3072) :
    out0_4 (F := Ideal) (iblk m c 0 t) (iblk m c 1 t) (iblk m c 2 t) (iblk m c 3 t) (ix2 r j)
      = Cert.Reference4Ideal.Read.val_main_v28 (F := Ideal) (A0 m c) (A1 m c) (A2 m c) (A3 m c) (ix2 (tok 512 t.val r.val) j) := by
  rw [result_apply]
  unfold out0_4
  frame_out
  pointwise [k0_pay1]
  simp only [iblk0, iblk2, iblk3, fun k => show iblk m c 1 t (ix3 0 0 k : S1x6x1024.Idx) = _ from iblk1 m c t 0 r k,
    fun k => show iblk m c 1 t (ix3 0 1 k : S1x6x1024.Idx) = _ from iblk1 m c t 1 r k]
  rfl

/-- The kernel's result array is the reference's. -/
theorem arr_eq : (dats m 0 c).arrAt 4 cfg0.N
    = Cert.Reference4Ideal.Read.val_main_v28 (F := Ideal) (A0 m c) (A1 m c) (A2 m c) (A3 m c) := by
  refine (dats m 0 c).arrAt_eq_of_covers 4 _ (by decide +kernel) fun t hf y => ?_
  have hN : t.val < 32 := lt_of_lt_of_eq t.isLt N_0
  have h0 : (y 0).val < 512 := (y 0).isLt
  have h1 : (y 1).val < 3072 := (y 1).isLt
  blk_simp
  rw [after0_4]
  refine Eq.trans (congrArg _ (funext fun a => ?_)) ((out_apply m c t ⟨(y 0).val, h0⟩ ⟨(y 1).val, h1⟩).trans (congrArg _ (funext fun a => Fin.ext ?_)))
  · fin_cases a <;> rfl
  · fin_cases a
    · blk_simp [(idx_w t).2.2.2.2]
      show (512 * t.val + (y 0).val) % 16384 = t.val * 512 + (y 0).val
      omega
    · blk_simp [(idx_w t).2.2.2.2]
      rfl

end Cert.Kernel4Ideal.Gates

end
-- ==== Proof.Qkv.lean ====
/- The stick-breaking attention's projection: what its reference computes at an index, and that the kernel's result array is that. -/
module

public import proofs.«01_k».proof.Proof.Gates
public import proofs.«01_k».proof.Proof.RefRead
public import proofs.«01_k».proof.Proof.Gen.Kernel5Ideal.Value
public import proofs.«01_k».proof.Proof.Gen.Reference5Ideal.Read
public import Idealize.ShloMosaic.Lib.StableHlo.ReadAt
public import Idealize.ShloMosaic.Lib.Claim

@[expose] public section

set_option maxRecDepth 16384

noncomputable section

namespace Cert.Kernel5Ideal.Qkv

open Idealize.ShloMosaic Idealize.ShloMosaic.TcCoe Idealize.ShloMosaic.Tactic Cert.Kernel5Ideal Cert.Kernel5Ideal.Gen Cert.Rows
open Idealize.SL.Sem

section Reference
open Cert.Reference5Ideal Cert.Reference5Ideal.Read

variable (x0 : S8x2048x1024.Idx → EReal) (x1 : S8x6144.Idx → EReal) (x2 : S1024.Idx → EReal) (x3 : S1024x8536.Idx → EReal)

/-- The modulated norm, as the reference computes it. -/
theorem v25_apply (b : Fin 8) (t : Fin 2048) (d : Fin 1024) : val_main_v25 (F := Ideal) x0 x1 x2 (ix3 b t d) = normRow x0 x1 x2 1 0 b t d :=
  Cert.Kernel4Ideal.Gates.v25_apply x0 x1 x2 b t d

/-- The factor of a column: the head width's reciprocal root on the queries, one elsewhere. -/
def fac (j : Fin 1536) : ℝ := if j.val < 512 then 1 / 8 else 1

/-- It is not negative. -/
theorem fac_nonneg (j : Fin 1536) : 0 ≤ fac j := by
  unfold fac
  split_ifs <;> norm_num

/-- On the queries. -/
theorem mul_lo (a : EReal) (j : Fin 1536) (h : j.val < 512) : a * Ideal.ofBits .f32 0x3E000000#32 = a * (fac j : EReal) := by
  rw [Cert.ReferenceIdeal.Att.eighth, show fac j = 1 / 8 from if_pos h]

/-- Elsewhere. -/
theorem mul_hi (a : EReal) (j : Fin 1536) (h : ¬ j.val < 512) : a = a * (fac j : EReal) := by
  rw [show fac j = 1 from if_neg h, EReal.coe_one, mul_one]

/-- The result, as the reference computes it. -/
theorem result_apply (n : Fin 16384) (j : Fin 1536) : val_main_v35 (F := Ideal) x0 x1 x2 x3 (ix2 n j)
    = (∑ k, normRow x0 x1 x2 1 0 (seqOf n) (posOf n) k * x3 (ix2 k ⟨2576 + j.val, by omega⟩)) * (fac j : EReal) := by
  pointwise [val_main_v35, val_main_v34, val_main_v33, val_main_v32, val_main_v31, val_main_v30, val_main_v29, val_main_v28, val_main_v27,
    val_main_v26, val_main_cst_3]
  simp only [v25_apply]
  by_cases h : j.val < 512
  · rw [dif_pos h]
    exact mul_lo _ j h
  · rw [dif_neg h]
    refine Eq.trans ?_ (mul_hi _ j h)
    by_cases h' : j.val - 512 < 512
    · rw [dif_pos h']
      refine Finset.sum_congr rfl fun k _ => congrArg (fun r : Fin 8536 => _ * x3 (ix2 k r)) (Fin.ext ?_)
      show 2576 + (512 + (j.val - 512)) = 2576 + j.val
      omega
    · rw [dif_neg h']
      refine Finset.sum_congr rfl fun k _ => congrArg (fun r : Fin 8536 => _ * x3 (ix2 k r)) (Fin.ext ?_)
      show 2576 + (1024 + (j.val - 512 - 512)) = 2576 + j.val
      omega

end Reference

variable (m : (ℓ : Loc nD τ sig) → Buf (Elt Ideal) ℓ) (c : Dev nD)

/-- The tokens. -/
abbrev A0 : S8x2048x1024.Idx → EReal := m ((c : Thread nD τ).loc main_arg0)
/-- The modulation. -/
abbrev A1 : S8x6144.Idx → EReal := m ((c : Thread nD τ).loc main_arg1)
/-- The norm's weights. -/
abbrev A2 : S1024.Idx → EReal := m ((c : Thread nD τ).loc main_arg2)
/-- The projection's weights. -/
abbrev A3 : S1024x8536.Idx → EReal := m ((c : Thread nD τ).loc main_arg3)

/-- The tokens the region reads, one row each. -/
theorem V7_apply (n : Fin 16384) (d : Fin 1024) : V m c main_v7 (ix2 n d) = A0 m c (ix3 (seqOf n) (posOf n) d) := by
  unfold V
  after_results
  pointwise
  rfl

/-- The modulation the region reads, six rows a sequence. -/
theorem V8_apply (b : Fin 8) (j : Fin 6) (d : Fin 1024) : V m c main_v8 (ix3 b j d) = part (A1 m c) j b d := by
  unfold V part
  after_results
  pointwise
  blk_ext

/-- The norm's weights the region reads. -/
theorem V9_apply (d : Fin 1024) : V m c main_v9 (ix2 0 d) = A2 m c (ix1 d) := by
  unfold V
  after_results
  pointwise

/-- The columns the region reads, the queries' scaled. -/
theorem V6_apply (k : Fin 1024) (j : Fin 1536) : V m c main_v6 (ix2 k j) = A3 m c (ix2 k ⟨2576 + j.val, by omega⟩) * (fac j : EReal) := by
  have e : V m c main_v6 = truncf .bf16 (concatenate S1024x1536 1 [
      ⟨S1024x512, mulf (F := Ideal) (φ := .f32) (extractStridedSlice S1024x512 ![0, 2576] (A3 m c) slices_S1024x8536_S1024x512_0_2576)
        (broadcastInDim S1024x512 ![] bcast_S_S1024x512 (constant (F := Ideal) S_ .f32 0x3E000000#32))⟩,
      ⟨S1024x512, extractStridedSlice S1024x512 ![0, 3088] (A3 m c) slices_S1024x8536_S1024x512_0_3088⟩,
      ⟨S1024x512, extractStridedSlice S1024x512 ![0, 3600] (A3 m c) slices_S1024x8536_S1024x512_0_3600⟩]
      concatenates_S1024x512_S1024x512_S1024x512_S1024x1536_d1) bitsLt_bf16_f32 := by
    unfold V
    after_results
    rfl
  rw [e]
  pointwise
  by_cases h : j.val < 512
  · rw [dif_pos h]
    exact mul_lo _ j h
  · rw [dif_neg h]
    refine Eq.trans ?_ (mul_hi _ j h)
    by_cases h' : j.val - 512 < 512
    · rw [dif_pos h']
      refine congrArg (fun r : Fin 8536 => A3 m c (ix2 k r)) (Fin.ext ?_)
      show 3088 + (j.val - 512) = 2576 + j.val
      omega
    · rw [dif_neg h']
      refine congrArg (fun r : Fin 8536 => A3 m c (ix2 k r)) (Fin.ext ?_)
      show 3600 + (j.val - 512 - 512) = 2576 + j.val
      omega

/-- Where each window's block lies at a grid point. -/
theorem idx_w : ∀ t : Fin cfg0.N, win0_0.index t = ![t.val, 0] ∧ win0_1.index t = ![t.val / 4, 0, 0] ∧ win0_2.index t = ![0, 0]
    ∧ win0_3.index t = ![0, 0] ∧ win0_4.index t = ![t.val, 0] :=
  (by decide +kernel : ∀ t : Fin grid0.N, _)

/-- The block of tokens. -/
theorem iblk0 (t : Fin cfg0.N) (r : Fin 512) (d : Fin 1024) :
    iblk m c 0 t (ix2 r d : S512x1024.Idx) = A0 m c (ix3 (seqOf (tok 512 t.val r.val)) (posOf (tok 512 t.val r.val)) d) := by
  have ht : t.val < 32 := lt_of_lt_of_eq t.isLt N_0
  rw [← V7_apply]
  unfold tok
  blk_ext [iblk, (idx_w t).1]

/-- The modulation rows of a block. -/
theorem iblk1 (t : Fin cfg0.N) (j : Fin 6) (r : Fin 512) (d : Fin 1024) :
    iblk m c 1 t (ix3 0 j d : S1x6x1024.Idx) = part (A1 m c) j (seqOf (tok 512 t.val r.val)) d := by
  have ht : t.val < 32 := lt_of_lt_of_eq t.isLt N_0
  rw [← V8_apply]
  unfold tok seqOf
  blk_ext [iblk, (idx_w t).2.1]

/-- The norm's weights in a block. -/
theorem iblk2 (t : Fin cfg0.N) (d : Fin 1024) : iblk m c 2 t (ix2 0 d : S1x1024.Idx) = A2 m c (ix1 d) := by
  rw [← V9_apply]
  blk_ext [iblk, (idx_w t).2.2.1]

/-- The columns in a block. -/
theorem iblk3 (t : Fin cfg0.N) (k : Fin 1024) (j : Fin 1536) : iblk m c 3 t (ix2 k j : S1024x1536.Idx) = A3 m c (ix2 k ⟨2576 + j.val, by omega⟩) * (fac j : EReal) := by
  rw [← V6_apply]
  blk_ext [iblk, (idx_w t).2.2.2.1]

/-- A row of the block the kernel writes. -/
theorem out_apply (t : Fin cfg0.N) (r : Fin 512) (j : Fin 1536) :
    out0_4 (F := Ideal) (iblk m c 0 t) (iblk m c 1 t) (iblk m c 2 t) (iblk m c 3 t) (ix2 r j)
      = Cert.Reference5Ideal.Read.val_main_v35 (F := Ideal) (A0 m c) (A1 m c) (A2 m c) (A3 m c) (ix2 (tok 512 t.val r.val) j) := by
  rw [result_apply, Cert.Stick.sum_mul_coe _ _ (fac_nonneg j)]
  unfold out0_4
  frame_out
  pointwise [k0_pay1]
  simp only [iblk0, iblk2, iblk3, fun k => show iblk m c 1 t (ix3 0 0 k : S1x6x1024.Idx) = _ from iblk1 m c t 0 r k,
    fun k => show iblk m c 1 t (ix3 0 1 k : S1x6x1024.Idx) = _ from iblk1 m c t 1 r k]
  exact Finset.sum_congr rfl fun k _ => (mul_assoc _ _ _).symm

/-- The kernel's result array is the reference's. -/
theorem arr_eq : (dats m 0 c).arrAt 4 cfg0.N
    = Cert.Reference5Ideal.Read.val_main_v35 (F := Ideal) (A0 m c) (A1 m c) (A2 m c) (A3 m c) := by
  refine (dats m 0 c).arrAt_eq_of_covers 4 _ (by decide +kernel) fun t hf y => ?_
  have hN : t.val < 32 := lt_of_lt_of_eq t.isLt N_0
  have h0 : (y 0).val < 512 := (y 0).isLt
  have h1 : (y 1).val < 1536 := (y 1).isLt
  blk_simp
  rw [after0_4]
  refine Eq.trans (congrArg _ (funext fun a => ?_)) ((out_apply m c t ⟨(y 0).val, h0⟩ ⟨(y 1).val, h1⟩).trans (congrArg _ (funext fun a => Fin.ext ?_)))
  · fin_cases a <;> rfl
  · fin_cases a
    · blk_simp [(idx_w t).2.2.2.2]
      show (512 * t.val + (y 0).val) % 16384 = t.val * 512 + (y 0).val
      omega
    · blk_simp [(idx_w t).2.2.2.2]
      rfl

end Cert.Kernel5Ideal.Qkv

end
-- ==== Proof.Ssd.lean ====
/- The state-space branch's projection: what its reference computes at an index, and that the kernel's three result arrays are those. -/
module

public import proofs.«01_k».proof.Proof.Gates
public import proofs.«01_k».proof.Proof.Gen.Kernel6Ideal.Value
public import proofs.«01_k».proof.Proof.Gen.Reference6Ideal.Read
public import Idealize.ShloMosaic.Lib.StableHlo.ReadAt
public import Idealize.ShloMosaic.Lib.Claim

@[expose] public section

set_option maxRecDepth 16384

noncomputable section

namespace Cert.Kernel6Ideal.Ssd

open Idealize.ShloMosaic Idealize.ShloMosaic.TcCoe Idealize.ShloMosaic.Tactic Cert.Kernel6Ideal Cert.Kernel6Ideal.Gen Cert.Rows
open Idealize.SL.Sem

section Reference
open Cert.Reference6Ideal Cert.Reference6Ideal.Read

variable (x0 : S8x2048x1024.Idx → EReal) (x1 : S8x6144.Idx → EReal) (x2 : S1024.Idx → EReal) (x3 : S1024x8536.Idx → EReal)

/-- The modulated norm, as the reference computes it. -/
theorem v25_apply (b : Fin 8) (t : Fin 2048) (d : Fin 1024) : val_main_v25 (F := Ideal) x0 x1 x2 (ix3 b t d) = normRow x0 x1 x2 1 0 b t d :=
  Cert.Kernel4Ideal.Gates.v25_apply x0 x1 x2 b t d

/-- A column of the projection. -/
def col (n : Fin 16384) (j : Fin 8536) : EReal := ∑ k, normRow x0 x1 x2 1 0 (seqOf n) (posOf n) k * x3 (ix2 k j)

/-- The gate's columns, as the reference computes them. -/
theorem z_apply (n : Fin 16384) (j : Fin 1024) : val_main_v32 (F := Ideal) x0 x1 x2 x3 (ix2 n j) = col x0 x1 x2 x3 n ⟨j.val, by omega⟩ := by
  pointwise [val_main_v32, val_main_v28, val_main_v27, val_main_v26]
  simp only [v25_apply]
  rfl

/-- The convolution's columns, as the reference computes them. -/
theorem xbc_apply (n : Fin 16384) (j : Fin 1536) :
    val_main_v33 (F := Ideal) x0 x1 x2 x3 (ix2 n j) = col x0 x1 x2 x3 n ⟨1024 + j.val, by omega⟩ := by
  pointwise [val_main_v33, val_main_v29, val_main_v27, val_main_v26]
  simp only [v25_apply]
  rfl

/-- The padding's value is nought. -/
theorem zero_const : (FloatOps.sitofp (F := Ideal) (w := 32) .f32 0#32 : EReal) = 0 := by
  show ((((0#32 : BitVec 32).toInt : ℤ) : ℝ) : EReal) = 0
  simp

/-- The steps' columns, as the reference computes them. -/
theorem dt_apply (n : Fin 16384) (j : Fin 128) : val_main_v34 (F := Ideal) x0 x1 x2 x3 (ix2 n j)
    = if h : j.val < 16 then col x0 x1 x2 x3 n ⟨2560 + j.val, by omega⟩ else 0 := by
  pointwise [val_main_v34, val_main_v31, val_main_call0_v0, val_main_c, val_main_v30, val_main_v27, val_main_v26]
  simp only [v25_apply]
  by_cases h : j.val < 16
  · refine (dif_pos ⟨by omega, by omega, h⟩).trans (Eq.trans ?_ (dif_pos h).symm)
    rfl
  · refine (dif_neg fun h' => h h'.2.2).trans (Eq.trans ?_ (dif_neg h).symm)
    exact zero_const

end Reference

variable (m : (ℓ : Loc nD τ sig) → Buf (Elt Ideal) ℓ) (c : Dev nD)

/-- The tokens. -/
abbrev A0 : S8x2048x1024.Idx → EReal := m ((c : Thread nD τ).loc main_arg0)
/-- The modulation. -/
abbrev A1 : S8x6144.Idx → EReal := m ((c : Thread nD τ).loc main_arg1)
/-- The norm's weights. -/
abbrev A2 : S1024.Idx → EReal := m ((c : Thread nD τ).loc main_arg2)
/-- The projection's weights. -/
abbrev A3 : S1024x8536.Idx → EReal := m ((c : Thread nD τ).loc main_arg3)

/-- The tokens the region reads, one row each. -/
theorem V6_apply (n : Fin 16384) (d : Fin 1024) : V m c main_v6 (ix2 n d) = A0 m c (ix3 (seqOf n) (posOf n) d) := by
  simp only [V, hostOps0, hostOps0_1, hostOps0_2, List.flatten_cons, List.flatten_nil, List.append_nil, List.cons_append, List.nil_append]
  after_results
  pointwise
  rfl

/-- The modulation the region reads, six rows a sequence. -/
theorem V7_apply (b : Fin 8) (j : Fin 6) (d : Fin 1024) : V m c main_v7 (ix3 b j d) = part (A1 m c) j b d := by
  simp only [V, part, hostOps0, hostOps0_1, hostOps0_2, List.flatten_cons, List.flatten_nil, List.append_nil, List.cons_append, List.nil_append]
  after_results
  pointwise
  blk_ext

/-- The norm's weights the region reads. -/
theorem V8_apply (d : Fin 1024) : V m c main_v8 (ix2 0 d) = A2 m c (ix1 d) := by
  simp only [V, hostOps0, hostOps0_1, hostOps0_2, List.flatten_cons, List.flatten_nil, List.append_nil, List.cons_append, List.nil_append]
  after_results
  pointwise

/-- The columns the region reads, the last ones nought. -/
theorem V5_apply (k : Fin 1024) (j : Fin 2688) : V m c main_v5 (ix2 k j)
    = if h : j.val < 2576 then A3 m c (ix2 k ⟨j.val, by omega⟩) else 0 := by
  have e : V m c main_v5 = truncf .bf16 (concatenate S1024x2688 1 [
      ⟨S1024x1024, extractStridedSlice S1024x1024 ![0, 0] (A3 m c) slices_S1024x8536_S1024x1024_0_0⟩,
      ⟨S1024x1536, extractStridedSlice S1024x1536 ![0, 1024] (A3 m c) slices_S1024x8536_S1024x1536_0_1024⟩,
      ⟨S1024x128, pad S1024x128 ![0, 0] ![0, 112] ![0, 0] (extractStridedSlice S1024x16 ![0, 2560] (A3 m c) slices_S1024x8536_S1024x16_0_2560)
        (sitofp (F := Ideal) .f32 (constantI S_ 32 0#32)) pads_S1024x16_S1024x128_000_01120 h_S_⟩]
      concatenates_S1024x1024_S1024x1536_S1024x128_S1024x2688_d1) bitsLt_bf16_f32 := by
    simp only [V, hostOps0, hostOps0_1, hostOps0_2, List.flatten_cons, List.flatten_nil, List.append_nil, List.cons_append, List.nil_append]
    after_results
    rfl
  rw [e]
  pointwise
  by_cases h : j.val < 1024
  · refine (dif_pos h).trans (Eq.trans ?_ (dif_pos (show j.val < 2576 by omega)).symm)
    rfl
  · refine (dif_neg h).trans ?_
    by_cases h1 : j.val - 1024 < 1536
    · refine (dif_pos h1).trans (Eq.trans ?_ (dif_pos (show j.val < 2576 by omega)).symm)
      refine congrArg (fun r : Fin 8536 => A3 m c (ix2 k r)) (Fin.ext ?_)
      show 1024 + (j.val - 1024) = j.val
      omega
    · refine (dif_neg h1).trans ?_
      by_cases h2 : j.val - 1024 - 1536 < 16
      · refine (dif_pos h2).trans (Eq.trans ?_ (dif_pos (show j.val < 2576 by omega)).symm)
        refine congrArg (fun r : Fin 8536 => A3 m c (ix2 k r)) (Fin.ext ?_)
        show 2560 + (j.val - 1024 - 1536) = j.val
        omega
      · refine (dif_neg h2).trans (Eq.trans ?_ (dif_neg (show ¬ j.val < 2576 by omega)).symm)
        exact zero_const

/-- Where each window's block lies at a grid point. -/
theorem idx_w : ∀ t : Fin cfg0.N, win0_0.index t = ![t.val, 0] ∧ win0_1.index t = ![t.val / 4, 0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The block of tokens. -/
theorem iblk0 (t : Fin cfg0.N) (r : Fin 512) (d : Fin 1024) :
    iblk m c 0 t (ix2 r d : S512x1024.Idx) = A0 m c (ix3 (seqOf (tok 512 t.val r.val)) (posOf (tok 512 t.val r.val)) d) := by
  have ht : t.val < 32 := lt_of_lt_of_eq t.isLt N_0
  rw [← V6_apply]
  unfold tok
  blk_ext [iblk, (idx_w t).1]

/-- The modulation rows of a block. -/
theorem iblk1 (t : Fin cfg0.N) (j : Fin 6) (r : Fin 512) (d : Fin 1024) :
    iblk m c 1 t (ix3 0 j d : S1x6x1024.Idx) = part (A1 m c) j (seqOf (tok 512 t.val r.val)) d := by
  have ht : t.val < 32 := lt_of_lt_of_eq t.isLt N_0
  rw [← V7_apply]
  unfold tok seqOf
  blk_ext [iblk, (idx_w t).2.1]

/-- The norm's weights in a block. -/
theorem iblk2 (t : Fin cfg0.N) (d : Fin 1024) : iblk m c 2 t (ix2 0 d : S1x1024.Idx) = A2 m c (ix1 d) := by
  rw [← V8_apply]
  blk_ext [iblk, (idx_w t).2.2.1]

/-- The columns in a block. -/
theorem iblk3 (t : Fin cfg0.N) (k : Fin 1024) (j : Fin 2688) : iblk m c 3 t (ix2 k j : S1024x2688.Idx)
    = if h : j.val < 2576 then A3 m c (ix2 k ⟨j.val, by omega⟩) else 0 := by
  rw [← V5_apply]
  blk_ext [iblk, (idx_w t).2.2.2.1]

/-- A row of the first block the kernel writes. -/
theorem z_out (t : Fin cfg0.N) (r : Fin 512) (j : Fin 1024) :
    out0_4 (F := Ideal) (iblk m c 0 t) (iblk m c 1 t) (iblk m c 2 t) (iblk m c 3 t) (ix2 r j)
      = Cert.Reference6Ideal.Read.val_main_v32 (F := Ideal) (A0 m c) (A1 m c) (A2 m c) (A3 m c) (ix2 (tok 512 t.val r.val) j) := by
  rw [z_apply]
  unfold out0_4 col
  frame_out
  pointwise [k0_pay3, k0_pay2]
  simp only [iblk0, iblk2, iblk3, fun k => show iblk m c 1 t (ix3 0 0 k : S1x6x1024.Idx) = _ from iblk1 m c t 0 r k,
    fun k => show iblk m c 1 t (ix3 0 1 k : S1x6x1024.Idx) = _ from iblk1 m c t 1 r k]
  exact Finset.sum_congr rfl fun k _ => congrArg (_ * ·) (dif_pos (by omega))

/-- A row of the second block the kernel writes. -/
theorem xbc_out (t : Fin cfg0.N) (r : Fin 512) (j : Fin 1536) :
    out0_5 (F := Ideal) (iblk m c 0 t) (iblk m c 1 t) (iblk m c 2 t) (iblk m c 3 t) (ix2 r j)
      = Cert.Reference6Ideal.Read.val_main_v33 (F := Ideal) (A0 m c) (A1 m c) (A2 m c) (A3 m c) (ix2 (tok 512 t.val r.val) j) := by
  rw [xbc_apply]
  unfold out0_5 col
  frame_out
  pointwise [k0_pay4, k0_pay2]
  simp only [iblk0, iblk2, iblk3, fun k => show iblk m c 1 t (ix3 0 0 k : S1x6x1024.Idx) = _ from iblk1 m c t 0 r k,
    fun k => show iblk m c 1 t (ix3 0 1 k : S1x6x1024.Idx) = _ from iblk1 m c t 1 r k]
  exact Finset.sum_congr rfl fun k _ => congrArg (_ * ·) (dif_pos (by omega))

/-- A row of the third block the kernel writes. -/
theorem dt_out (t : Fin cfg0.N) (r : Fin 512) (j : Fin 128) :
    out0_6 (F := Ideal) (iblk m c 0 t) (iblk m c 1 t) (iblk m c 2 t) (iblk m c 3 t) (ix2 r j)
      = Cert.Reference6Ideal.Read.val_main_v34 (F := Ideal) (A0 m c) (A1 m c) (A2 m c) (A3 m c) (ix2 (tok 512 t.val r.val) j) := by
  rw [dt_apply]
  unfold out0_6 col
  frame_out
  pointwise [k0_pay1, k0_pay2]
  simp only [iblk0, iblk2, iblk3, fun k => show iblk m c 1 t (ix3 0 0 k : S1x6x1024.Idx) = _ from iblk1 m c t 0 r k,
    fun k => show iblk m c 1 t (ix3 0 1 k : S1x6x1024.Idx) = _ from iblk1 m c t 1 r k]
  by_cases h : j.val < 16
  · refine Eq.trans ?_ (dif_pos h).symm
    exact Finset.sum_congr rfl fun k _ => congrArg (_ * ·) (dif_pos (by omega))
  · refine Eq.trans ?_ (dif_neg h).symm
    exact Finset.sum_eq_zero fun k _ => (congrArg (_ * ·) (dif_neg (by omega))).trans (mul_zero _)

/-- The kernel's first result array is the reference's. -/
theorem z_eq : (dats m 0 c).arrAt 4 cfg0.N
    = Cert.Reference6Ideal.Read.val_main_v32 (F := Ideal) (A0 m c) (A1 m c) (A2 m c) (A3 m c) := by
  refine (dats m 0 c).arrAt_eq_of_covers 4 _ (by decide +kernel) fun t hf y => ?_
  have hN : t.val < 32 := lt_of_lt_of_eq t.isLt N_0
  have h0 : (y 0).val < 512 := (y 0).isLt
  have h1 : (y 1).val < 1024 := (y 1).isLt
  blk_simp
  rw [after0_4]
  refine Eq.trans (congrArg _ (funext fun a => ?_)) ((z_out m c t ⟨(y 0).val, h0⟩ ⟨(y 1).val, h1⟩).trans (congrArg _ (funext fun a => Fin.ext ?_)))
  · fin_cases a <;> rfl
  · fin_cases a
    · blk_simp [(idx_w t).2.2.2.2.1]
      show (512 * t.val + (y 0).val) % 16384 = t.val * 512 + (y 0).val
      omega
    · blk_simp [(idx_w t).2.2.2.2.1]
      rfl

/-- The kernel's second result array is the reference's. -/
theorem xbc_eq : (dats m 0 c).arrAt 5 cfg0.N
    = Cert.Reference6Ideal.Read.val_main_v33 (F := Ideal) (A0 m c) (A1 m c) (A2 m c) (A3 m c) := by
  refine (dats m 0 c).arrAt_eq_of_covers 5 _ (by decide +kernel) fun t hf y => ?_
  have hN : t.val < 32 := lt_of_lt_of_eq t.isLt N_0
  have h0 : (y 0).val < 512 := (y 0).isLt
  have h1 : (y 1).val < 1536 := (y 1).isLt
  blk_simp
  rw [after0_5]
  refine Eq.trans (congrArg _ (funext fun a => ?_)) ((xbc_out m c t ⟨(y 0).val, h0⟩ ⟨(y 1).val, h1⟩).trans (congrArg _ (funext fun a => Fin.ext ?_)))
  · fin_cases a <;> rfl
  · fin_cases a
    · blk_simp [(idx_w t).2.2.2.2.2.1]
      show (512 * t.val + (y 0).val) % 16384 = t.val * 512 + (y 0).val
      omega
    · blk_simp [(idx_w t).2.2.2.2.2.1]
      rfl

/-- The kernel's third result array is the reference's. -/
theorem dt_eq : (dats m 0 c).arrAt 6 cfg0.N
    = Cert.Reference6Ideal.Read.val_main_v34 (F := Ideal) (A0 m c) (A1 m c) (A2 m c) (A3 m c) := by
  refine (dats m 0 c).arrAt_eq_of_covers 6 _ (by decide +kernel) fun t hf y => ?_
  have hN : t.val < 32 := lt_of_lt_of_eq t.isLt N_0
  have h0 : (y 0).val < 512 := (y 0).isLt
  have h1 : (y 1).val < 128 := (y 1).isLt
  blk_simp
  rw [after0_6]
  refine Eq.trans (congrArg _ (funext fun a => ?_)) ((dt_out m c t ⟨(y 0).val, h0⟩ ⟨(y 1).val, h1⟩).trans (congrArg _ (funext fun a => Fin.ext ?_)))
  · fin_cases a <;> rfl
  · fin_cases a
    · blk_simp [(idx_w t).2.2.2.2.2.2]
      show (512 * t.val + (y 0).val) % 16384 = t.val * 512 + (y 0).val
      omega
    · blk_simp [(idx_w t).2.2.2.2.2.2]
      rfl

end Cert.Kernel6Ideal.Ssd

end
-- ==== Proof.Ada.lean ====
/- The layers' modulation: what its reference computes at an index, and that the kernel's result array is that. -/
module

public import proofs.«01_k».proof.Proof.Rows
public import proofs.«01_k».proof.Proof.Gen.Kernel7Ideal.Value
public import proofs.«01_k».proof.Proof.Gen.Reference7Ideal.Read
public import Idealize.ShloMosaic.Lib.StableHlo.ReadAt
public import Idealize.ShloMosaic.Lib.Claim

@[expose] public section

set_option maxRecDepth 16384

noncomputable section

namespace Cert.Kernel7Ideal.Ada

open Idealize.ShloMosaic Idealize.ShloMosaic.TcCoe Idealize.ShloMosaic.Tactic Cert.Kernel7Ideal Cert.Kernel7Ideal.Gen
open Idealize.SL.Sem

section Reference
open Cert.Reference7Ideal Cert.Reference7Ideal.Read

variable (x0 : S8x1024.Idx → EReal) (x1 : S2x1024x6144.Idx → EReal) (x2 : S2x6144.Idx → EReal)

/-- A number times its logistic. -/
def silu (a : EReal) : EReal := a * Ideal.logistic a

/-- A layer's modulation of a sequence: the activated condition through the layer's matrix, with its bias. -/
def modn (l : Fin 2) (b : Fin 8) (j : Fin 6144) : EReal := (∑ k : Fin 1024, silu (x0 (ix2 b k)) * x1 (ix3 l k j)) + x2 (ix2 l j)

/-- The first activation, as the reference computes it. -/
theorem v0_apply (b : Fin 8) (k : Fin 1024) : val_main_v0 (F := Ideal) x0 (ix2 b k) = silu (x0 (ix2 b k)) := by
  pointwise [val_main_v0, val_main_call0_v5, val_main_call0_v4, val_main_call0_v3, val_main_call0_v2, val_main_call0_v1, val_main_call0_v0,
    val_main_call0_cst, val_main_call0_cst_0]
  rfl

/-- The second activation is the first again. -/
theorem v9_apply (b : Fin 8) (k : Fin 1024) : val_main_v9 (F := Ideal) x0 (ix2 b k) = silu (x0 (ix2 b k)) := v0_apply x0 b k

/-- The result, as the reference computes it. -/
theorem result_apply (l : Fin 2) (b : Fin 8) (j : Fin 6144) : val_main_v20 (F := Ideal) x0 x1 x2 (ix3 l b j) = modn x0 x1 x2 l b j := by
  pointwise [val_main_v20, val_main_v19, val_main_v18, val_main_v17, val_main_v16, val_main_v15, val_main_v14, val_main_v13, val_main_v12,
    val_main_v11, val_main_v10, val_main_v8, val_main_v7, val_main_v6, val_main_v5, val_main_v4, val_main_v3, val_main_v2, val_main_v1]
  simp only [v0_apply, v9_apply]
  match l with
  | 0 => rfl
  | 1 => rfl

end Reference

variable (m : (ℓ : Loc nD τ sig) → Buf (Elt Ideal) ℓ) (c : Dev nD)

/-- The condition of each sequence. -/
abbrev A0 : S8x1024.Idx → EReal := m ((c : Thread nD τ).loc main_arg0)
/-- The layers' matrices. -/
abbrev A1 : S2x1024x6144.Idx → EReal := m ((c : Thread nD τ).loc main_arg1)
/-- The layers' biases. -/
abbrev A2 : S2x6144.Idx → EReal := m ((c : Thread nD τ).loc main_arg2)

/-- The biases the region reads. -/
theorem V0_apply (l : Fin 2) (j : Fin 6144) : V m c main_v0 (ix3 l 0 j) = A2 m c (ix2 l j) := by
  unfold V
  after_results
  pointwise
  blk_ext

/-- Where each window's block lies at a grid point. -/
theorem idx_w : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The layer of a grid point. -/
def lay (t : ℕ) : Fin 2 := ⟨t / 4 % 2, by omega⟩

/-- The column of the modulation that a block's column stands for. -/
def colOf (t : ℕ) (j : Fin 1536) : Fin 6144 := ⟨1536 * (t % 4) + j.val, by omega⟩

/-- The block of conditions. -/
theorem iblk0 (t : Fin cfg0.N) (b : Fin 8) (k : Fin 1024) : iblk m c 0 t (ix2 b k : S8x1024.Idx) = A0 m c (ix2 b k) := by
  rw [show A0 m c = V m c main_arg0 from (V_main_arg0 m c).symm]
  blk_ext [iblk, (idx_w t).1]

/-- The block of a layer's matrix. -/
theorem iblk1 (t : Fin cfg0.N) (k : Fin 1024) (j : Fin 1536) :
    iblk m c 1 t (ix3 0 k j : S1x1024x1536.Idx) = A1 m c (ix3 (lay t.val) k (colOf t.val j)) := by
  have ht : t.val < 8 := lt_of_lt_of_eq t.isLt N_0
  rw [show A1 m c = V m c main_arg1 from (V_main_arg1 m c).symm]
  unfold lay colOf
  blk_ext [iblk, (idx_w t).2.1]

/-- The block of a layer's bias. -/
theorem iblk2 (t : Fin cfg0.N) (j : Fin 1536) :
    iblk m c 2 t (ix3 0 0 j : S1x1x1536.Idx) = A2 m c (ix2 (lay t.val) (colOf t.val j)) := by
  have ht : t.val < 8 := lt_of_lt_of_eq t.isLt N_0
  rw [← V0_apply]
  unfold lay colOf
  blk_ext [iblk, (idx_w t).2.2.1]

/-- A row of the block the kernel writes. -/
theorem out_apply (t : Fin cfg0.N) (b : Fin 8) (j : Fin 1536) :
    out0_3 (F := Ideal) (iblk m c 0 t) (iblk m c 1 t) (iblk m c 2 t) (ix3 0 b j)
      = Cert.Reference7Ideal.Read.val_main_v20 (F := Ideal) (A0 m c) (A1 m c) (A2 m c) (ix3 (lay t.val) b (colOf t.val j)) := by
  rw [result_apply]
  unfold out0_3 modn
  frame_out
  pointwise [k0_pay1]
  simp only [iblk0, iblk1, iblk2]
  rfl

/-- The kernel's result array is the reference's. -/
theorem arr_eq : (dats m 0 c).arrAt 3 cfg0.N
    = Cert.Reference7Ideal.Read.val_main_v20 (F := Ideal) (A0 m c) (A1 m c) (A2 m c) := by
  refine (dats m 0 c).arrAt_eq_of_covers 3 _ (by decide +kernel) fun t hf y => ?_
  have hN : t.val < 8 := lt_of_lt_of_eq t.isLt N_0
  have h0 : (y 0).val < 1 := (y 0).isLt
  have h1 : (y 1).val < 8 := (y 1).isLt
  have h2 : (y 2).val < 1536 := (y 2).isLt
  blk_simp
  rw [after0_3]
  refine Eq.trans (congrArg _ (funext fun a => ?_)) ((out_apply m c t ⟨(y 1).val, h1⟩ ⟨(y 2).val, h2⟩).trans (congrArg _ (funext fun a => Fin.ext ?_)))
  · fin_cases a
    · exact Fin.ext (show (y 0).val = 0 by omega)
    · rfl
    · rfl
  · fin_cases a
    · blk_simp [(idx_w t).2.2.2]
      show t.val / 4 % 2 = t.val / 4
      omega
    · blk_simp [(idx_w t).2.2.2]
      rfl
    · blk_simp [(idx_w t).2.2.2]
      show 1536 * (t.val % 4) + (y 2).val = t.val % 4 * 1536 + (y 2).val
      omega

end Cert.Kernel7Ideal.Ada

end
-- ==== Proof.Rope.lean ====
/- The rotary positions: what they do to a head of 64 numbers, and the form that works on 128 lanes with three tables. -/
module

public import Idealize.ShloMosaic.Lib.Pipeline.ValueKit

@[expose] public section

noncomputable section

namespace Cert.Rope

open Idealize.ShloMosaic

/-- The angle of pair `i` at position `p`. -/
def ang (p : Fin 2048) (i : ℕ) : EReal :=
  FloatOps.sitofp (F := Ideal) .f32 (BitVec.ofNat 32 p.val)
    * Ideal.exp (FloatOps.sitofp (F := Ideal) .f32 (BitVec.ofNat 32 i) * Ideal.ofBits .f32 3218208051#32)

/-- Its cosine. -/
def cosA (p : Fin 2048) (i : ℕ) : EReal := Ideal.cos (ang p i)

/-- Its sine. -/
def sinA (p : Fin 2048) (i : ℕ) : EReal := Ideal.sin (ang p i)

/-- Place `d` of a head after the rotation at position `p`: eight pairs turn, the other places stay. -/
def at64 (p : Fin 2048) (d : ℕ) (f : ℕ → EReal) : EReal :=
  if d < 8 then f d * cosA p d - f (d + 8) * sinA p d
  else if d < 16 then f d * cosA p (d - 8) + f (d - 8) * sinA p (d - 8) else f d

/-- It reads the head's own places only. -/
theorem at64_congr (p : Fin 2048) (d : ℕ) (hd : d < 64) (f g : ℕ → EReal) (h : ∀ e, e < 64 → f e = g e) : at64 p d f = at64 p d g := by
  unfold at64
  by_cases h0 : d < 8
  · rw [if_pos h0, if_pos h0, h d hd, h (d + 8) (by omega)]
  · rw [if_neg h0, if_neg h0]
    by_cases h1 : d < 16
    · rw [if_pos h1, if_pos h1, h d hd, h (d - 8) (by omega)]
    · rw [if_neg h1, if_neg h1, h d hd]

/-- A head of noughts stays noughts. -/
theorem at64_zero (p : Fin 2048) (d : ℕ) : at64 p d (fun _ => 0) = 0 := by
  unfold at64
  split_ifs <;> simp

/-- The first table: the cosines on the sixteen turning lanes of a head, one elsewhere. -/
def tabC (p : Fin 2048) (l : ℕ) : EReal := if l % 64 < 8 then cosA p (l % 64) else if l % 64 < 16 then cosA p (l % 64 - 8) else 1

/-- The second table: the negated sines on the first eight lanes of a head, nought elsewhere. -/
def tabS1 (p : Fin 2048) (l : ℕ) : EReal := if l % 64 < 8 then -sinA p (l % 64) else 0

/-- The third table: the sines on the next eight lanes of a head, nought elsewhere. -/
def tabS2 (p : Fin 2048) (l : ℕ) : EReal := if l % 64 < 8 then 0 else if l % 64 < 16 then sinA p (l % 64 - 8) else 0

/-- Lane `l` of 128 lanes, turned with the three tables: the two rotations bring each place its partner,
    and where a rotation brings something else its table holds nought. -/
def at128 (p : Fin 2048) (l : ℕ) (g : ℕ → EReal) : EReal :=
  g l * tabC p l + g ((l + 128 - 120) % 128) * tabS1 p l + g ((l + 128 - 8) % 128) * tabS2 p l

/-- That is the rotation of the head the lane lies in. -/
theorem at128_eq (p : Fin 2048) (l : ℕ) (hl : l < 128) (g : ℕ → EReal) :
    at128 p l g = at64 p (l % 64) (fun e => g (64 * (l / 64) + e)) := by
  have e0 : 64 * (l / 64) + l % 64 = l := by omega
  unfold at128 at64 tabC tabS1 tabS2
  by_cases h0 : l % 64 < 8
  · have e1 : (l + 128 - 120) % 128 = 64 * (l / 64) + (l % 64 + 8) := by omega
    simp only [if_pos h0, e0, e1, mul_zero, add_zero, mul_neg, sub_eq_add_neg]
  · by_cases h1 : l % 64 < 16
    · have e1 : (l + 128 - 8) % 128 = 64 * (l / 64) + (l % 64 - 8) := by omega
      simp only [if_neg h0, if_pos h1, e0, e1, mul_zero, add_zero]
    · simp only [if_neg h0, if_neg h1, e0, mul_zero, add_zero, mul_one]

end Cert.Rope

end
-- ==== Proof.DsaRef.lean ====
/- The sparse attention's projection: what its reference computes at an index. -/
module

public import proofs.«01_k».proof.Proof.Gates
public import proofs.«01_k».proof.Proof.RefRead
public import proofs.«01_k».proof.Proof.Rope
public import proofs.«01_k».proof.Proof.Gen.Reference8Ideal.Read
public import Idealize.ShloMosaic.Lib.StableHlo.ReadAt

@[expose] public section

set_option maxRecDepth 16384

noncomputable section

namespace Cert.Reference8Ideal.Dsa

open Idealize.ShloMosaic Idealize.ShloMosaic.Tactic Cert.Reference8Ideal Cert.Reference8Ideal.Read Cert.Rows Cert.Rope

variable (x0 : S8x2048x1024.Idx → EReal) (x1 : S8x6144.Idx → EReal) (x2 : S1024.Idx → EReal) (x3 : S1024x8536.Idx → EReal)

/-- The modulated norm, as the reference computes it. -/
theorem v26_apply (b : Fin 8) (t : Fin 2048) (d : Fin 1024) : val_main_v26 (F := Ideal) x0 x1 x2 (ix3 b t d) = normRow x0 x1 x2 1 0 b t d :=
  Cert.Kernel4Ideal.Gates.v25_apply x0 x1 x2 b t d

/-- A column of the projection. -/
def colAt (b : Fin 8) (t : Fin 2048) (j : ℕ) : EReal := ∑ k, normRow x0 x1 x2 1 0 b t k * x3 (ix2 k ⟨j % 8536, by omega⟩)

/-- The projection, as the reference computes it. -/
theorem v28_apply (b : Fin 8) (t : Fin 2048) (j : Fin 1352) : val_main_v28 (F := Ideal) x0 x1 x2 x3 (ix3 b t j) = colAt x0 x1 x2 x3 b t (4112 + j.val) := by
  pointwise [val_main_v28, val_main_v27]
  simp only [v26_apply]
  refine Finset.sum_congr rfl fun k _ => congrArg (fun r : Fin 8536 => _ * x3 (ix2 k r)) (Fin.ext ?_)
  show 4112 + j.val = (4112 + j.val) % 8536
  omega

/-- A head's rotation, read case by case. -/
theorem cases_eq (p : Fin 2048) (d : Fin 64) (g : Fin 64 → EReal) (cs sn : Fin 8 → EReal) (f : ℕ → EReal) (hg : ∀ e, g e = f e.val)
    (hc : ∀ i, cs i = cosA p i.val) (hs : ∀ i, sn i = sinA p i.val) :
    (if h : d.val < 8 then g d * cs ⟨d.val, h⟩ - g ⟨8 + d.val, by omega⟩ * sn ⟨d.val, h⟩
      else if h1 : d.val - 8 < 8 then g ⟨8 + (d.val - 8), by omega⟩ * cs ⟨d.val - 8, h1⟩ + g ⟨d.val - 8, by omega⟩ * sn ⟨d.val - 8, h1⟩
      else g ⟨16 + (d.val - 8 - 8), by omega⟩) = at64 p d.val f := by
  unfold at64
  by_cases h : d.val < 8
  · refine (dif_pos h).trans (Eq.trans ?_ (if_pos h).symm)
    rw [hg, hg, hc, hs]
    exact congrArg (fun e => f d.val * cosA p d.val - f e * sinA p d.val) (Nat.add_comm 8 d.val)
  · refine (dif_neg h).trans (Eq.trans ?_ (if_neg h).symm)
    by_cases h1 : d.val - 8 < 8
    · refine (dif_pos h1).trans (Eq.trans ?_ (if_pos (show d.val < 16 by omega)).symm)
      rw [hg, hg, hc, hs]
      exact congrArg (fun e => f e * cosA p (d.val - 8) + f (d.val - 8) * sinA p (d.val - 8)) (show 8 + (d.val - 8) = d.val by omega)
    · refine (dif_neg h1).trans (Eq.trans ?_ (if_neg (show ¬ d.val < 16 by omega)).symm)
      rw [hg]
      exact congrArg f (show 16 + (d.val - 8 - 8) = d.val by omega)

/-- The cosines, as the reference computes them. -/
theorem v49_apply (p : Fin 2048) (i : Fin 8) : val_main_v49 (F := Ideal) (ix4 0 p 0 i) = cosA p i.val := by
  pointwise [val_main_v49, val_main_v48, val_main_v47, val_main_v46, val_main_v45, val_main_v44, val_main_v43, val_main_v42, val_main_v41, val_main_v40, val_main_v39,
    val_main_v38, val_main_cst_4, val_main_v0]
  rfl

/-- The sines, as the reference computes them. -/
theorem v51_apply (p : Fin 2048) (i : Fin 8) : val_main_v51 (F := Ideal) (ix4 0 p 0 i) = sinA p i.val := by
  pointwise [val_main_v51, val_main_v50, val_main_v47, val_main_v46, val_main_v45, val_main_v44, val_main_v43, val_main_v42, val_main_v41, val_main_v40, val_main_v39,
    val_main_v38, val_main_cst_4, val_main_v0]
  rfl

/-- The scaled queries by head. -/
theorem v37_apply (b : Fin 8) (t : Fin 2048) (h : Fin 8) (d : Fin 64) :
    val_main_v37 (F := Ideal) x0 x1 x2 x3 (ix4 b t h d) = colAt x0 x1 x2 x3 b t (4112 + (64 * h.val + d.val)) * ((1 / 8 : ℝ) : EReal) := by
  pointwise [val_main_v37, val_main_v36, val_main_v35, val_main_v29, val_main_cst_3]
  rw [v28_apply, Cert.ReferenceIdeal.Att.eighth]
  exact congrArg (fun e => colAt x0 x1 x2 x3 b t (4112 + e) * ((1 / 8 : ℝ) : EReal)) (show h.val * 64 + d.val = 64 * h.val + d.val by omega)

/-- The rotated queries. -/
theorem v65_apply (b : Fin 8) (t : Fin 2048) (h : Fin 8) (d : Fin 64) :
    val_main_v65 (F := Ideal) x0 x1 x2 x3 (ix4 b t h d)
      = at64 t d.val (fun e => colAt x0 x1 x2 x3 b t (4112 + (64 * h.val + e)) * ((1 / 8 : ℝ) : EReal)) := by
  pointwise [val_main_v65, val_main_v64, val_main_v63, val_main_v62, val_main_v61, val_main_v60, val_main_v59, val_main_v58, val_main_v57, val_main_v56, val_main_v55,
    val_main_v54, val_main_v53, val_main_v52]
  exact cases_eq t d (fun e => val_main_v37 (F := Ideal) x0 x1 x2 x3 (ix4 b t h e)) _ _ _ (v37_apply x0 x1 x2 x3 b t h) (v49_apply t) (v51_apply t)

/-- The first result, as the reference computes it. -/
theorem q_apply (n : Fin 16384) (j : Fin 512) : val_main_v158 (F := Ideal) x0 x1 x2 x3 (ix2 n j)
    = at64 (posOf n) (j.val % 64) (fun e => colAt x0 x1 x2 x3 (seqOf n) (posOf n) (4112 + (64 * (j.val / 64) + e)) * ((1 / 8 : ℝ) : EReal)) := by
  pointwise [val_main_v158, val_main_v157]
  exact v65_apply x0 x1 x2 x3 _ _ _ _

/-- The keys by head. -/
theorem v66_apply (b : Fin 8) (t : Fin 2048) (h : Fin 2) (d : Fin 64) :
    val_main_v66 (F := Ideal) x0 x1 x2 x3 (ix4 b t h d) = colAt x0 x1 x2 x3 b t (4624 + (64 * h.val + d.val)) := by
  pointwise [val_main_v66, val_main_v30]
  rw [v28_apply]
  exact congrArg (colAt x0 x1 x2 x3 b t) (show 4112 + (512 + (h.val * 64 + d.val)) = 4624 + (64 * h.val + d.val) by omega)

/-- The cosines are the same again for the keys. -/
theorem v78_apply (p : Fin 2048) (i : Fin 8) : val_main_v78 (F := Ideal) (ix4 0 p 0 i) = cosA p i.val := v49_apply p i

/-- The sines are the same again for the keys. -/
theorem v80_apply (p : Fin 2048) (i : Fin 8) : val_main_v80 (F := Ideal) (ix4 0 p 0 i) = sinA p i.val := v51_apply p i

/-- The rotated keys. -/
theorem v94_apply (b : Fin 8) (t : Fin 2048) (h : Fin 2) (d : Fin 64) :
    val_main_v94 (F := Ideal) x0 x1 x2 x3 (ix4 b t h d) = at64 t d.val (fun e => colAt x0 x1 x2 x3 b t (4624 + (64 * h.val + e))) := by
  pointwise [val_main_v94, val_main_v93, val_main_v92, val_main_v91, val_main_v90, val_main_v89, val_main_v88, val_main_v87, val_main_v86, val_main_v85, val_main_v84,
    val_main_v83, val_main_v82, val_main_v81]
  exact cases_eq t d (fun e => val_main_v66 (F := Ideal) x0 x1 x2 x3 (ix4 b t h e)) _ _ _ (v66_apply x0 x1 x2 x3 b t h) (v78_apply t) (v80_apply t)

/-- The padding's value is nought. -/
theorem zero_const : (FloatOps.sitofp (F := Ideal) (w := 32) .f32 0#32 : EReal) = 0 := by
  show ((((0#32 : BitVec 32).toInt : ℤ) : ℝ) : EReal) = 0
  simp

/-- The second result, as the reference computes it. -/
theorem k_apply (n : Fin 16384) (j : Fin 256) : val_main_v161 (F := Ideal) x0 x1 x2 x3 (ix2 n j)
    = if j.val % 128 < 64 then at64 (posOf n) (j.val % 128) (fun e => colAt x0 x1 x2 x3 (seqOf n) (posOf n) (4624 + (64 * (j.val / 128) + e))) else 0 := by
  pointwise [val_main_v161, val_main_v160, val_main_v159]
  by_cases h : j.val % 128 < 64
  · refine (dif_pos ⟨by omega, by omega, by omega, h⟩).trans (Eq.trans ?_ (if_pos h).symm)
    exact v94_apply x0 x1 x2 x3 _ _ _ _
  · refine (dif_neg fun h' => h h'.2.2.2).trans (Eq.trans ?_ (if_neg h).symm)
    exact zero_const

/-- The third result, as the reference computes it. -/
theorem v_apply (n : Fin 16384) (j : Fin 256) : val_main_v164 (F := Ideal) x0 x1 x2 x3 (ix2 n j)
    = if j.val % 128 < 64 then colAt x0 x1 x2 x3 (seqOf n) (posOf n) (4752 + (64 * (j.val / 128) + j.val % 128)) else 0 := by
  pointwise [val_main_v164, val_main_v163, val_main_v162, val_main_v95, val_main_v31]
  by_cases h : j.val % 128 < 64
  · refine (dif_pos ⟨by omega, by omega, by omega, h⟩).trans (Eq.trans ?_ (if_pos h).symm)
    refine (v28_apply x0 x1 x2 x3 _ _ _).trans ?_
    exact congrArg (colAt x0 x1 x2 x3 (seqOf n) (posOf n)) (show 4112 + (640 + (j.val / 128 * 64 + j.val % 128)) = 4752 + (64 * (j.val / 128) + j.val % 128) by omega)
  · refine (dif_neg fun h' => h h'.2.2.2).trans (Eq.trans ?_ (if_neg h).symm)
    exact zero_const

/-- The indexer's scaled queries by head. -/
theorem v98_apply (b : Fin 8) (t : Fin 2048) (h : Fin 8) (d : Fin 64) :
    val_main_v98 (F := Ideal) x0 x1 x2 x3 (ix4 b t h d) = colAt x0 x1 x2 x3 b t (4880 + (64 * h.val + d.val)) * ((1 / 8 : ℝ) : EReal) := by
  pointwise [val_main_v98, val_main_v97, val_main_v96, val_main_v32, val_main_cst_6]
  rw [v28_apply, Cert.ReferenceIdeal.Att.eighth]
  exact congrArg (fun e => colAt x0 x1 x2 x3 b t e * ((1 / 8 : ℝ) : EReal)) (show 4112 + (768 + (h.val * 64 + d.val)) = 4880 + (64 * h.val + d.val) by omega)

/-- The cosines are the same again for the indexer's queries. -/
theorem v110_apply (p : Fin 2048) (i : Fin 8) : val_main_v110 (F := Ideal) (ix4 0 p 0 i) = cosA p i.val := v49_apply p i

/-- The sines are the same again for the indexer's queries. -/
theorem v112_apply (p : Fin 2048) (i : Fin 8) : val_main_v112 (F := Ideal) (ix4 0 p 0 i) = sinA p i.val := v51_apply p i

/-- The indexer's rotated queries. -/
theorem v126_apply (b : Fin 8) (t : Fin 2048) (h : Fin 8) (d : Fin 64) :
    val_main_v126 (F := Ideal) x0 x1 x2 x3 (ix4 b t h d)
      = at64 t d.val (fun e => colAt x0 x1 x2 x3 b t (4880 + (64 * h.val + e)) * ((1 / 8 : ℝ) : EReal)) := by
  pointwise [val_main_v126, val_main_v125, val_main_v124, val_main_v123, val_main_v122, val_main_v121, val_main_v120, val_main_v119, val_main_v118, val_main_v117,
    val_main_v116, val_main_v115, val_main_v114, val_main_v113]
  exact cases_eq t d (fun e => val_main_v98 (F := Ideal) x0 x1 x2 x3 (ix4 b t h e)) _ _ _ (v98_apply x0 x1 x2 x3 b t h) (v110_apply t) (v112_apply t)

/-- The fourth result, as the reference computes it. -/
theorem iq_apply (n : Fin 16384) (j : Fin 512) : val_main_v166 (F := Ideal) x0 x1 x2 x3 (ix2 n j)
    = at64 (posOf n) (j.val % 64) (fun e => colAt x0 x1 x2 x3 (seqOf n) (posOf n) (4880 + (64 * (j.val / 64) + e)) * ((1 / 8 : ℝ) : EReal)) := by
  pointwise [val_main_v166, val_main_v165]
  exact v126_apply x0 x1 x2 x3 _ _ _ _

/-- The indexer's keys. -/
theorem v127_apply (b : Fin 8) (t : Fin 2048) (d : Fin 64) :
    val_main_v127 (F := Ideal) x0 x1 x2 x3 (ix4 b t 0 d) = colAt x0 x1 x2 x3 b t (5392 + d.val) := by
  pointwise [val_main_v127, val_main_v33]
  rw [v28_apply]
  exact congrArg (colAt x0 x1 x2 x3 b t) (show 4112 + (1280 + d.val) = 5392 + d.val by omega)

/-- The cosines are the same again for the indexer's keys. -/
theorem v139_apply (p : Fin 2048) (i : Fin 8) : val_main_v139 (F := Ideal) (ix4 0 p 0 i) = cosA p i.val := v49_apply p i

/-- The sines are the same again for the indexer's keys. -/
theorem v141_apply (p : Fin 2048) (i : Fin 8) : val_main_v141 (F := Ideal) (ix4 0 p 0 i) = sinA p i.val := v51_apply p i

/-- The indexer's rotated keys. -/
theorem v155_apply (b : Fin 8) (t : Fin 2048) (d : Fin 64) :
    val_main_v155 (F := Ideal) x0 x1 x2 x3 (ix4 b t 0 d) = at64 t d.val (fun e => colAt x0 x1 x2 x3 b t (5392 + e)) := by
  pointwise [val_main_v155, val_main_v154, val_main_v153, val_main_v152, val_main_v151, val_main_v150, val_main_v149, val_main_v148, val_main_v147, val_main_v146,
    val_main_v145, val_main_v144, val_main_v143, val_main_v142]
  exact cases_eq t d (fun e => val_main_v127 (F := Ideal) x0 x1 x2 x3 (ix4 b t 0 e)) _ _ _ (v127_apply x0 x1 x2 x3 b t) (v139_apply t) (v141_apply t)

/-- The fifth result, as the reference computes it. -/
theorem ik_apply (n : Fin 16384) (j : Fin 128) : val_main_v169 (F := Ideal) x0 x1 x2 x3 (ix2 n j)
    = if j.val < 64 then at64 (posOf n) j.val (fun e => colAt x0 x1 x2 x3 (seqOf n) (posOf n) (5392 + e)) else 0 := by
  pointwise [val_main_v169, val_main_v168, val_main_v167, val_main_v156]
  by_cases h : j.val < 64
  · refine (dif_pos ⟨by omega, by omega, h⟩).trans (Eq.trans ?_ (if_pos h).symm)
    exact v155_apply x0 x1 x2 x3 _ _ _
  · refine (dif_neg fun h' => h h'.2.2).trans (Eq.trans ?_ (if_neg h).symm)
    exact zero_const

/-- The sixth result, as the reference computes it. -/
theorem iw_apply (n : Fin 16384) (j : Fin 128) : val_main_v171 (F := Ideal) x0 x1 x2 x3 (ix2 n j)
    = if j.val < 8 then colAt x0 x1 x2 x3 (seqOf n) (posOf n) (5456 + j.val) else 0 := by
  pointwise [val_main_v171, val_main_v170, val_main_v34]
  by_cases h : j.val < 8
  · refine (dif_pos ⟨by omega, by omega, h⟩).trans (Eq.trans ?_ (if_pos h).symm)
    refine (v28_apply x0 x1 x2 x3 _ _ _).trans ?_
    exact congrArg (colAt x0 x1 x2 x3 (seqOf n) (posOf n)) (show 4112 + (1344 + j.val) = 5456 + j.val by omega)
  · refine (dif_neg fun h' => h h'.2.2).trans (Eq.trans ?_ (if_neg h).symm)
    exact zero_const

end Cert.Reference8Ideal.Dsa

end
-- ==== Proof.DsaIn.lean ====
/- The sparse attention's projection: what the kernel's windows hold. -/
module

public import proofs.«01_k».proof.Proof.DsaRef
public import proofs.«01_k».proof.Proof.Gen.Kernel8Ideal.Value
public import Idealize.ShloMosaic.Lib.Claim

@[expose] public section

set_option maxRecDepth 16384

noncomputable section

namespace Cert.Kernel8Ideal.Dsa

open Idealize.ShloMosaic Idealize.ShloMosaic.TcCoe Idealize.ShloMosaic.Tactic Cert.Kernel8Ideal Cert.Kernel8Ideal.Gen Cert.Rows Cert.Rope
open Cert.Reference8Ideal.Dsa (zero_const)
open Idealize.SL.Sem

/-- The scaled queries' columns. -/
def wQ (a : FVec Ideal S1024x8536 .f32) : FVec Ideal S1024x512 .f32 :=
  mulf (extractStridedSlice S1024x512 ![0, 4112] a slices_S1024x8536_S1024x512_0_4112)
    (broadcastInDim S1024x512 ![] bcast_S_S1024x512 (constant (F := Ideal) S_ .f32 0x3E000000#32))

/-- The indexer's scaled queries' columns. -/
def wIQ (a : FVec Ideal S1024x8536 .f32) : FVec Ideal S1024x512 .f32 :=
  mulf (extractStridedSlice S1024x512 ![0, 4880] a slices_S1024x8536_S1024x512_0_4880)
    (broadcastInDim S1024x512 ![] bcast_S_S1024x512 (constant (F := Ideal) S_ .f32 0x3E000000#32))

/-- Sixty-four columns, with as many noughts after them. -/
def wPad (a : FVec Ideal S1024x64 .f32) : FVec Ideal S1024x128 .f32 :=
  pad S1024x128 ![0, 0] ![0, 64] ![0, 0] a (sitofp (F := Ideal) .f32 (constantI S_ 32 0#32)) pads_S1024x64_S1024x128_000_0640 h_S_

/-- Two heads' columns, each with noughts after it. -/
def wTwo (a : FVec Ideal S1024x128 .f32) : FVec Ideal S1024x256 .f32 :=
  concatenate S1024x256 1 [⟨S1024x128, wPad (extractStridedSlice S1024x64 ![0, 0] a slices_S1024x128_S1024x64_0_0)⟩,
    ⟨S1024x128, wPad (extractStridedSlice S1024x64 ![0, 64] a slices_S1024x128_S1024x64_0_64)⟩] concatenates_S1024x128_S1024x128_S1024x256_d1

/-- The indexer's weights' columns, with noughts after them. -/
def wIW (a : FVec Ideal S1024x8536 .f32) : FVec Ideal S1024x128 .f32 :=
  pad S1024x128 ![0, 0] ![0, 120] ![0, 0] (extractStridedSlice S1024x8 ![0, 5456] a slices_S1024x8536_S1024x8_0_5456)
    (sitofp (F := Ideal) .f32 (constantI S_ 32 0#32)) pads_S1024x8_S1024x128_000_01200 h_S_

/-- All the columns. -/
def wAll (a : FVec Ideal S1024x8536 .f32) : FVec Ideal S1024x1792 .f32 :=
  concatenate S1024x1792 1 [⟨S1024x512, wQ a⟩,
    ⟨S1024x256, wTwo (extractStridedSlice S1024x128 ![0, 4624] a slices_S1024x8536_S1024x128_0_4624)⟩,
    ⟨S1024x256, wTwo (extractStridedSlice S1024x128 ![0, 4752] a slices_S1024x8536_S1024x128_0_4752)⟩,
    ⟨S1024x512, wIQ a⟩,
    ⟨S1024x128, wPad (extractStridedSlice S1024x64 ![0, 5392] a slices_S1024x8536_S1024x64_0_5392)⟩,
    ⟨S1024x128, wIW a⟩]
    concatenates_S1024x512_S1024x256_S1024x256_S1024x512_S1024x128_S1024x128_S1024x1792_d1

/-- A column of the weights, by its number. -/
def wCol (a : FVec Ideal S1024x8536 .f32) (k : Fin 1024) (j : ℕ) : EReal := a (ix2 k ⟨j % 8536, by omega⟩)

/-- The queries' columns, one by one. -/
theorem wQ_apply (a : FVec Ideal S1024x8536 .f32) (k : Fin 1024) (j : Fin 512) :
    wQ a (ix2 k j) = wCol a k (4112 + j.val) * ((1 / 8 : ℝ) : EReal) := by
  pointwise [wQ]
  rw [Cert.ReferenceIdeal.Att.eighth]
  refine congrArg (fun r : Fin 8536 => a (ix2 k r) * ((1 / 8 : ℝ) : EReal)) (Fin.ext ?_)
  show 4112 + j.val = (4112 + j.val) % 8536
  omega

/-- The indexer's queries' columns, one by one. -/
theorem wIQ_apply (a : FVec Ideal S1024x8536 .f32) (k : Fin 1024) (j : Fin 512) :
    wIQ a (ix2 k j) = wCol a k (4880 + j.val) * ((1 / 8 : ℝ) : EReal) := by
  pointwise [wIQ]
  rw [Cert.ReferenceIdeal.Att.eighth]
  refine congrArg (fun r : Fin 8536 => a (ix2 k r) * ((1 / 8 : ℝ) : EReal)) (Fin.ext ?_)
  show 4880 + j.val = (4880 + j.val) % 8536
  omega

/-- A padded head's columns, one by one. -/
theorem wPad_apply (a : FVec Ideal S1024x64 .f32) (k : Fin 1024) (j : Fin 128) :
    wPad a (ix2 k j) = if h : j.val < 64 then a (ix2 k ⟨j.val, h⟩) else 0 := by
  pointwise [wPad]
  by_cases h : j.val < 64
  · refine (dif_pos h).trans (Eq.trans ?_ (dif_pos h).symm)
    rfl
  · refine (dif_neg h).trans (Eq.trans ?_ (dif_neg h).symm)
    exact zero_const

/-- Two padded heads' columns, one by one. -/
theorem wTwo_apply (a : FVec Ideal S1024x128 .f32) (k : Fin 1024) (j : Fin 256) :
    wTwo a (ix2 k j) = if h : j.val % 128 < 64 then a (ix2 k ⟨64 * (j.val / 128) + j.val % 128, by omega⟩) else 0 := by
  pointwise [wTwo]
  simp only [wPad_apply]
  by_cases h0 : j.val < 128
  · refine (dif_pos h0).trans ?_
    by_cases h : j.val < 64
    · refine (dif_pos h).trans (Eq.trans ?_ (dif_pos (show j.val % 128 < 64 by omega)).symm)
      pointwise
      refine congrArg (fun r : Fin 128 => a (ix2 k r)) (Fin.ext ?_)
      show j.val = 64 * (j.val / 128) + j.val % 128
      omega
    · refine (dif_neg h).trans (Eq.trans ?_ (dif_neg (show ¬ j.val % 128 < 64 by omega)).symm)
      rfl
  · refine (dif_neg h0).trans ?_
    by_cases h : j.val - 128 < 64
    · refine (dif_pos h).trans (Eq.trans ?_ (dif_pos (show j.val % 128 < 64 by omega)).symm)
      pointwise
      refine congrArg (fun r : Fin 128 => a (ix2 k r)) (Fin.ext ?_)
      show 64 + (j.val - 128) = 64 * (j.val / 128) + j.val % 128
      omega
    · refine (dif_neg h).trans (Eq.trans ?_ (dif_neg (show ¬ j.val % 128 < 64 by omega)).symm)
      rfl

/-- The indexer's weights' columns, one by one. -/
theorem wIW_apply (a : FVec Ideal S1024x8536 .f32) (k : Fin 1024) (j : Fin 128) :
    wIW a (ix2 k j) = if j.val < 8 then wCol a k (5456 + j.val) else 0 := by
  pointwise [wIW]
  by_cases h : j.val < 8
  · refine (dif_pos h).trans (Eq.trans ?_ (if_pos h).symm)
    refine congrArg (fun r : Fin 8536 => a (ix2 k r)) (Fin.ext ?_)
    show 5456 + j.val = (5456 + j.val) % 8536
    omega
  · refine (dif_neg h).trans (Eq.trans ?_ (if_neg h).symm)
    exact zero_const

/-- The cosines. -/
def tCos : FVec Ideal S2048x8 .f32 :=
  Host.cos (mulf
    (broadcastInDim S2048x8 ![0, 1] bcast_S2048x1_S2048x8_0_1 (broadcastInDim S2048x1 ![0] bcast_S2048_S2048x1_0 (sitofp (F := Ideal) .f32 (iotaInDim S2048 32 0))))
    (broadcastInDim S2048x8 ![0, 1] bcast_S1x8_S2048x8_0_1 (broadcastInDim S1x8 ![1] bcast_S8_S1x8_1
      (Host.exp (mulf (sitofp (F := Ideal) .f32 (iotaInDim S8 32 0)) (broadcastInDim S8 ![] bcast_S_S8 (constant (F := Ideal) S_ .f32 0xBFD1F533#32)))))))

/-- The sines. -/
def tSin : FVec Ideal S2048x8 .f32 :=
  Host.sin (mulf
    (broadcastInDim S2048x8 ![0, 1] bcast_S2048x1_S2048x8_0_1 (broadcastInDim S2048x1 ![0] bcast_S2048_S2048x1_0 (sitofp (F := Ideal) .f32 (iotaInDim S2048 32 0))))
    (broadcastInDim S2048x8 ![0, 1] bcast_S1x8_S2048x8_0_1 (broadcastInDim S1x8 ![1] bcast_S8_S1x8_1
      (Host.exp (mulf (sitofp (F := Ideal) .f32 (iotaInDim S8 32 0)) (broadcastInDim S8 ![] bcast_S_S8 (constant (F := Ideal) S_ .f32 0xBFD1F533#32)))))))

/-- The cosines, one by one. -/
theorem tCos_apply (p : Fin 2048) (i : Fin 8) : tCos (ix2 p i) = cosA p i.val := by
  pointwise [tCos]
  rfl

/-- The sines, one by one. -/
theorem tSin_apply (p : Fin 2048) (i : Fin 8) : tSin (ix2 p i) = sinA p i.val := by
  pointwise [tSin]
  rfl

/-- A table of a head: eight lanes, eight lanes and the rest, the head twice. -/
def tTab (a b : FVec Ideal S2048x8 .f32) (r : FVec Ideal S2048x48 .f32) : FVec Ideal S2048x128 .f32 :=
  concatenate S2048x128 1 [
    ⟨S2048x64, concatenate S2048x64 1 [⟨S2048x8, a⟩, ⟨S2048x8, b⟩, ⟨S2048x48, r⟩] concatenates_S2048x8_S2048x8_S2048x48_S2048x64_d1⟩,
    ⟨S2048x64, concatenate S2048x64 1 [⟨S2048x8, a⟩, ⟨S2048x8, b⟩, ⟨S2048x48, r⟩] concatenates_S2048x8_S2048x8_S2048x48_S2048x64_d1⟩]
    concatenates_S2048x64_S2048x64_S2048x128_d1

/-- A table, lane by lane. -/
theorem tTab_apply (a b : FVec Ideal S2048x8 .f32) (r : FVec Ideal S2048x48 .f32) (p : Fin 2048) (l : Fin 128) (f g : ℕ → EReal) (z : EReal)
    (ha : ∀ i : Fin 8, a (ix2 p i) = f i.val) (hb : ∀ i : Fin 8, b (ix2 p i) = g i.val) (hr : ∀ i : Fin 48, r (ix2 p i) = z) :
    tTab a b r (ix2 p l) = if l.val % 64 < 8 then f (l.val % 64) else if l.val % 64 < 16 then g (l.val % 64 - 8) else z := by
  pointwise [tTab]
  simp only [ha, hb, hr]
  by_cases h : l.val < 64
  · refine (dif_pos h).trans ?_
    rw [show l.val % 64 = l.val by omega]
    by_cases h0 : l.val < 8
    · exact (dif_pos h0).trans (if_pos h0).symm
    · refine (dif_neg h0).trans (Eq.trans ?_ (if_neg h0).symm)
      by_cases h1 : l.val - 8 < 8
      · exact (dif_pos h1).trans (if_pos (show l.val < 16 by omega)).symm
      · exact (dif_neg h1).trans (if_neg (show ¬ l.val < 16 by omega)).symm
  · refine (dif_neg h).trans ?_
    rw [show l.val % 64 = l.val - 64 by omega]
    by_cases h0 : l.val - 64 < 8
    · exact (dif_pos h0).trans (if_pos h0).symm
    · refine (dif_neg h0).trans (Eq.trans ?_ (if_neg h0).symm)
      by_cases h1 : l.val - 64 - 8 < 8
      · exact (dif_pos h1).trans (if_pos (show l.val - 64 < 16 by omega)).symm
      · exact (dif_neg h1).trans (if_neg (show ¬ l.val - 64 < 16 by omega)).symm

variable (m : (ℓ : Loc nD τ sig) → Buf (Elt Ideal) ℓ) (c : Dev nD)

/-- The tokens. -/
abbrev A0 : S8x2048x1024.Idx → EReal := m ((c : Thread nD τ).loc main_arg0)
/-- The modulation. -/
abbrev A1 : S8x6144.Idx → EReal := m ((c : Thread nD τ).loc main_arg1)
/-- The norm's weights. -/
abbrev A2 : S1024.Idx → EReal := m ((c : Thread nD τ).loc main_arg2)
/-- The projection's weights. -/
abbrev A3 : S1024x8536.Idx → EReal := m ((c : Thread nD τ).loc main_arg3)

/-- The tokens the region reads, one row each. -/
theorem V24_apply (n : Fin 16384) (d : Fin 1024) : V m c main_v24 (ix2 n d) = A0 m c (ix3 (seqOf n) (posOf n) d) := by
  simp only [V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  pointwise
  rfl

/-- The modulation the region reads, six rows a sequence. -/
theorem V25_apply (b : Fin 8) (j : Fin 6) (d : Fin 1024) : V m c main_v25 (ix3 b j d) = part (A1 m c) j b d := by
  simp only [V, part, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  pointwise
  blk_ext

/-- The norm's weights the region reads. -/
theorem V49_apply (d : Fin 1024) : V m c main_v49 (ix2 0 d) = A2 m c (ix1 d) := by
  simp only [V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  pointwise

/-- The columns the region reads. -/
theorem V23_eq : V m c main_v23 = truncf .bf16 (wAll (A3 m c)) bitsLt_bf16_f32 := by
  simp only [V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  rfl

/-- The first table the region reads. -/
theorem V46_eq : V m c main_v46 = tTab tCos tCos (broadcastInDim S2048x48 ![] bcast_S_S2048x48 (constant (F := Ideal) S_ .f32 0x3F800000#32)) := by
  simp only [V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  rfl

/-- The second table the region reads. -/
theorem V47_eq : V m c main_v47 = tTab (Host.negf tSin) (broadcastInDim S2048x8 ![] bcast_S_S2048x8 (constant (F := Ideal) S_ .f32 0x00000000#32))
    (broadcastInDim S2048x48 ![] bcast_S_S2048x48 (constant (F := Ideal) S_ .f32 0x00000000#32)) := by
  simp only [V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  rfl

/-- The third table the region reads. -/
theorem V48_eq : V m c main_v48 = tTab (broadcastInDim S2048x8 ![] bcast_S_S2048x8 (constant (F := Ideal) S_ .f32 0x00000000#32)) tSin
    (broadcastInDim S2048x48 ![] bcast_S_S2048x48 (constant (F := Ideal) S_ .f32 0x00000000#32)) := by
  simp only [V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  after_results
  rfl

/-- The first table, lane by lane. -/
theorem V46_apply (p : Fin 2048) (l : Fin 128) : V m c main_v46 (ix2 p l) = tabC p l.val := by
  rw [V46_eq]
  exact tTab_apply _ _ _ p l (cosA p) (cosA p) 1 (tCos_apply p) (tCos_apply p) (fun i => by pointwise)

/-- The second table, lane by lane. -/
theorem V47_apply (p : Fin 2048) (l : Fin 128) : V m c main_v47 (ix2 p l) = tabS1 p l.val := by
  rw [V47_eq]
  refine (tTab_apply _ _ _ p l (fun i => -sinA p i) (fun _ => 0) 0 (fun i => ?_) (fun i => by pointwise) (fun i => by pointwise)).trans ?_
  · pointwise
    rw [tSin_apply]
  · unfold tabS1
    split_ifs <;> rfl

/-- The third table, lane by lane. -/
theorem V48_apply (p : Fin 2048) (l : Fin 128) : V m c main_v48 (ix2 p l) = tabS2 p l.val := by
  rw [V48_eq]
  exact tTab_apply _ _ _ p l (fun _ => 0) (sinA p) 0 (fun i => by pointwise) (tSin_apply p) (fun i => by pointwise)

/-- Where each window's block lies at a grid point. -/
theorem idx_w : ∀ t : Fin cfg0.N, win0_0.index t = ![t.val, 0] ∧ win0_1.index t = ![t.val / 4, 0, 0] ∧ win0_2.index t = ![0, 0]
    ∧ win0_3.index t = ![0, 0] ∧ win0_4.index t = ![t.val % 4, 0] ∧ win0_5.index t = ![t.val % 4, 0] ∧ win0_6.index t = ![t.val % 4, 0] :=
  (by decide +kernel : ∀ t : Fin grid0.N, _)

/-- Where each result's block lies at a grid point. -/
theorem idx_o : ∀ t : Fin cfg0.N, win0_7.index t = ![t.val, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)

/-- The block of tokens. -/
theorem iblk0 (t : Fin cfg0.N) (r : Fin 512) (d : Fin 1024) :
    iblk m c 0 t (ix2 r d : S512x1024.Idx) = A0 m c (ix3 (seqOf (tok 512 t.val r.val)) (posOf (tok 512 t.val r.val)) d) := by
  have ht : t.val < 32 := lt_of_lt_of_eq t.isLt N_0
  rw [← V24_apply]
  unfold tok
  blk_ext [iblk, (idx_w t).1]

/-- The modulation rows of a block. -/
theorem iblk1 (t : Fin cfg0.N) (j : Fin 6) (r : Fin 512) (d : Fin 1024) :
    iblk m c 1 t (ix3 0 j d : S1x6x1024.Idx) = part (A1 m c) j (seqOf (tok 512 t.val r.val)) d := by
  have ht : t.val < 32 := lt_of_lt_of_eq t.isLt N_0
  rw [← V25_apply]
  unfold tok seqOf
  blk_ext [iblk, (idx_w t).2.1]

/-- The norm's weights in a block. -/
theorem iblk2 (t : Fin cfg0.N) (d : Fin 1024) : iblk m c 2 t (ix2 0 d : S1x1024.Idx) = A2 m c (ix1 d) := by
  rw [← V49_apply]
  blk_ext [iblk, (idx_w t).2.2.1]

/-- The columns in a block. -/
theorem iblk3 (t : Fin cfg0.N) (k : Fin 1024) (j : Fin 1792) : iblk m c 3 t (ix2 k j : S1024x1792.Idx) = wAll (A3 m c) (ix2 k j) := by
  rw [show wAll (A3 m c) (ix2 k j) = V m c main_v23 (ix2 k j) from (congrFun (V23_eq m c) _).symm]
  blk_ext [iblk, (idx_w t).2.2.2.1]

/-- The first table in a block. -/
theorem iblk4 (t : Fin cfg0.N) (r : Fin 512) (l : Fin 128) : iblk m c 4 t (ix2 r l : S512x128.Idx) = tabC (posOf (tok 512 t.val r.val)) l.val := by
  have ht : t.val < 32 := lt_of_lt_of_eq t.isLt N_0
  rw [← V46_apply m c]
  unfold tok posOf
  blk_ext [iblk, (idx_w t).2.2.2.2.1]

/-- The second table in a block. -/
theorem iblk5 (t : Fin cfg0.N) (r : Fin 512) (l : Fin 128) : iblk m c 5 t (ix2 r l : S512x128.Idx) = tabS1 (posOf (tok 512 t.val r.val)) l.val := by
  have ht : t.val < 32 := lt_of_lt_of_eq t.isLt N_0
  rw [← V47_apply m c]
  unfold tok posOf
  blk_ext [iblk, (idx_w t).2.2.2.2.2.1]

/-- The third table in a block. -/
theorem iblk6 (t : Fin cfg0.N) (r : Fin 512) (l : Fin 128) : iblk m c 6 t (ix2 r l : S512x128.Idx) = tabS2 (posOf (tok 512 t.val r.val)) l.val := by
  have ht : t.val < 32 := lt_of_lt_of_eq t.isLt N_0
  rw [← V48_apply m c]
  unfold tok posOf
  blk_ext [iblk, (idx_w t).2.2.2.2.2.2]

end Cert.Kernel8Ideal.Dsa

end
-- ==== Proof.DsaArr.lean ====
/- The sparse attention's projection: that the kernel's six result arrays are its reference's. -/
module

public import proofs.«01_k».proof.Proof.DsaIn

@[expose] public section

set_option maxRecDepth 16384

noncomputable section

namespace Cert.Kernel8Ideal.Dsa

open Idealize.ShloMosaic Idealize.ShloMosaic.TcCoe Idealize.ShloMosaic.Tactic Cert.Kernel8Ideal Cert.Kernel8Ideal.Gen Cert.Rows Cert.Rope
open Cert.Reference8Ideal.Dsa (colAt q_apply k_apply v_apply iq_apply ik_apply iw_apply)
open Idealize.SL.Sem

/-- A chunk of 128 lanes from lane `o` of a row, turned with the three tables. -/
theorem chunk_eq (p : Fin 2048) (g : ℕ → EReal) (o l j : ℕ) (ho : o % 128 = 0) (hl : l < 128) (hj : o + l = j) :
    g (o + l) * tabC p l + g (o + (l + 128 - 120) % 128) * tabS1 p l + g (o + (l + 128 - 8) % 128) * tabS2 p l
      = at64 p (j % 64) (fun e => g (64 * (j / 64) + e)) := by
  refine (at128_eq p l hl fun e => g (o + e)).trans ?_
  rw [show l % 64 = j % 64 by omega]
  refine congrArg (at64 p (j % 64)) (funext fun e => congrArg g ?_)
  omega

/-- The first chunk of 128 lanes of a row. -/
theorem chunk_zero (p : Fin 2048) (g : ℕ → EReal) (j : ℕ) (hj : j < 128) :
    g j * tabC p j + g ((j + 128 - 120) % 128) * tabS1 p j + g ((j + 128 - 8) % 128) * tabS2 p j
      = at64 p (j % 64) (fun e => g (64 * (j / 64) + e)) := at128_eq p j hj g

/-- Two padded heads turn as one does; the padding stays nought. -/
theorem padded_eq (p : Fin 2048) (f : ℕ → EReal) (o j : ℕ) :
    at64 p (j % 64) (fun e => (fun i : ℕ => if i % 128 < 64 then f (o + (64 * (i / 128) + i % 128)) else 0) (64 * (j / 64) + e))
      = if j % 128 < 64 then at64 p (j % 128) (fun e => f (o + (64 * (j / 128) + e))) else 0 := by
  by_cases h : j % 128 < 64
  · refine Eq.trans ?_ (if_pos h).symm
    rw [show j % 64 = j % 128 by omega]
    refine at64_congr p _ h _ _ fun e he => ?_
    refine (if_pos (show (64 * (j / 64) + e) % 128 < 64 by omega)).trans (congrArg f ?_)
    omega
  · refine Eq.trans ?_ (if_neg h).symm
    refine (at64_congr p _ (by omega) _ (fun _ => 0) fun e he => ?_).trans (at64_zero p _)
    exact if_neg (show ¬ (64 * (j / 64) + e) % 128 < 64 by omega)

/-- One padded head turns as a head does; the padding stays nought. -/
theorem padded_one (p : Fin 2048) (f : ℕ → EReal) (j : ℕ) (hj : j < 128) :
    at64 p (j % 64) (fun e => (fun i : ℕ => if i < 64 then f i else 0) (64 * (j / 64) + e))
      = if j < 64 then at64 p j f else 0 := by
  by_cases h : j < 64
  · refine Eq.trans ?_ (if_pos h).symm
    rw [show j % 64 = j by omega]
    refine at64_congr p _ h _ _ fun e he => ?_
    refine (if_pos (show 64 * (j / 64) + e < 64 by omega)).trans (congrArg f ?_)
    omega
  · refine Eq.trans ?_ (if_neg h).symm
    refine (at64_congr p _ (by omega) _ (fun _ => 0) fun e he => ?_).trans (at64_zero p _)
    exact if_neg (show ¬ 64 * (j / 64) + e < 64 by omega)

/-- Eight heads, written in chunks of 128 lanes: each head is turned. -/
theorem turn_q (p : Fin 512 → Fin 2048) (acc : FVec Ideal S512x512 .f32) (x4 x5 x6 : FVec Ideal S512x128 .f32) (g : Fin 512 → ℕ → EReal)
    (ha : ∀ r (j : Fin 512), acc (ix2 r j) = g r j.val) (h4 : ∀ r (l : Fin 128), x4 (ix2 r l) = tabC (p r) l.val) (h5 : ∀ r (l : Fin 128), x5 (ix2 r l) = tabS1 (p r) l.val)
    (h6 : ∀ r (l : Fin 128), x6 (ix2 r l) = tabS2 (p r) l.val) (r : Fin 512) (j : Fin 512) :
    k0_pay8 (F := Ideal) acc (k0_pay5 x4) (k0_pay6 x5) (k0_pay7 x6) (ix2 r j) = at64 (p r) (j.val % 64) (fun e => g r (64 * (j.val / 64) + e)) := by
  pointwise [k0_pay8, k0_pay5, k0_pay6, k0_pay7]
  simp only [ha, h4, h5, h6]
  by_cases h0 : j.val < 128
  · exact (dif_pos h0).trans (chunk_zero (p r) (g r) j.val h0)
  refine (dif_neg h0).trans ?_
  by_cases h1 : j.val - 128 < 128
  · exact (dif_pos h1).trans (chunk_eq (p r) (g r) 128 (j.val - 128) j.val (by norm_num) h1 (by omega))
  refine (dif_neg h1).trans ?_
  by_cases h2 : j.val - 128 - 128 < 128
  · exact (dif_pos h2).trans (chunk_eq (p r) (g r) 256 (j.val - 128 - 128) j.val (by norm_num) h2 (by omega))
  refine (dif_neg h2).trans ?_
  exact chunk_eq (p r) (g r) 384 (j.val - 128 - 128 - 128) j.val (by norm_num) (by omega) (by omega)

/-- Two padded heads, written in chunks of 128 lanes: each head is turned. -/
theorem turn_k (p : Fin 512 → Fin 2048) (acc : FVec Ideal S512x256 .f32) (x4 x5 x6 : FVec Ideal S512x128 .f32) (g : Fin 512 → ℕ → EReal)
    (ha : ∀ r (j : Fin 256), acc (ix2 r j) = g r j.val) (h4 : ∀ r (l : Fin 128), x4 (ix2 r l) = tabC (p r) l.val) (h5 : ∀ r (l : Fin 128), x5 (ix2 r l) = tabS1 (p r) l.val)
    (h6 : ∀ r (l : Fin 128), x6 (ix2 r l) = tabS2 (p r) l.val) (r : Fin 512) (j : Fin 256) :
    k0_pay12 (F := Ideal) acc (k0_pay10 x4) (k0_pay11 x5) x6 (ix2 r j) = at64 (p r) (j.val % 64) (fun e => g r (64 * (j.val / 64) + e)) := by
  pointwise [k0_pay12, k0_pay10, k0_pay11]
  simp only [ha, h4, h5, h6]
  by_cases h0 : j.val < 128
  · exact (dif_pos h0).trans (chunk_zero (p r) (g r) j.val h0)
  refine (dif_neg h0).trans ?_
  exact chunk_eq (p r) (g r) 128 (j.val - 128) j.val (by norm_num) (by omega) (by omega)

/-- The indexer's eight heads, written in chunks of 128 lanes: each head is turned. -/
theorem turn_iq (p : Fin 512 → Fin 2048) (acc : FVec Ideal S512x512 .f32) (x4 x5 x6 : FVec Ideal S512x128 .f32) (g : Fin 512 → ℕ → EReal)
    (ha : ∀ r (j : Fin 512), acc (ix2 r j) = g r j.val) (h4 : ∀ r (l : Fin 128), x4 (ix2 r l) = tabC (p r) l.val) (h5 : ∀ r (l : Fin 128), x5 (ix2 r l) = tabS1 (p r) l.val)
    (h6 : ∀ r (l : Fin 128), x6 (ix2 r l) = tabS2 (p r) l.val) (r : Fin 512) (j : Fin 512) :
    k0_pay17 (F := Ideal) acc (k0_pay15 x4) (k0_pay16 x5) x6 (ix2 r j) = at64 (p r) (j.val % 64) (fun e => g r (64 * (j.val / 64) + e)) := by
  pointwise [k0_pay17, k0_pay15, k0_pay16]
  simp only [ha, h4, h5, h6]
  by_cases h0 : j.val < 128
  · exact (dif_pos h0).trans (chunk_zero (p r) (g r) j.val h0)
  refine (dif_neg h0).trans ?_
  by_cases h1 : j.val - 128 < 128
  · exact (dif_pos h1).trans (chunk_eq (p r) (g r) 128 (j.val - 128) j.val (by norm_num) h1 (by omega))
  refine (dif_neg h1).trans ?_
  by_cases h2 : j.val - 128 - 128 < 128
  · exact (dif_pos h2).trans (chunk_eq (p r) (g r) 256 (j.val - 128 - 128) j.val (by norm_num) h2 (by omega))
  refine (dif_neg h2).trans ?_
  exact chunk_eq (p r) (g r) 384 (j.val - 128 - 128 - 128) j.val (by norm_num) (by omega) (by omega)

/-- The indexer's one padded head, written in chunks of 128 lanes: each head is turned. -/
theorem turn_ik (p : Fin 512 → Fin 2048) (acc : FVec Ideal S512x128 .f32) (x4 x5 x6 : FVec Ideal S512x128 .f32) (g : Fin 512 → ℕ → EReal)
    (ha : ∀ r (j : Fin 128), acc (ix2 r j) = g r j.val) (h4 : ∀ r (l : Fin 128), x4 (ix2 r l) = tabC (p r) l.val) (h5 : ∀ r (l : Fin 128), x5 (ix2 r l) = tabS1 (p r) l.val)
    (h6 : ∀ r (l : Fin 128), x6 (ix2 r l) = tabS2 (p r) l.val) (r : Fin 512) (j : Fin 128) :
    k0_pay1 (F := Ideal) acc (k0_pay19 x4) x5 x6 (ix2 r j) = at64 (p r) (j.val % 64) (fun e => g r (64 * (j.val / 64) + e)) := by
  pointwise [k0_pay1, k0_pay19]
  simp only [ha, h4, h5, h6]
  exact chunk_zero (p r) (g r) j.val j.isLt

/-- The queries' part of the columns. -/
theorem wAll_q (a : FVec Ideal S1024x8536 .f32) (k : Fin 1024) (j : Fin 512) :
    wAll a (ix2 k ⟨j.val, by omega⟩) = wQ a (ix2 k j) := by
  pointwise [wAll]

/-- The keys' part of the columns. -/
theorem wAll_k (a : FVec Ideal S1024x8536 .f32) (k : Fin 1024) (j : Fin 256) :
    wAll a (ix2 k ⟨512 + j.val, by omega⟩) = wTwo (extractStridedSlice S1024x128 ![0, 4624] a slices_S1024x8536_S1024x128_0_4624) (ix2 k j) := by
  pointwise [wAll]

/-- The values' part of the columns. -/
theorem wAll_v (a : FVec Ideal S1024x8536 .f32) (k : Fin 1024) (j : Fin 256) :
    wAll a (ix2 k ⟨768 + j.val, by omega⟩) = wTwo (extractStridedSlice S1024x128 ![0, 4752] a slices_S1024x8536_S1024x128_0_4752) (ix2 k j) := by
  pointwise [wAll]
  refine (dif_neg (show ¬ 768 + j.val < 512 by omega)).trans ?_
  refine (dif_neg (show ¬ 768 + j.val - 512 < 256 by omega)).trans ?_
  refine (dif_pos (show 768 + j.val - 512 - 256 < 256 by omega)).trans ?_
  refine congrArg (fun r : Fin 256 => wTwo (extractStridedSlice S1024x128 ![0, 4752] a slices_S1024x8536_S1024x128_0_4752) (ix2 k r)) (Fin.ext ?_)
  show 768 + j.val - 512 - 256 = j.val
  omega

/-- The indexer's queries' part of the columns. -/
theorem wAll_iq (a : FVec Ideal S1024x8536 .f32) (k : Fin 1024) (j : Fin 512) :
    wAll a (ix2 k ⟨1024 + j.val, by omega⟩) = wIQ a (ix2 k j) := by
  pointwise [wAll]
  refine (dif_neg (show ¬ 1024 + j.val < 512 by omega)).trans ?_
  refine (dif_neg (show ¬ 1024 + j.val - 512 < 256 by omega)).trans ?_
  refine (dif_neg (show ¬ 1024 + j.val - 512 - 256 < 256 by omega)).trans ?_
  refine (dif_pos (show 1024 + j.val - 512 - 256 - 256 < 512 by omega)).trans ?_
  refine congrArg (fun r : Fin 512 => wIQ a (ix2 k r)) (Fin.ext ?_)
  show 1024 + j.val - 512 - 256 - 256 = j.val
  omega

/-- The indexer's keys' part of the columns. -/
theorem wAll_ik (a : FVec Ideal S1024x8536 .f32) (k : Fin 1024) (j : Fin 128) :
    wAll a (ix2 k ⟨1536 + j.val, by omega⟩) = wPad (extractStridedSlice S1024x64 ![0, 5392] a slices_S1024x8536_S1024x64_0_5392) (ix2 k j) := by
  pointwise [wAll]
  refine (dif_neg (show ¬ 1536 + j.val < 512 by omega)).trans ?_
  refine (dif_neg (show ¬ 1536 + j.val - 512 < 256 by omega)).trans ?_
  refine (dif_neg (show ¬ 1536 + j.val - 512 - 256 < 256 by omega)).trans ?_
  refine (dif_neg (show ¬ 1536 + j.val - 512 - 256 - 256 < 512 by omega)).trans ?_
  refine (dif_pos (show 1536 + j.val - 512 - 256 - 256 - 512 < 128 by omega)).trans ?_
  refine congrArg (fun r : Fin 128 => wPad (extractStridedSlice S1024x64 ![0, 5392] a slices_S1024x8536_S1024x64_0_5392) (ix2 k r)) (Fin.ext ?_)
  show 1536 + j.val - 512 - 256 - 256 - 512 = j.val
  omega

/-- The indexer's weights' part of the columns. -/
theorem wAll_iw (a : FVec Ideal S1024x8536 .f32) (k : Fin 1024) (j : Fin 128) :
    wAll a (ix2 k ⟨1664 + j.val, by omega⟩) = wIW a (ix2 k j) := by
  pointwise [wAll]
  refine (dif_neg (show ¬ 1664 + j.val < 512 by omega)).trans ?_
  refine (dif_neg (show ¬ 1664 + j.val - 512 < 256 by omega)).trans ?_
  refine (dif_neg (show ¬ 1664 + j.val - 512 - 256 < 256 by omega)).trans ?_
  refine (dif_neg (show ¬ 1664 + j.val - 512 - 256 - 256 < 512 by omega)).trans ?_
  refine (dif_neg (show ¬ 1664 + j.val - 512 - 256 - 256 - 512 < 128 by omega)).trans ?_
  refine congrArg (fun r : Fin 128 => wIW a (ix2 k r)) (Fin.ext ?_)
  show 1664 + j.val - 512 - 256 - 256 - 512 - 128 = j.val
  omega

/-- Two padded heads' columns, by number. -/
theorem wTwo_col (a : FVec Ideal S1024x8536 .f32) (o : ℕ) (b : FVec Ideal S1024x128 .f32)
    (hb : ∀ (k : Fin 1024) (j : Fin 128), b (ix2 k j) = wCol a k (o + j.val)) (k : Fin 1024) (j : Fin 256) :
    wTwo b (ix2 k j) = if j.val % 128 < 64 then wCol a k (o + (64 * (j.val / 128) + j.val % 128)) else 0 := by
  rw [wTwo_apply]
  by_cases h : j.val % 128 < 64
  · exact (dif_pos h).trans ((hb _ _).trans (if_pos h).symm)
  · exact (dif_neg h).trans (if_neg h).symm

/-- A column's number below the width needs no reduction. -/
theorem wCol_eq (a : FVec Ideal S1024x8536 .f32) (k : Fin 1024) (j : ℕ) (h : j < 8536) : a (ix2 k ⟨j, h⟩) = wCol a k j :=
  congrArg (fun r : Fin 8536 => a (ix2 k r)) (Fin.ext (Nat.mod_eq_of_lt h).symm)

variable (m : (ℓ : Loc nD τ sig) → Buf (Elt Ideal) ℓ) (c : Dev nD)

/-- A token's product with a column, from the arguments. -/
abbrev colT (t : ℕ) (r : Fin 512) (j : ℕ) : EReal :=
  colAt (A0 m c) (A1 m c) (A2 m c) (A3 m c) (seqOf (tok 512 t r.val)) (posOf (tok 512 t r.val)) j

/-- The modulated norm a block's row holds. -/
abbrev nrm (t : ℕ) (r : Fin 512) : Row := normRow (A0 m c) (A1 m c) (A2 m c) 1 0 (seqOf (tok 512 t r.val)) (posOf (tok 512 t r.val))

/-- A product with a scaled column is the scaled product. -/
theorem dot_scaled (t : ℕ) (r : Fin 512) (j : ℕ) :
    ∑ k, nrm m c t r k * (wCol (A3 m c) k j * ((1 / 8 : ℝ) : EReal)) = colT m c t r j * ((1 / 8 : ℝ) : EReal) := by
  unfold colT colAt
  rw [Cert.Stick.sum_mul_coe _ _ (by norm_num)]
  exact Finset.sum_congr rfl fun k _ => (mul_assoc _ _ _).symm

/-- A product with a column that may be nought. -/
theorem dot_if (t : ℕ) (r : Fin 512) (q : Prop) [Decidable q] (j : ℕ) :
    ∑ k, nrm m c t r k * (if q then wCol (A3 m c) k j else 0) = if q then colT m c t r j else 0 := by
  by_cases h : q
  · rw [if_pos h]
    exact Finset.sum_congr rfl fun k _ => congrArg (_ * ·) (if_pos h)
  · rw [if_neg h]
    exact Finset.sum_eq_zero fun k _ => (congrArg (_ * ·) (if_neg h)).trans (mul_zero _)

/-- The normalised block, as the kernel computes it. -/
theorem h_apply (t : Fin cfg0.N) (r : Fin 512) (d : Fin 1024) :
    k0_pay20 (F := Ideal) (iblk m c 0 t) (iblk m c 1 t) (iblk m c 2 t) (iblk m c 3 t) (iblk m c 4 t) (iblk m c 5 t) (iblk m c 6 t) (ix2 r d) = nrm m c t.val r d := by
  pointwise [k0_pay20, k0_pay3]
  simp only [iblk0, iblk2, fun k => show iblk m c 1 t (ix3 0 0 k : S1x6x1024.Idx) = _ from iblk1 m c t 0 r k,
    fun k => show iblk m c 1 t (ix3 0 1 k : S1x6x1024.Idx) = _ from iblk1 m c t 1 r k]
  rfl

/-- The values' product, for any rows and columns. -/
theorem prod_v (h : FVec Ideal S512x1024 .bf16) (w : Vec Ideal S1024x256 .bf16) (r : Fin 512) (j : Fin 256) :
    k0_pay13 (F := Ideal) h w (ix2 r j) = ∑ k : Fin 1024, h (ix2 r k) * w (ix2 k j) := by
  pointwise [k0_pay13]
  by_cases h0 : j.val < 128
  · exact dif_pos h0
  refine (dif_neg h0).trans (Finset.sum_congr rfl fun k _ => congrArg (fun i : Fin 256 => h (ix2 r k) * w (ix2 k i)) (Fin.ext ?_))
  show 128 + (j.val - 128) = j.val
  omega

/-- The columns the values' product loads. -/
theorem ld_v (x : Vec Ideal S1024x1792 .bf16) (k : Fin 1024) (j : Fin 256) :
    View.ld x r0_9 (ix2 k j) = x (ix2 k ⟨768 + j.val, by omega⟩) := by
  pointwise

/-- The same row, written from the blocks themselves. -/
theorem h_apply' (t : Fin cfg0.N) (r : Fin 512) (d : Fin 1024) :
    k0_pay3 (F := Ideal) (iblk m c 0 t) (iblk m c 2 t) (View.ld (iblk m c 1 t) r0_2) (View.ld (iblk m c 1 t) r0_3) (ix2 r d) = nrm m c t.val r d := by
  refine Eq.trans ?_ (h_apply m c t r d)
  pointwise [k0_pay20, k0_pay3]

/-- The queries' product. -/
theorem acc_q (t : Fin cfg0.N) (r : Fin 512) (j : Fin 512) :
    k0_pay4 (F := Ideal) (iblk m c 0 t) (iblk m c 2 t) (View.ld (iblk m c 1 t) r0_2) (View.ld (iblk m c 1 t) r0_3)
      (View.ld (iblk m c 3 t) r0_4) (ix2 r j) = colT m c t.val r (4112 + j.val) * ((1 / 8 : ℝ) : EReal) := by
  refine Eq.trans ?_ (dot_scaled m c t.val r (4112 + j.val))
  change k0_pay14 (F := Ideal) (k0_pay3 (iblk m c 0 t) (iblk m c 2 t) (View.ld (iblk m c 1 t) r0_2) (View.ld (iblk m c 1 t) r0_3)) (View.ld (iblk m c 3 t) r0_4) (ix2 r j) = _
  pointwise [k0_pay14]
  refine Finset.sum_congr rfl fun k _ => congrArg₂ (· * ·) (h_apply' m c t r k) ?_
  exact (iblk3 m c t k _).trans ((wAll_q _ k j).trans (wQ_apply _ k j))

/-- The keys' product. -/
theorem acc_k (t : Fin cfg0.N) (r : Fin 512) (j : Fin 256) :
    k0_pay9 (F := Ideal) (k0_pay20 (iblk m c 0 t) (iblk m c 1 t) (iblk m c 2 t) (iblk m c 3 t) (iblk m c 4 t) (iblk m c 5 t) (iblk m c 6 t)) (View.ld (iblk m c 3 t) r0_7) (ix2 r j)
      = if j.val % 128 < 64 then colT m c t.val r (4624 + (64 * (j.val / 128) + j.val % 128)) else 0 := by
  refine Eq.trans ?_ (dot_if m c t.val r _ _)
  pointwise [k0_pay9]
  refine Finset.sum_congr rfl fun k _ => congrArg₂ (· * ·) (h_apply m c t r k) ?_
  refine (iblk3 m c t k _).trans ((wAll_k _ k j).trans (wTwo_col _ 4624 _ (fun k j => ?_) k j))
  pointwise
  exact wCol_eq _ k _ _

/-- The values' product. -/
theorem acc_v (t : Fin cfg0.N) (r : Fin 512) (j : Fin 256) :
    k0_pay13 (F := Ideal) (k0_pay20 (iblk m c 0 t) (iblk m c 1 t) (iblk m c 2 t) (iblk m c 3 t) (iblk m c 4 t) (iblk m c 5 t) (iblk m c 6 t)) (View.ld (iblk m c 3 t) r0_9) (ix2 r j)
      = if j.val % 128 < 64 then colT m c t.val r (4752 + (64 * (j.val / 128) + j.val % 128)) else 0 := by
  refine Eq.trans ?_ (dot_if m c t.val r _ _)
  refine (prod_v _ _ r j).trans ?_
  refine Finset.sum_congr rfl fun k _ => congrArg₂ (· * ·) (h_apply m c t r k) ?_
  refine (ld_v _ k j).trans ((iblk3 m c t k _).trans ((wAll_v _ k j).trans (wTwo_col _ 4752 _ (fun k j => ?_) k j)))
  pointwise
  exact wCol_eq _ k _ _

/-- The indexer's queries' product. -/
theorem acc_iq (t : Fin cfg0.N) (r : Fin 512) (j : Fin 512) :
    k0_pay14 (F := Ideal) (k0_pay20 (iblk m c 0 t) (iblk m c 1 t) (iblk m c 2 t) (iblk m c 3 t) (iblk m c 4 t) (iblk m c 5 t) (iblk m c 6 t)) (View.ld (iblk m c 3 t) r0_10) (ix2 r j)
      = colT m c t.val r (4880 + j.val) * ((1 / 8 : ℝ) : EReal) := by
  refine Eq.trans ?_ (dot_scaled m c t.val r (4880 + j.val))
  pointwise [k0_pay14]
  refine Finset.sum_congr rfl fun k _ => congrArg₂ (· * ·) (h_apply m c t r k) ?_
  exact (iblk3 m c t k _).trans ((wAll_iq _ k j).trans (wIQ_apply _ k j))

/-- The indexer's keys' product. -/
theorem acc_ik (t : Fin cfg0.N) (r : Fin 512) (j : Fin 128) :
    k0_pay18 (F := Ideal) (k0_pay20 (iblk m c 0 t) (iblk m c 1 t) (iblk m c 2 t) (iblk m c 3 t) (iblk m c 4 t) (iblk m c 5 t) (iblk m c 6 t)) (View.ld (iblk m c 3 t) r0_11) (ix2 r j)
      = if j.val < 64 then colT m c t.val r (5392 + j.val) else 0 := by
  refine Eq.trans ?_ (dot_if m c t.val r _ _)
  pointwise [k0_pay18]
  refine Finset.sum_congr rfl fun k _ => congrArg₂ (· * ·) (h_apply m c t r k) ?_
  refine (iblk3 m c t k _).trans ((wAll_ik _ k j).trans ((wPad_apply _ k j).trans ?_))
  by_cases h : j.val < 64
  · refine (dif_pos h).trans (Eq.trans ?_ (if_pos h).symm)
    pointwise
    exact wCol_eq _ k _ _
  · exact (dif_neg h).trans (if_neg h).symm

/-- The indexer's weights' product. -/
theorem acc_iw (t : Fin cfg0.N) (r : Fin 512) (j : Fin 128) :
    k0_pay2 (F := Ideal) (k0_pay20 (iblk m c 0 t) (iblk m c 1 t) (iblk m c 2 t) (iblk m c 3 t) (iblk m c 4 t) (iblk m c 5 t) (iblk m c 6 t)) (View.ld (iblk m c 3 t) r0_12) (ix2 r j)
      = if j.val < 8 then colT m c t.val r (5456 + j.val) else 0 := by
  refine Eq.trans ?_ (dot_if m c t.val r _ _)
  pointwise [k0_pay2]
  refine Finset.sum_congr rfl fun k _ => congrArg₂ (· * ·) (h_apply m c t r k) ?_
  exact (iblk3 m c t k _).trans ((wAll_iw _ k j).trans (wIW_apply _ k j))

/-- A row of the first block the kernel writes. -/
theorem q_out (t : Fin cfg0.N) (r : Fin 512) (j : Fin 512) :
    out0_7 (F := Ideal) (iblk m c 0 t) (iblk m c 1 t) (iblk m c 2 t) (iblk m c 3 t) (iblk m c 4 t) (iblk m c 5 t) (iblk m c 6 t) (ix2 r j)
      = Cert.Reference8Ideal.Read.val_main_v158 (F := Ideal) (A0 m c) (A1 m c) (A2 m c) (A3 m c) (ix2 (tok 512 t.val r.val) j) := by
  rw [q_apply]
  unfold out0_7
  frame_out
  exact turn_q (fun r => posOf (tok 512 t.val r.val)) _ _ _ _
    (fun r i => colT m c t.val r (4112 + i) * ((1 / 8 : ℝ) : EReal)) (acc_q m c t) (iblk4 m c t) (iblk5 m c t) (iblk6 m c t) r j

/-- A row of the second block the kernel writes. -/
theorem k_out (t : Fin cfg0.N) (r : Fin 512) (j : Fin 256) :
    out0_8 (F := Ideal) (iblk m c 0 t) (iblk m c 1 t) (iblk m c 2 t) (iblk m c 3 t) (iblk m c 4 t) (iblk m c 5 t) (iblk m c 6 t) (ix2 r j)
      = Cert.Reference8Ideal.Read.val_main_v161 (F := Ideal) (A0 m c) (A1 m c) (A2 m c) (A3 m c) (ix2 (tok 512 t.val r.val) j) := by
  rw [k_apply]
  unfold out0_8
  frame_out
  refine Eq.trans ?_ (padded_eq (posOf (tok 512 t.val r.val)) (colT m c t.val r) 4624 j.val)
  exact turn_k (fun r => posOf (tok 512 t.val r.val)) _ _ _ _
    (fun r i => if i % 128 < 64 then colT m c t.val r (4624 + (64 * (i / 128) + i % 128)) else 0) (acc_k m c t) (iblk4 m c t) (iblk5 m c t) (iblk6 m c t) r j

/-- A row of the third block the kernel writes. -/
theorem v_out (t : Fin cfg0.N) (r : Fin 512) (j : Fin 256) :
    out0_9 (F := Ideal) (iblk m c 0 t) (iblk m c 1 t) (iblk m c 2 t) (iblk m c 3 t) (iblk m c 4 t) (iblk m c 5 t) (iblk m c 6 t) (ix2 r j)
      = Cert.Reference8Ideal.Read.val_main_v164 (F := Ideal) (A0 m c) (A1 m c) (A2 m c) (A3 m c) (ix2 (tok 512 t.val r.val) j) := by
  rw [v_apply]
  unfold out0_9
  frame_out
  exact acc_v m c t r j

/-- A row of the fourth block the kernel writes. -/
theorem iq_out (t : Fin cfg0.N) (r : Fin 512) (j : Fin 512) :
    out0_10 (F := Ideal) (iblk m c 0 t) (iblk m c 1 t) (iblk m c 2 t) (iblk m c 3 t) (iblk m c 4 t) (iblk m c 5 t) (iblk m c 6 t) (ix2 r j)
      = Cert.Reference8Ideal.Read.val_main_v166 (F := Ideal) (A0 m c) (A1 m c) (A2 m c) (A3 m c) (ix2 (tok 512 t.val r.val) j) := by
  rw [iq_apply]
  unfold out0_10
  frame_out
  exact turn_iq (fun r => posOf (tok 512 t.val r.val)) _ _ _ _
    (fun r i => colT m c t.val r (4880 + i) * ((1 / 8 : ℝ) : EReal)) (acc_iq m c t) (iblk4 m c t) (iblk5 m c t) (iblk6 m c t) r j

/-- A row of the fifth block the kernel writes. -/
theorem ik_out (t : Fin cfg0.N) (r : Fin 512) (j : Fin 128) :
    out0_11 (F := Ideal) (iblk m c 0 t) (iblk m c 1 t) (iblk m c 2 t) (iblk m c 3 t) (iblk m c 4 t) (iblk m c 5 t) (iblk m c 6 t) (ix2 r j)
      = Cert.Reference8Ideal.Read.val_main_v169 (F := Ideal) (A0 m c) (A1 m c) (A2 m c) (A3 m c) (ix2 (tok 512 t.val r.val) j) := by
  rw [ik_apply]
  unfold out0_11
  frame_out
  refine Eq.trans ?_ (padded_one (posOf (tok 512 t.val r.val)) (fun e => colT m c t.val r (5392 + e)) j.val j.isLt)
  exact turn_ik (fun r => posOf (tok 512 t.val r.val)) _ _ _ _
    (fun r i => if i < 64 then colT m c t.val r (5392 + i) else 0) (acc_ik m c t) (iblk4 m c t) (iblk5 m c t) (iblk6 m c t) r j

/-- A row of the sixth block the kernel writes. -/
theorem iw_out (t : Fin cfg0.N) (r : Fin 512) (j : Fin 128) :
    out0_12 (F := Ideal) (iblk m c 0 t) (iblk m c 1 t) (iblk m c 2 t) (iblk m c 3 t) (iblk m c 4 t) (iblk m c 5 t) (iblk m c 6 t) (ix2 r j)
      = Cert.Reference8Ideal.Read.val_main_v171 (F := Ideal) (A0 m c) (A1 m c) (A2 m c) (A3 m c) (ix2 (tok 512 t.val r.val) j) := by
  rw [iw_apply]
  unfold out0_12
  frame_out
  exact acc_iw m c t r j

/-- The kernel's first result array is the reference's. -/
theorem q_eq : (dats m 0 c).arrAt 7 cfg0.N
    = Cert.Reference8Ideal.Read.val_main_v158 (F := Ideal) (A0 m c) (A1 m c) (A2 m c) (A3 m c) := by
  refine (dats m 0 c).arrAt_eq_of_covers 7 _ (by decide +kernel) fun t hf y => ?_
  have hN : t.val < 32 := lt_of_lt_of_eq t.isLt N_0
  have h0 : (y 0).val < 512 := (y 0).isLt
  have h1 : (y 1).val < 512 := (y 1).isLt
  blk_simp
  rw [after0_7]
  refine Eq.trans (congrArg _ (funext fun a => ?_)) ((q_out m c t ⟨(y 0).val, h0⟩ ⟨(y 1).val, h1⟩).trans (congrArg _ (funext fun a => Fin.ext ?_)))
  · fin_cases a <;> rfl
  · fin_cases a
    · blk_simp [(idx_o t).1]
      show (512 * t.val + (y 0).val) % 16384 = t.val * 512 + (y 0).val
      omega
    · blk_simp [(idx_o t).1]
      rfl

/-- The kernel's second result array is the reference's. -/
theorem k_eq : (dats m 0 c).arrAt 8 cfg0.N
    = Cert.Reference8Ideal.Read.val_main_v161 (F := Ideal) (A0 m c) (A1 m c) (A2 m c) (A3 m c) := by
  refine (dats m 0 c).arrAt_eq_of_covers 8 _ (by decide +kernel) fun t hf y => ?_
  have hN : t.val < 32 := lt_of_lt_of_eq t.isLt N_0
  have h0 : (y 0).val < 512 := (y 0).isLt
  have h1 : (y 1).val < 256 := (y 1).isLt
  blk_simp
  rw [after0_8]
  refine Eq.trans (congrArg _ (funext fun a => ?_)) ((k_out m c t ⟨(y 0).val, h0⟩ ⟨(y 1).val, h1⟩).trans (congrArg _ (funext fun a => Fin.ext ?_)))
  · fin_cases a <;> rfl
  · fin_cases a
    · blk_simp [(idx_o t).2.1]
      show (512 * t.val + (y 0).val) % 16384 = t.val * 512 + (y 0).val
      omega
    · blk_simp [(idx_o t).2.1]
      rfl

/-- The kernel's third result array is the reference's. -/
theorem v_eq : (dats m 0 c).arrAt 9 cfg0.N
    = Cert.Reference8Ideal.Read.val_main_v164 (F := Ideal) (A0 m c) (A1 m c) (A2 m c) (A3 m c) := by
  refine (dats m 0 c).arrAt_eq_of_covers 9 _ (by decide +kernel) fun t hf y => ?_
  have hN : t.val < 32 := lt_of_lt_of_eq t.isLt N_0
  have h0 : (y 0).val < 512 := (y 0).isLt
  have h1 : (y 1).val < 256 := (y 1).isLt
  blk_simp
  rw [after0_9]
  refine Eq.trans (congrArg _ (funext fun a => ?_)) ((v_out m c t ⟨(y 0).val, h0⟩ ⟨(y 1).val, h1⟩).trans (congrArg _ (funext fun a => Fin.ext ?_)))
  · fin_cases a <;> rfl
  · fin_cases a
    · blk_simp [(idx_o t).2.2.1]
      show (512 * t.val + (y 0).val) % 16384 = t.val * 512 + (y 0).val
      omega
    · blk_simp [(idx_o t).2.2.1]
      rfl

/-- The kernel's fourth result array is the reference's. -/
theorem iq_eq : (dats m 0 c).arrAt 10 cfg0.N
    = Cert.Reference8Ideal.Read.val_main_v166 (F := Ideal) (A0 m c) (A1 m c) (A2 m c) (A3 m c) := by
  refine (dats m 0 c).arrAt_eq_of_covers 10 _ (by decide +kernel) fun t hf y => ?_
  have hN : t.val < 32 := lt_of_lt_of_eq t.isLt N_0
  have h0 : (y 0).val < 512 := (y 0).isLt
  have h1 : (y 1).val < 512 := (y 1).isLt
  blk_simp
  rw [after0_10]
  refine Eq.trans (congrArg _ (funext fun a => ?_)) ((iq_out m c t ⟨(y 0).val, h0⟩ ⟨(y 1).val, h1⟩).trans (congrArg _ (funext fun a => Fin.ext ?_)))
  · fin_cases a <;> rfl
  · fin_cases a
    · blk_simp [(idx_o t).2.2.2.1]
      show (512 * t.val + (y 0).val) % 16384 = t.val * 512 + (y 0).val
      omega
    · blk_simp [(idx_o t).2.2.2.1]
      rfl

/-- The kernel's fifth result array is the reference's. -/
theorem ik_eq : (dats m 0 c).arrAt 11 cfg0.N
    = Cert.Reference8Ideal.Read.val_main_v169 (F := Ideal) (A0 m c) (A1 m c) (A2 m c) (A3 m c) := by
  refine (dats m 0 c).arrAt_eq_of_covers 11 _ (by decide +kernel) fun t hf y => ?_
  have hN : t.val < 32 := lt_of_lt_of_eq t.isLt N_0
  have h0 : (y 0).val < 512 := (y 0).isLt
  have h1 : (y 1).val < 128 := (y 1).isLt
  blk_simp
  rw [after0_11]
  refine Eq.trans (congrArg _ (funext fun a => ?_)) ((ik_out m c t ⟨(y 0).val, h0⟩ ⟨(y 1).val, h1⟩).trans (congrArg _ (funext fun a => Fin.ext ?_)))
  · fin_cases a <;> rfl
  · fin_cases a
    · blk_simp [(idx_o t).2.2.2.2.1]
      show (512 * t.val + (y 0).val) % 16384 = t.val * 512 + (y 0).val
      omega
    · blk_simp [(idx_o t).2.2.2.2.1]
      rfl

/-- The kernel's sixth result array is the reference's. -/
theorem iw_eq : (dats m 0 c).arrAt 12 cfg0.N
    = Cert.Reference8Ideal.Read.val_main_v171 (F := Ideal) (A0 m c) (A1 m c) (A2 m c) (A3 m c) := by
  refine (dats m 0 c).arrAt_eq_of_covers 12 _ (by decide +kernel) fun t hf y => ?_
  have hN : t.val < 32 := lt_of_lt_of_eq t.isLt N_0
  have h0 : (y 0).val < 512 := (y 0).isLt
  have h1 : (y 1).val < 128 := (y 1).isLt
  blk_simp
  rw [after0_12]
  refine Eq.trans (congrArg _ (funext fun a => ?_)) ((iw_out m c t ⟨(y 0).val, h0⟩ ⟨(y 1).val, h1⟩).trans (congrArg _ (funext fun a => Fin.ext ?_)))
  · fin_cases a <;> rfl
  · fin_cases a
    · blk_simp [(idx_o t).2.2.2.2.2]
      show (512 * t.val + (y 0).val) % 16384 = t.val * 512 + (y 0).val
      omega
    · blk_simp [(idx_o t).2.2.2.2.2]
      rfl

end Cert.Kernel8Ideal.Dsa

end
-- ==== Proof.SsmMath.lean ====
/- The state-space mixer in plain numbers: the convolution, the steps, the running sums, the state, the output. -/
module

public import proofs.«01_k».proof.Proof.Rows
public import proofs.«01_k».proof.Proof.Scalar

@[expose] public section

noncomputable section

namespace Cert.Mixer

open Idealize.ShloMosaic Cert.Rows

/-- A channel of a sequence, eight noughts before it. -/
def chan (x : Shape.Idx ⟨3, ![8, 2048, 1536]⟩ → EReal) (b : Fin 8) (d n : ℕ) : EReal :=
  if n < 8 then 0 else x (ix3 b ⟨(n - 8) % 2048, by omega⟩ ⟨d % 1536, by omega⟩)

/-- A filter's number. -/
def tap (w : Shape.Idx ⟨2, ![4, 1536]⟩ → EReal) (k : Fin 4) (d : ℕ) : EReal := w (ix2 k ⟨d % 1536, by omega⟩)

/-- The convolution before its activation. -/
def pre (x : Shape.Idx ⟨3, ![8, 2048, 1536]⟩ → EReal) (w : Shape.Idx ⟨2, ![4, 1536]⟩ → EReal) (cb : Shape.Idx ⟨1, ![1536]⟩ → EReal) (b : Fin 8) (p d : ℕ) : EReal :=
  cb (ix1 ⟨d % 1536, by omega⟩) + tap w 3 d * chan x b d (8 + p) + tap w 2 d * chan x b d (8 + p - 1) + tap w 1 d * chan x b d (8 + p - 2)
    + tap w 0 d * chan x b d (8 + p - 3)

/-- The convolution. -/
def conv (x : Shape.Idx ⟨3, ![8, 2048, 1536]⟩ → EReal) (w : Shape.Idx ⟨2, ![4, 1536]⟩ → EReal) (cb : Shape.Idx ⟨1, ![1536]⟩ → EReal) (b : Fin 8) (p d : ℕ) : EReal :=
  pre x w cb b p d * Ideal.logistic (pre x w cb b p d)

/-- A step. -/
def step (dr : Shape.Idx ⟨3, ![8, 2048, 16]⟩ → EReal) (db : Shape.Idx ⟨1, ![16]⟩ → EReal) (b : Fin 8) (p h : ℕ) : EReal :=
  Cert.Stick.SP (dr (ix3 b ⟨p % 2048, by omega⟩ ⟨h % 16, by omega⟩) + db (ix1 ⟨h % 16, by omega⟩))

/-- A head's rate. -/
def rate (al : Shape.Idx ⟨1, ![16]⟩ → EReal) (h : ℕ) : EReal := -Ideal.exp (al (ix1 ⟨h % 16, by omega⟩))

variable (u dt : ℕ → ℕ → EReal) (a : ℕ → EReal)

/-- The running sum of a chunk. -/
def ac (q r h : ℕ) : EReal := ∑ i ∈ Finset.range (r + 1), dt (128 * q + i) h * a h

/-- An input times its step. -/
def xdt (p j : ℕ) : EReal := u p j * dt p (j / 64)

/-- The state before a chunk. -/
def st : ℕ → ℕ → ℕ → EReal
  | 0, _, _ => 0
  | q + 1, n, j => st q n j * Ideal.exp (ac dt a q 127 (j / 64))
      + ∑ k : Fin 128, u (128 * q + k.val) (1024 + 128 * (j / 512) + n) * (xdt u dt (128 * q + k.val) j * Ideal.exp (ac dt a q 127 (j / 64) - ac dt a q k.val (j / 64)))

/-- The product of two rows of a chunk. -/
def cb (q r k g : ℕ) : EReal := ∑ n : Fin 128, u (128 * q + r) (1280 + 128 * g + n.val) * u (128 * q + k) (1024 + 128 * g + n.val)

/-- The scan's output. -/
def scan (q r j : ℕ) : EReal :=
  (∑ k : Fin 128, (cb u q r k.val (j / 512) * Ideal.exp (if k.val ≤ r then ac dt a q r (j / 64) - ac dt a q k.val (j / 64) else ⊥)) * xdt u dt (128 * q + k.val) j)
    + (∑ n : Fin 128, u (128 * q + r) (1280 + 128 * (j / 512) + n.val) * st u dt a q n.val j) * Ideal.exp (ac dt a q r (j / 64))

/-- The mixer's row: the scan and the weighted input, gated and normalised. -/
def row (ds : ℕ → EReal) (z w : Row) (q r : ℕ) : Row :=
  rms (fun j => (scan u dt a q r j.val + u (128 * q + r) j.val * ds (j.val / 64)) * (z j * Ideal.logistic (z j))) w

end Cert.Mixer
end
-- ==== Proof.SsmVec.lean ====
/- The state-space mixer's kernel body as array functions: the convolution, the steps and their running sum, the heads, the state. -/
module

public import proofs.«01_k».proof.Proof.Rows
public import proofs.«01_k».proof.Proof.Gen.Kernel9Ideal.Value

@[expose] public section

set_option maxRecDepth 16384

noncomputable section

namespace Cert.Kernel9Ideal.Ssm

open Idealize.ShloMosaic Idealize.ShloMosaic.TcCoe Idealize.ShloMosaic.Tactic Cert.Kernel9Ideal Cert.Kernel9Ideal.Gen Cert.Rows

/-- The numbers of a chunk's rows. -/
abbrev rowI : IVec S128x1 32 := iota .tc S128x1 32 [0] iota_S128x1_d0_w32

/-- Sixteen copies of eight rows. -/
def tileF (v : FVec Ideal S8x1536 .f32) : FVec Ideal S128x1536 .f32 :=
  concatenate S128x1536 0 (List.replicate 16 (⟨S8x1536, v⟩ : (s : Shape) × (s.Idx → EReal)))
    concatenates_S8x1536_S8x1536_S8x1536_S8x1536_S8x1536_S8x1536_S8x1536_S8x1536_S8x1536_S8x1536_S8x1536_S8x1536_S8x1536_S8x1536_S8x1536_S8x1536_S128x1536_d0

/-- The rows `k` earlier, the first ones from the chunk before. -/
def shiftF (k : ℕ) (cur : FVec Ideal S128x1536 .f32) (T : FVec Ideal S8x1536 .f32) : FVec Ideal S128x1536 .f32 :=
  select (broadcastTo S128x1536 (shapeCast S128x1 (cmpi .slt rowI (broadcast S128x1 (BitVec.ofNat 32 k))) shapeCasts_S128x1_S128x1) broadcasts_S128x1_S128x1536)
    (tileF (dynamicRotate 0 (BitVec.ofNat 32 k) none T rotates_S8x1536_d0)) (dynamicRotate 0 (BitVec.ofNat 32 k) none cur rotates_S128x1536_d0)

/-- A row of the filter for every row of a chunk. -/
def rowF (w : FVec Ideal S1x1536 .f32) : FVec Ideal S128x1536 .f32 := broadcastTo S128x1536 w broadcasts_S1x1536_S128x1536

/-- The convolution before its activation. -/
def preF (X : FVec Ideal S1x128x1536 .f32) (T : FVec Ideal S8x1536 .f32) (cb w3 w2 w1 w0 : FVec Ideal S1x1536 .f32) : FVec Ideal S128x1536 .f32 :=
  addf (addf (addf (addf (rowF (shapeCast S1x1536 cb shapeCasts_S1x1536_S1x1536)) (mulf (rowF w3) (shapeCast S128x1536 X shapeCasts_S1x128x1536_S128x1536)))
    (mulf (rowF w2) (shiftF 1 (shapeCast S128x1536 X shapeCasts_S1x128x1536_S128x1536) T)))
    (mulf (rowF w1) (shiftF 2 (shapeCast S128x1536 X shapeCasts_S1x128x1536_S128x1536) T)))
    (mulf (rowF w0) (shiftF 3 (shapeCast S128x1536 X shapeCasts_S1x128x1536_S128x1536) T))

/-- The convolution. -/
def convF (X : FVec Ideal S1x128x1536 .f32) (T : FVec Ideal S8x1536 .f32) (cb w3 w2 w1 w0 : FVec Ideal S1x1536 .f32) : FVec Ideal S128x1536 .f32 :=
  mulf (preF X T cb w3 w2 w1 w0) (logistic (preF X T cb w3 w2 w1 w0))

/-- One step of the running sum: the sum of the `s` rows before is added. -/
def stepF (s : ℕ) (a : FVec Ideal S128x128 .f32) : FVec Ideal S128x128 .f32 :=
  addf a (select (broadcastTo S128x128 (shapeCast S128x1 (cmpi .sge rowI (broadcast S128x1 (BitVec.ofNat 32 s))) shapeCasts_S128x1_S128x1) broadcasts_S128x1_S128x128)
    (dynamicRotate 0 (BitVec.ofNat 32 s) none a rotates_S128x128_d0) (broadcast S128x128 (Scalar.ofBits .f32 0x00000000#32)))

/-- The running sum. -/
def acF (da : FVec Ideal S128x128 .f32) : FVec Ideal S128x128 .f32 :=
  stepF 64 (stepF 32 (stepF 16 (stepF 8 (stepF 4 (stepF 2 (stepF 1 da))))))

/-- The logarithm of the decay of each step. -/
def daF (dt : FVec Ideal S128x128 .f32) (al : FVec Ideal S1x128 .f32) : FVec Ideal S128x128 .f32 :=
  mulf dt (broadcastTo S128x128 (k0_pay14 al) broadcasts_S1x128_S128x128)

/-- Every offset into the first sixteen columns leaves a column. -/
theorem slC (k : Fin 16) : S128x128.Slices ![0, k.val] S128x1 := by revert k; decide

/-- Column `k` of an array. -/
def colF (k : Fin 16) (a : FVec Ideal S128x128 .f32) : FVec Ideal S128x1 .f32 := extractStridedSlice S128x1 ![0, k.val] a (slC k)

/-- Two heads' columns, each for its own 64 lanes. -/
def twoF (k : Fin 8) (a : FVec Ideal S128x128 .f32) : FVec Ideal S128x128 .f32 :=
  select (cmpi .slt (iota .tc S128x128 32 [1] iota_S128x128_d1_w32) (broadcast S128x128 64#32))
    (broadcastTo S128x128 (shapeCast S128x1 (colF ⟨2 * k.val, by omega⟩ a) shapeCasts_S128x1_S128x1) broadcasts_S128x1_S128x128)
    (broadcastTo S128x128 (shapeCast S128x1 (colF ⟨2 * k.val + 1, by omega⟩ a) shapeCasts_S128x1_S128x1) broadcasts_S128x1_S128x128)

/-- Each head's number for each of its coordinates. -/
def expF (a : FVec Ideal S128x128 .f32) : FVec Ideal S128x1024 .f32 :=
  concatenate S128x1024 1 (List.ofFn fun k : Fin 8 => (⟨S128x128, twoF k a⟩ : (s : Shape) × (s.Idx → EReal)))
    concatenates_S128x128_S128x128_S128x128_S128x128_S128x128_S128x128_S128x128_S128x128_S128x1024_d1

/-- Every offset into the first sixteen lanes leaves a lane. -/
theorem slL (k : Fin 16) : S1x128.Slices ![0, k.val] S1x1 := by revert k; decide

/-- Lane `k` of a row, everywhere. -/
def laneF (k : Fin 16) (a : FVec Ideal S1x128 .f32) : FVec Ideal S1x128 .f32 :=
  broadcastTo S1x128 (shapeCast S1x1 (extractStridedSlice S1x1 ![0, k.val] a (slL k)) shapeCasts_S1x1_S1x1) broadcasts_S1x1_S1x128

/-- Two heads' numbers, each for its own 64 lanes. -/
def twoR (k : Fin 8) (a : FVec Ideal S1x128 .f32) : FVec Ideal S1x128 .f32 :=
  select (cmpi .slt (iota .tc S1x128 32 [1] iota_S1x128_d1_w32) (broadcast S1x128 64#32)) (laneF ⟨2 * k.val, by omega⟩ a) (laneF ⟨2 * k.val + 1, by omega⟩ a)

/-- Each head's number of a row for each of its coordinates. -/
def expR (a : FVec Ideal S1x128 .f32) : FVec Ideal S1x1024 .f32 :=
  concatenate S1x1024 1 (List.ofFn fun k : Fin 8 => (⟨S1x128, twoR k a⟩ : (s : Shape) × (s.Idx → EReal)))
    concatenates_S1x128_S1x128_S1x128_S1x128_S1x128_S1x128_S1x128_S1x128_S1x1024_d1

/-- The last row. -/
def lastF (a : FVec Ideal S128x1024 .f32) : FVec Ideal S1x1024 .f32 := extractStridedSlice S1x1024 ![127, 0] a slices_S128x1024_o127_0_S1x1024

/-- The steps' inputs, decayed to the end of the chunk. -/
def outX (xd ac : FVec Ideal S128x1024 .f32) : FVec Ideal S128x1024 .bf16 :=
  truncf .bf16 (mulf xd (exp (subf (broadcastTo S128x1024 (lastF ac) broadcasts_S1x1024_S128x1024) ac))) bitsLt_bf16_f32

/-- Half of 256 columns. -/
theorem slG (g : Fin 2) : S128x256.Slices ![0, 128 * g.val] S128x128 := by revert g; decide

/-- A group's columns. -/
def grpF (g : Fin 2) (a : FVec Ideal S128x256 .f32) : FVec Ideal S128x128 .f32 := extractStridedSlice S128x128 ![0, 128 * g.val] a (slG g)

/-- The products of a group's rows. -/
def cbF (g : Fin 2) (bm cm : FVec Ideal S128x256 .f32) : FVec Ideal S128x128 .f32 :=
  matmul dot_S128x128_S128x128_S128x128_1_1_0_0_n_n none (truncf .bf16 (grpF g cm) bitsLt_bf16_f32) (truncf .bf16 (grpF g bm) bitsLt_bf16_f32) (constant S128x128 .f32 0x00000000#32)

/-- Half of 1024 columns. -/
theorem slH (g : Fin 2) : S128x1024.Slices ![0, 512 * g.val] S128x512 := by revert g; decide

/-- What the state before the chunk gives. -/
def offF (g : Fin 2) (cm : FVec Ideal S128x256 .f32) (ac : FVec Ideal S128x1024 .f32) (S : FVec Ideal S128x512 .f32) : FVec Ideal S128x512 .f32 :=
  mulf (matmul dot_S128x128_S128x512_S128x512_1_0_0_1_n_n none (truncf .bf16 (grpF g cm) bitsLt_bf16_f32) (truncf .bf16 S bitsLt_bf16_f32) (constant S128x512 .f32 0x00000000#32))
    (extractStridedSlice S128x512 ![0, 512 * g.val] (exp ac) (slH g))

/-- A row of sixteen. -/
theorem slR (k : Fin 16) : S128x128.Slices ![k.val, 0] S1x128 := by revert k; decide
/-- A head's columns. -/
theorem slX (k : Fin 16) : S128x1024.Slices ![0, 64 * k.val] S128x64 := by revert k; decide
/-- A head's columns within its group. -/
theorem slO (k : Fin 8) : S128x512.Slices ![0, 64 * k.val] S128x64 := by revert k; decide

/-- The weights of a head. -/
def wtF (k : Fin 16) (ac acT cb : FVec Ideal S128x128 .f32) : FVec Ideal S128x128 .f32 :=
  mulf cb (exp (select k0_pay44 (subf (broadcastTo S128x128 (colF k ac) broadcasts_S128x1_S128x128)
    (broadcastTo S128x128 (extractStridedSlice S1x128 ![k.val, 0] acT (slR k)) broadcasts_S1x128_S128x128))
    (broadcast S128x128 (Named.named (F := Ideal) κ "mask" (φ := .f32) 0xF149F2CA#32))))

/-- What a head gives. -/
def headF (k : Fin 16) (ac acT : FVec Ideal S128x128 .f32) (xd : FVec Ideal S128x1024 .bf16) (cb : FVec Ideal S128x128 .f32) (yo : FVec Ideal S128x512 .f32) :
    FVec Ideal S128x64 .f32 :=
  addf (matmul dot_S128x128_S128x64_S128x64_1_0_0_1_n_n none (truncf .bf16 (wtF k ac acT cb) bitsLt_bf16_f32)
      (extractStridedSlice S128x64 ![0, 64 * k.val] xd (slX k)) (constant S128x64 .f32 0x00000000#32))
    (extractStridedSlice S128x64 ![0, 64 * (k.val % 8)] yo (slO ⟨k.val % 8, by omega⟩))

/-- All the heads. -/
def yF (ac : FVec Ideal S128x128 .f32) (xd : FVec Ideal S128x1024 .bf16) (bm cm : FVec Ideal S128x256 .f32) (S : Fin 2 → FVec Ideal S128x512 .f32) :
    FVec Ideal S128x1024 .f32 :=
  concatenate S128x1024 1 (List.ofFn fun k : Fin 16 => (⟨S128x64, headF k ac (transpose S128x128 [1, 0] ac transposes_S128x128_p1_0_S128x128) xd
      (cbF ⟨k.val / 8, by omega⟩ bm cm) (offF ⟨k.val / 8, by omega⟩ cm (expF ac) (S ⟨k.val / 8, by omega⟩))⟩ : (s : Shape) × (s.Idx → EReal)))
    concatenates_S128x64_S128x64_S128x64_S128x64_S128x64_S128x64_S128x64_S128x64_S128x64_S128x64_S128x64_S128x64_S128x64_S128x64_S128x64_S128x64_S128x1024_d1

/-- Half of a row. -/
theorem slE (g : Fin 2) : S1x1024.Slices ![0, 512 * g.val] S1x512 := by revert g; decide

/-- A group's state after the chunk. -/
def newF (g : Fin 2) (bm : FVec Ideal S128x256 .f32) (xo : FVec Ideal S128x1024 .bf16) (el : FVec Ideal S1x1024 .f32) (S : FVec Ideal S128x512 .f32) :
    FVec Ideal S128x512 .f32 :=
  addf (mulf S (broadcastTo S128x512 (extractStridedSlice S1x512 ![0, 512 * g.val] el (slE g)) broadcasts_S1x512_S128x512))
    (matmul dot_S128x128_S128x512_S128x512_1_0_0_1_n_n none (truncf .bf16 (transpose S128x128 [1, 0] (grpF g bm) transposes_S128x128_p1_0_S128x128) bitsLt_bf16_f32)
      (extractStridedSlice S128x512 ![0, 512 * g.val] xo (slH g)) (constant S128x512 .f32 0x00000000#32))

/-- The inputs' columns of the convolution. -/
def xsF (u : FVec Ideal S128x1536 .f32) : FVec Ideal S128x1024 .f32 := extractStridedSlice S128x1024 ![0, 0] u slices_S128x1536_o0_0_S128x1024
/-- The columns going into the state. -/
def bmF (u : FVec Ideal S128x1536 .f32) : FVec Ideal S128x256 .f32 := extractStridedSlice S128x256 ![0, 1024] u slices_S128x1536_o0_1024_S128x256
/-- The columns reading the state. -/
def cmF (u : FVec Ideal S128x1536 .f32) : FVec Ideal S128x256 .f32 := extractStridedSlice S128x256 ![0, 1280] u slices_S128x1536_o0_1280_S128x256

/-- The inputs times their steps. -/
def xdF (u : FVec Ideal S128x1536 .f32) (dt : FVec Ideal S128x128 .f32) : FVec Ideal S128x1024 .f32 := mulf (xsF u) (expF dt)

/-- The chunk's output. -/
def outF (u : FVec Ideal S128x1536 .f32) (dt : FVec Ideal S128x128 .f32) (al ds : FVec Ideal S1x128 .f32) (z : FVec Ideal S1x128x1024 .f32) (nw : FVec Ideal S1x1024 .f32)
    (S : Fin 2 → FVec Ideal S128x512 .f32) : FVec Ideal S1x128x1024 .bf16 :=
  k0_pay1 (yF (acF (daF dt al)) (truncf .bf16 (xdF u dt) bitsLt_bf16_f32) (bmF u) (cmF u) S)
    (mulf (xsF u) (broadcastTo S128x1024 (expR (shapeCast S1x128 ds shapeCasts_S1x128_S1x128)) broadcasts_S1x1024_S128x1024)) z nw

/-- A group's state after the chunk, from the convolution and the steps. -/
def stF (g : Fin 2) (u : FVec Ideal S128x1536 .f32) (dt : FVec Ideal S128x128 .f32) (al : FVec Ideal S1x128 .f32) (S : FVec Ideal S128x512 .f32) : FVec Ideal S128x512 .f32 :=
  newF g (bmF u) (outX (xdF u dt) (expF (acF (daF dt al)))) (exp (lastF (expF (acF (daF dt al))))) S

variable {I : IVec S128x1 32} {J : IVec S128x128 32} {K : IVec S1x128 32} (hI : rowI = I) (hJ : iota .tc S128x128 32 [1] iota_S128x128_d1_w32 = J)
  (hK : iota .tc S1x128 32 [1] iota_S1x128_d1_w32 = K)
variable (a dt xe : FVec Ideal S128x128 .f32) (al : FVec Ideal S1x128 .f32) (u v : FVec Ideal S128x1024 .f32) (bm cm : FVec Ideal S128x256 .f32)
  (S : FVec Ideal S128x512 .f32) (ac acT cb : FVec Ideal S128x128 .f32) (xd : FVec Ideal S128x1024 .bf16) (yo : FVec Ideal S128x512 .f32)

include hI in
/-- The running sum's payload. -/
theorem p17 : k0_pay17 I (k0_pay15 I dt (k0_pay14 al)) (k0_pay16 I) = acF (daF dt al) := by subst hI; rfl
include hI in
/-- The running sum on its side. -/
theorem p18 : k0_pay18 I (k0_pay15 I dt (k0_pay14 al)) (k0_pay16 I)
    = transpose S128x128 [1, 0] (acF (daF dt al)) transposes_S128x128_p1_0_S128x128 := by subst hI; rfl
include hJ in
/-- The steps, spread over the heads' coordinates. -/
theorem p25 : k0_pay25 dt J (k0_pay19 dt) (k0_pay20 dt) (k0_pay21 dt) (k0_pay22 dt) (k0_pay23 dt) k0_pay24 = expF dt := by subst hJ; rfl
/-- The first pair of heads. -/
theorem p26 : k0_pay26 a = twoF 0 a := rfl
include hJ in
/-- The second pair. -/
theorem p29 : k0_pay29 J (k0_pay27 a) (k0_pay28 a) 64#32 = twoF 1 a := by subst hJ; rfl
include hJ in
/-- The third pair. -/
theorem p30 : k0_pay30 a J = twoF 2 a := by subst hJ; rfl
include hJ in
/-- The fourth pair. -/
theorem p31 : k0_pay31 a J = twoF 3 a := by subst hJ; rfl
include hJ in
/-- The fifth pair. -/
theorem p32 : k0_pay32 a J = twoF 4 a := by subst hJ; rfl
include hJ in
/-- The sixth pair. -/
theorem p33 : k0_pay33 a J = twoF 5 a := by subst hJ; rfl
include hJ in
/-- The seventh pair. -/
theorem p34 : k0_pay34 a J = twoF 6 a := by subst hJ; rfl
include hJ in
/-- The decay since the chunk began. -/
theorem p39 : k0_pay39 J (twoF 0 a) (twoF 1 a) (twoF 2 a) (twoF 3 a) (twoF 4 a) (twoF 5 a) (twoF 6 a) (k0_pay35 a) (k0_pay36 a) 64#32 = exp (expF a) := by subst hJ; rfl
include hJ in
/-- The decay over the chunk. -/
theorem p40 : k0_pay40 J (twoF 0 a) (twoF 1 a) (twoF 2 a) (twoF 3 a) (twoF 4 a) (twoF 5 a) (twoF 6 a) (k0_pay35 a) (k0_pay36 a) 64#32 = exp (lastF (expF a)) := by subst hJ; rfl
/-- The inputs times their steps. -/
theorem p42 : k0_pay42 u v = truncf .bf16 (mulf u v) bitsLt_bf16_f32 := rfl
include hJ in
/-- The same, decayed to the chunk's end. -/
theorem p43 : k0_pay43 u v J (twoF 0 a) (twoF 1 a) (twoF 2 a) (twoF 3 a) (twoF 4 a) (twoF 5 a) (twoF 6 a) (k0_pay35 a) (k0_pay36 a) 64#32 = outX (mulf u v) (expF a) := by subst hJ; rfl
include hJ in
/-- What the state gives the first group. -/
theorem p48 : k0_pay48 cm J (twoF 0 a) (twoF 1 a) (twoF 2 a) (twoF 3 a) (twoF 4 a) (twoF 5 a) (twoF 6 a) (k0_pay35 a) (k0_pay36 a) 64#32 S = offF 0 cm (expF a) S := by subst hJ; rfl
include hJ in
/-- The first head. -/
theorem p49 : k0_pay49 u bm cm a acT v J (twoF 0 a) (twoF 1 a) (twoF 2 a) (twoF 3 a) (twoF 4 a) (twoF 5 a) (twoF 6 a) (k0_pay35 a) (k0_pay36 a) 64#32 S
    = headF 0 a acT (truncf .bf16 (mulf u v) bitsLt_bf16_f32) (cbF 0 bm cm) (offF 0 cm (expF a) S) := by subst hJ; rfl
/-- The second head. -/
theorem p52 : k0_pay52 yo (k0_pay50 bm cm ac acT) (k0_pay51 u v) (constant S128x64 .f32 0x00000000#32)
    = headF 1 ac acT (truncf .bf16 (mulf u v) bitsLt_bf16_f32) (cbF 0 bm cm) yo := rfl
/-- The products of the first group. -/
theorem p47 : k0_pay47 bm cm = cbF 0 bm cm := rfl
/-- The products of the second group. -/
theorem p63 : k0_pay63 bm cm = cbF 1 bm cm := rfl
/-- What the state gives the second group. -/
theorem p65 : k0_pay65 (exp u) (k0_pay64 cm S) = offF 1 cm u S := rfl
/-- A group's first columns. -/
theorem p45 : k0_pay45 bm = grpF 0 bm := rfl
/-- A group's later columns. -/
theorem p61 : k0_pay61 bm = grpF 1 bm := rfl
/-- The first group's state. -/
theorem p75 (el : FVec Ideal S1x1024 .f32) : k0_pay75 (k0_pay60 el xd (grpF 0 bm) S) = newF 0 bm xd el S := shapeCast_self _ _
/-- The second group's state. -/
theorem p76 (el : FVec Ideal S1x1024 .f32) : k0_pay76 el xd (grpF 1 bm) S = newF 1 bm xd el S := shapeCast_self _ _
include hK in
/-- The inputs, weighted. -/
theorem p82 (ds : FVec Ideal S1x128 .f32) : k0_pay82 u (k0_pay78 ds) K (k0_pay79 ds) (k0_pay80 ds) (k0_pay81 ds)
    = mulf u (broadcastTo S128x1024 (expR (shapeCast S1x128 ds shapeCasts_S1x128_S1x128)) broadcasts_S1x1024_S128x1024) := by subst hK; rfl

/-- All the heads, side by side. -/
theorem p77 (S : Fin 2 → FVec Ideal S128x512 .f32) (hT : acT = transpose S128x128 [1, 0] a transposes_S128x128_p1_0_S128x128) :
    k0_pay77 xd k0_pay44 (headF 0 a acT xd (cbF 0 bm cm) (offF 0 cm (expF a) (S 0))) (headF 1 a acT xd (cbF 0 bm cm) (offF 0 cm (expF a) (S 0)))
      (k0_pay53 a acT xd k0_pay44 (cbF 0 bm cm) (offF 0 cm (expF a) (S 0))) (k0_pay54 a acT xd k0_pay44 (cbF 0 bm cm) (offF 0 cm (expF a) (S 0))) (k0_pay55 a acT xd k0_pay44 (cbF 0 bm cm) (offF 0 cm (expF a) (S 0)))
      (k0_pay57 xd (cbF 0 bm cm) (offF 0 cm (expF a) (S 0)) (k0_pay56 a acT k0_pay44))
      (k0_pay58 a acT xd k0_pay44 (cbF 0 bm cm) (offF 0 cm (expF a) (S 0))) (k0_pay59 a acT xd k0_pay44 (cbF 0 bm cm) (offF 0 cm (expF a) (S 0)))
      (cbF 1 bm cm) (offF 1 cm (expF a) (S 1))
      (k0_pay66 a acT (exp (expF a)) xd k0_pay44 (cbF 1 bm cm) (k0_pay64 cm (S 1))) (k0_pay67 a acT (exp (expF a)) xd k0_pay44 (cbF 1 bm cm) (k0_pay64 cm (S 1))) (k0_pay68 a acT (exp (expF a)) xd k0_pay44 (cbF 1 bm cm) (k0_pay64 cm (S 1)))
      (k0_pay70 xd (offF 1 cm (expF a) (S 1)) (k0_pay69 a acT k0_pay44 (cbF 1 bm cm)))
      (k0_pay71 a acT xd k0_pay44 (cbF 1 bm cm) (offF 1 cm (expF a) (S 1))) (k0_pay72 a acT xd k0_pay44 (cbF 1 bm cm) (offF 1 cm (expF a) (S 1))) (k0_pay73 a acT xd k0_pay44 (cbF 1 bm cm) (offF 1 cm (expF a) (S 1))) (k0_pay74 a acT) (Named.named (F := Ideal) κ "mask" (φ := .f32) 0xF149F2CA#32)
      = yF a xd bm cm S := by
  subst hT
  rfl

variable (X : FVec Ideal S1x128x1536 .f32) (T : FVec Ideal S8x1536 .f32) (b w3 w2 w1 w0 : FVec Ideal S1x1536 .f32)

include hI in
/-- The inputs' columns. -/
theorem p10 : k0_pay10 (k0_pay4 X) I T (k0_pay5 X T b w3 w2) (k0_pay6 X T) (k0_pay7 w1) w0 = xsF (convF X T b w3 w2 w1 w0) := by subst hI; rfl
include hI in
/-- The columns into the state. -/
theorem p11 : k0_pay11 (k0_pay4 X) I T (k0_pay5 X T b w3 w2) (k0_pay6 X T) (k0_pay7 w1) w0 = bmF (convF X T b w3 w2 w1 w0) := by subst hI; rfl
include hI in
/-- The columns out of the state. -/
theorem p12 : k0_pay12 (k0_pay4 X) I T (k0_pay5 X T b w3 w2) (k0_pay6 X T) (k0_pay7 w1) w0 = cmF (convF X T b w3 w2 w1 w0) := by subst hI; rfl

end Cert.Kernel9Ideal.Ssm
end
-- ==== Proof.SsmRead.lean ====
/- The state-space mixer's array functions at an index. -/
module

public import proofs.«01_k».proof.Proof.SsmVec
public import proofs.«01_k».proof.Proof.Scalar
public import Idealize.ShloMosaic.Lib.Pipeline.Value
public import Idealize.ShloMosaic.Lib.WordCmp
public import Idealize.ShloMosaic.Lib.Pointwise

@[expose] public section

set_option maxRecDepth 16384

noncomputable section

namespace Cert.Kernel9Ideal.Ssm

open Idealize.ShloMosaic Idealize.ShloMosaic.TcCoe Idealize.ShloMosaic.Tactic Cert.Kernel9Ideal Cert.Kernel9Ideal.Gen Cert.Rows
open Idealize.SL.Sem

/-- A word of a small number, as an integer. -/
theorem word (a : ℕ) (ha : a < 2048) : (BitVec.ofNat 32 a).toInt = a := by
  rw [BitVec.toInt_eq_toNat_of_lt] <;> rw [BitVec.toNat_ofNat, Nat.mod_eq_of_lt (by omega)]; omega

/-- A choice by an order of small numbers. -/
theorem sel_lt (a b : ℕ) (ha : a < 2048) (hb : b < 2048) (x y : EReal) :
    Scalar.select (IntOp.cmpi .slt (BitVec.ofNat 32 a) (BitVec.ofNat 32 b)) x y = if a < b then x else y := by
  rw [WordCmp.cmpi_slt_eq, word a ha, word b hb]
  by_cases h : a < b <;> simp [Scalar.select, h]

/-- A choice by the opposite order. -/
theorem sel_ge (a b : ℕ) (ha : a < 2048) (hb : b < 2048) (x y : EReal) :
    Scalar.select (IntOp.cmpi .sge (BitVec.ofNat 32 a) (BitVec.ofNat 32 b)) x y = if b ≤ a then x else y := by
  rw [WordCmp.cmpi_sge_eq, word a ha, word b hb]
  by_cases h : b ≤ a <;> simp [Scalar.select, h]

/-- The number of a rotation. -/
theorem rot (k n : ℕ) (hk : k < n) (hn : n ≤ 2048) : (BitVec.ofNat 32 k).toNat % n = k := by
  rw [BitVec.toNat_ofNat, Nat.mod_eq_of_lt (show k < 2 ^ 32 by omega), Nat.mod_eq_of_lt hk]

/-- Sixteen copies of eight rows, at an index. -/
theorem tileF_apply (v : FVec Ideal S8x1536 .f32) (r : Fin 128) (d : Fin 1536) : tileF v (ix2 r d) = v (ix2 ⟨r.val % 8, by omega⟩ d) := by
  refine concatenate_replicate_apply (t := S128x1536) (s₁ := S8x1536) 0 16 v _ rfl (ix2 r d) (ix2 ⟨r.val % 8, by omega⟩ d) rfl fun b hb => match b, hb with
    | ⟨0, _⟩, hb => (hb rfl).elim
    | ⟨1, _⟩, _ => rfl

/-- The rows `k` earlier, at an index. -/
theorem shiftF_apply (k : ℕ) (hk : k < 8) (cur : FVec Ideal S128x1536 .f32) (T : FVec Ideal S8x1536 .f32) (r : Fin 128) (d : Fin 1536) :
    shiftF k cur T (ix2 r d) = if h : r.val < k then T (ix2 ⟨8 + r.val - k, by omega⟩ d) else cur (ix2 ⟨r.val - k, by omega⟩ d) := by
  pointwise [shiftF, tileF_apply]
  refine (sel_lt _ _ (by omega) (by omega) _ _).trans ?_
  have h8 := rot k 8 hk (by norm_num)
  have h128 := rot k 128 (by omega) (by norm_num)
  by_cases h : r.val < k
  · refine (if_pos h).trans (Eq.trans ?_ (dif_pos h).symm)
    exact congrArg (fun q : Fin 8 => T (ix2 q d)) (Fin.ext (by show (r.val % 8 + 8 - _) % 8 = 8 + r.val - k; rw [h8]; omega))
  · refine (if_neg h).trans (Eq.trans ?_ (dif_neg h).symm)
    exact congrArg (fun q : Fin 128 => cur (ix2 q d)) (Fin.ext (by show (r.val + 128 - _) % 128 = r.val - k; rw [h128]; omega))

/-- A step of the running sum, at an index. -/
theorem stepF_apply (s : ℕ) (hs : s < 128) (a : FVec Ideal S128x128 .f32) (r j : Fin 128) :
    stepF s a (ix2 r j) = a (ix2 r j) + if h : s ≤ r.val then a (ix2 ⟨r.val - s, by omega⟩ j) else 0 := by
  pointwise [stepF]
  refine congrArg _ ((sel_ge _ _ (by omega) (by omega) _ _).trans ?_)
  have h128 := rot s 128 (by omega) (by norm_num)
  by_cases h : s ≤ r.val
  · refine (if_pos h).trans (Eq.trans ?_ (dif_pos h).symm)
    exact congrArg (fun q : Fin 128 => a (ix2 q j)) (Fin.ext (by show (r.val + 128 - _) % 128 = r.val - s; rw [h128]; omega))
  · refine (if_neg h).trans ?_
    rw [dif_neg h]

/-- One step doubles the window that the running sum covers. -/
theorem stepF_sum (s : ℕ) (hs : s < 128) (a : FVec Ideal S128x128 .f32) (j : Fin 128) (f : ℕ → EReal)
    (ha : ∀ r : Fin 128, a (ix2 r j) = ∑ i ∈ Finset.Ico (r.val + 1 - s) (r.val + 1), f i) (r : Fin 128) :
    stepF s a (ix2 r j) = ∑ i ∈ Finset.Ico (r.val + 1 - 2 * s) (r.val + 1), f i := by
  rw [stepF_apply s hs, ha]
  by_cases h : s ≤ r.val
  · rw [dif_pos h, ha, add_comm]
    have e : r.val - s + 1 = r.val + 1 - s := by omega
    show ∑ i ∈ Finset.Ico (r.val - s + 1 - s) (r.val - s + 1), f i + _ = _
    rw [e, Finset.sum_Ico_consecutive _ (by omega) (by omega)]
    congr 2
    omega
  · rw [dif_neg h, add_zero]
    congr 2
    omega

/-- The running sum, at an index. -/
theorem acF_apply (a : FVec Ideal S128x128 .f32) (j : Fin 128) (f : ℕ → EReal) (ha : ∀ r : Fin 128, a (ix2 r j) = f r.val) (r : Fin 128) :
    acF a (ix2 r j) = ∑ i ∈ Finset.range (r.val + 1), f i := by
  have h1 : ∀ r : Fin 128, a (ix2 r j) = ∑ i ∈ Finset.Ico (r.val + 1 - 1) (r.val + 1), f i := fun r => by
    rw [ha, Nat.add_sub_cancel, Nat.Ico_succ_singleton, Finset.sum_singleton]
  have h := stepF_sum 64 (by omega) _ j f (stepF_sum 32 (by omega) _ j f (stepF_sum 16 (by omega) _ j f (stepF_sum 8 (by omega) _ j f
    (stepF_sum 4 (by omega) _ j f (stepF_sum 2 (by omega) _ j f (stepF_sum 1 (by omega) _ j f h1)))))) r
  rw [Finset.range_eq_Ico]
  refine h.trans ?_
  congr 2
  omega

/-- Two heads' columns, at an index. -/
theorem twoF_apply (k : Fin 8) (a : FVec Ideal S128x128 .f32) (r : Fin 128) (l : Fin 128) :
    twoF k a (ix2 r l) = a (ix2 r ⟨2 * k.val + l.val / 64, by omega⟩) := by
  pointwise [twoF, colF]
  refine (sel_lt _ _ (by omega) (by omega) _ _).trans ?_
  by_cases h : l.val < 64
  · exact (if_pos h).trans (congrArg (fun q : Fin 128 => a (ix2 r q)) (Fin.ext (by show 2 * k.val = 2 * k.val + l.val / 64; omega)))
  · exact (if_neg h).trans (congrArg (fun q : Fin 128 => a (ix2 r q)) (Fin.ext (by show 2 * k.val + 1 = 2 * k.val + l.val / 64; omega)))

/-- Each head's number, at an index. -/
theorem expF_apply (a : FVec Ideal S128x128 .f32) (r : Fin 128) (d : Fin 1024) :
    expF a (ix2 r d) = a (ix2 r ⟨d.val / 64, by omega⟩) := by
  refine (concatenate_ofFn_apply (t := S128x1024) (s₁ := S128x128) 1 (fun k : Fin 8 => twoF k a) _ rfl 128 rfl (ix2 r d) ⟨d.val / 128, by omega⟩ rfl
    (ix2 r ⟨d.val % 128, by omega⟩) rfl fun b hb => match b, hb with
    | ⟨0, _⟩, _ => rfl
    | ⟨1, _⟩, hb => (hb rfl).elim).trans ?_
  · rw [twoF_apply]
    exact congrArg (fun q : Fin 128 => a (ix2 r q)) (Fin.ext (by show 2 * (d.val / 128) + d.val % 128 / 64 = d.val / 64; omega))

/-- Two heads' lanes, at an index. -/
theorem twoR_apply (k : Fin 8) (a : FVec Ideal S1x128 .f32) (l : Fin 128) :
    twoR k a (ix2 0 l) = a (ix2 0 ⟨2 * k.val + l.val / 64, by omega⟩) := by
  pointwise [twoR, laneF]
  refine (sel_lt _ _ (by omega) (by omega) _ _).trans ?_
  by_cases h : l.val < 64
  · exact (if_pos h).trans (congrArg (fun q : Fin 128 => a (ix2 0 q)) (Fin.ext (by show 2 * k.val = 2 * k.val + l.val / 64; omega)))
  · exact (if_neg h).trans (congrArg (fun q : Fin 128 => a (ix2 0 q)) (Fin.ext (by show 2 * k.val + 1 = 2 * k.val + l.val / 64; omega)))

/-- Each head's number of a row, at an index. -/
theorem expR_apply (a : FVec Ideal S1x128 .f32) (d : Fin 1024) : expR a (ix2 0 d) = a (ix2 0 ⟨d.val / 64, by omega⟩) := by
  refine (concatenate_ofFn_apply (t := S1x1024) (s₁ := S1x128) 1 (fun k : Fin 8 => twoR k a) _ rfl 128 rfl (ix2 0 d) ⟨d.val / 128, by omega⟩ rfl
    (ix2 0 ⟨d.val % 128, by omega⟩) rfl fun b hb => match b, hb with
    | ⟨0, _⟩, _ => rfl
    | ⟨1, _⟩, hb => (hb rfl).elim).trans ?_
  · rw [twoR_apply]
    exact congrArg (fun q : Fin 128 => a (ix2 0 q)) (Fin.ext (by show 2 * (d.val / 128) + d.val % 128 / 64 = d.val / 64; omega))

/-- Minus the exponential, at an index. -/
theorem p14_apply (al : FVec Ideal S1x128 .f32) (l : Fin 128) : (k0_pay14 al : FVec Ideal S1x128 .f32) (ix2 0 l) = -Ideal.exp (al (ix2 0 l)) := by
  pointwise [k0_pay14]
  exact zero_sub _

/-- The steps, at an index. -/
theorem p13_apply (dt : FVec Ideal S1x128x128 .f32) (b : FVec Ideal S1x128 .f32) (r l : Fin 128) :
    (k0_pay13 dt b : FVec Ideal S128x128 .f32) (ix2 r l) = Cert.Stick.SP (dt (ix3 0 r l) + b (ix2 0 l)) := by
  pointwise [k0_pay13]
  rw [zero_sub]
  rfl

/-- The mask's constant is minus infinity. -/
theorem named_mask : Named.named (F := Ideal) κ "mask" (φ := .f32) 0xF149F2CA#32 = ⊥ := IdealRules.named_const.ideal_named_scalar _ _ _ _ rfl

/-- The weights of a head, at an index. -/
theorem wtF_apply (k : Fin 16) (ac cb : FVec Ideal S128x128 .f32) (r j : Fin 128) :
    wtF k ac (transpose S128x128 [1, 0] ac transposes_S128x128_p1_0_S128x128) cb (ix2 r j)
      = cb (ix2 r j) * Ideal.exp (if j.val ≤ r.val then ac (ix2 r ⟨k.val, by omega⟩) - ac (ix2 j ⟨k.val, by omega⟩) else ⊥) := by
  pointwise [wtF, colF, k0_pay44]
  rw [named_mask, sel_ge _ _ (by omega) (by omega)]

/-- The inputs decayed to the chunk's end, at an index. -/
theorem outX_apply (xd ac : FVec Ideal S128x1024 .f32) (r : Fin 128) (d : Fin 1024) :
    outX xd ac (ix2 r d) = xd (ix2 r d) * Ideal.exp (ac (ix2 127 d) - ac (ix2 r d)) := by
  pointwise [outX, lastF]

/-- The products of a group's rows, at an index. -/
theorem cbF_apply (g : Fin 2) (bm cm : FVec Ideal S128x256 .f32) (r j : Fin 128) : cbF g bm cm (ix2 r j)
    = ∑ n : Fin 128, cm (ix2 r ⟨128 * g.val + n.val, by omega⟩) * bm (ix2 j ⟨128 * g.val + n.val, by omega⟩) := by
  pointwise [cbF, grpF]

/-- What the state gives, at an index. -/
theorem offF_apply (g : Fin 2) (cm : FVec Ideal S128x256 .f32) (ac : FVec Ideal S128x1024 .f32) (S : FVec Ideal S128x512 .f32) (r : Fin 128) (d : Fin 512) :
    offF g cm ac S (ix2 r d) = (∑ n : Fin 128, cm (ix2 r ⟨128 * g.val + n.val, by omega⟩) * S (ix2 n d)) * Ideal.exp (ac (ix2 r ⟨512 * g.val + d.val, by omega⟩)) := by
  pointwise [offF, grpF]

/-- What a head gives, at an index. -/
theorem headF_apply (k : Fin 16) (ac acT : FVec Ideal S128x128 .f32) (xd : FVec Ideal S128x1024 .bf16) (cb : FVec Ideal S128x128 .f32)
    (yo : FVec Ideal S128x512 .f32) (r : Fin 128) (d : Fin 64) :
    headF k ac acT xd cb yo (ix2 r d) = (∑ j : Fin 128, wtF k ac acT cb (ix2 r j) * xd (ix2 j ⟨64 * k.val + d.val, by omega⟩))
      + yo (ix2 r ⟨64 * (k.val % 8) + d.val, by omega⟩) := by
  pointwise [headF]

/-- All the heads, at an index. -/
theorem yF_apply (ac : FVec Ideal S128x128 .f32) (xd : FVec Ideal S128x1024 .bf16) (bm cm : FVec Ideal S128x256 .f32) (S : Fin 2 → FVec Ideal S128x512 .f32)
    (r : Fin 128) (d : Fin 1024) :
    yF ac xd bm cm S (ix2 r d)
      = headF ⟨d.val / 64, by omega⟩ ac (transpose S128x128 [1, 0] ac transposes_S128x128_p1_0_S128x128) xd
        (cbF ⟨d.val / 64 / 8, by omega⟩ bm cm) (offF ⟨d.val / 64 / 8, by omega⟩ cm (expF ac) (S ⟨d.val / 64 / 8, by omega⟩)) (ix2 r ⟨d.val % 64, by omega⟩) := by
  refine concatenate_ofFn_apply (t := S128x1024) (s₁ := S128x64) 1 (fun k : Fin 16 => headF k ac (transpose S128x128 [1, 0] ac transposes_S128x128_p1_0_S128x128) xd
      (cbF ⟨k.val / 8, by omega⟩ bm cm) (offF ⟨k.val / 8, by omega⟩ cm (expF ac) (S ⟨k.val / 8, by omega⟩))) _ rfl 64 rfl (ix2 r d) ⟨d.val / 64, by omega⟩ rfl
    (ix2 r ⟨d.val % 64, by omega⟩) rfl fun b hb => match b, hb with
    | ⟨0, _⟩, _ => rfl
    | ⟨1, _⟩, hb => (hb rfl).elim

/-- A group's new state, at an index. -/
theorem newF_apply (g : Fin 2) (bm : FVec Ideal S128x256 .f32) (xo : FVec Ideal S128x1024 .bf16) (el : FVec Ideal S1x1024 .f32) (S : FVec Ideal S128x512 .f32)
    (n : Fin 128) (d : Fin 512) :
    newF g bm xo el S (ix2 n d) = S (ix2 n d) * el (ix2 0 ⟨512 * g.val + d.val, by omega⟩)
      + ∑ k : Fin 128, bm (ix2 k ⟨128 * g.val + n.val, by omega⟩) * xo (ix2 k ⟨512 * g.val + d.val, by omega⟩) := by
  pointwise [newF, grpF]

/-- The gated norm, at an index. -/
theorem p1_apply (y x : FVec Ideal S128x1024 .f32) (z : FVec Ideal S1x128x1024 .f32) (nw : FVec Ideal S1x1024 .f32) (r : Fin 128) (d : Fin 1024) :
    (k0_pay1 y x z nw : FVec Ideal S1x128x1024 .bf16) (ix3 0 r d)
      = rms (fun e => (y (ix2 r e) + x (ix2 r e)) * (z (ix3 0 r e) * Ideal.logistic (z (ix3 0 r e)))) (fun e => nw (ix2 0 e)) d := by
  pointwise [k0_pay1]
  rfl

/-- The steps' logarithms of decay, at an index. -/
theorem daF_apply (dt : FVec Ideal S128x128 .f32) (al : FVec Ideal S1x128 .f32) (r l : Fin 128) : daF dt al (ix2 r l) = dt (ix2 r l) * -Ideal.exp (al (ix2 0 l)) := by
  pointwise [daF]
  rw [p14_apply]

/-- The convolution before its activation, at an index. -/
theorem preF_apply (X : FVec Ideal S1x128x1536 .f32) (T : FVec Ideal S8x1536 .f32) (cb w3 w2 w1 w0 : FVec Ideal S1x1536 .f32) (r : Fin 128) (d : Fin 1536) (h : ℕ → EReal)
    (hX : ∀ i (hi : i < 128), X (ix3 0 ⟨i, hi⟩ d) = h (8 + i)) (hT : ∀ i (hi : i < 8), T (ix2 ⟨i, hi⟩ d) = h i) :
    preF X T cb w3 w2 w1 w0 (ix2 r d) = cb (ix2 0 d) + w3 (ix2 0 d) * h (8 + r.val) + w2 (ix2 0 d) * h (8 + r.val - 1)
      + w1 (ix2 0 d) * h (8 + r.val - 2) + w0 (ix2 0 d) * h (8 + r.val - 3) := by
  have hs : ∀ k (hk : k < 8), shiftF k (shapeCast S128x1536 X shapeCasts_S1x128x1536_S128x1536) T (ix2 r d) = h (8 + r.val - k) := by
    intro k hk
    rw [shiftF_apply k hk]
    by_cases hr : r.val < k
    · exact (dif_pos hr).trans (hT _ _)
    · refine (dif_neg hr).trans ?_
      pointwise
      refine (hX _ _).trans (congrArg h ?_)
      omega
  unfold preF
  pointwise [rowF, hs 1 (by norm_num), hs 2 (by norm_num), hs 3 (by norm_num)]
  rw [← hX r.val r.isLt]

/-- The convolution, at an index. -/
theorem convF_apply (X : FVec Ideal S1x128x1536 .f32) (T : FVec Ideal S8x1536 .f32) (cb w3 w2 w1 w0 : FVec Ideal S1x1536 .f32) (i) :
    convF X T cb w3 w2 w1 w0 i = preF X T cb w3 w2 w1 w0 i * Ideal.logistic (preF X T cb w3 w2 w1 w0 i) := rfl

end Cert.Kernel9Ideal.Ssm
end
-- ==== Proof.SsmBlock.lean ====
/- The state-space mixer's blocks in plain numbers. -/
module

public import proofs.«01_k».proof.Proof.SsmMath
public import proofs.«01_k».proof.Proof.SsmRead

@[expose] public section

set_option maxRecDepth 16384

noncomputable section

namespace Cert.Kernel9Ideal.Ssm

open Idealize.ShloMosaic Idealize.ShloMosaic.TcCoe Idealize.ShloMosaic.Tactic Cert.Kernel9Ideal Cert.Kernel9Ideal.Gen Cert.Rows
open Idealize.SL.Sem

variable (U D : ℕ → ℕ → EReal) (a : ℕ → EReal) (q : ℕ)
variable (u : FVec Ideal S128x1536 .f32) (dt : FVec Ideal S128x128 .f32) (al : FVec Ideal S1x128 .f32)

/-- The inputs' columns, at an index. -/
theorem xsF_apply (r : Fin 128) (j : Fin 1024) : xsF u (ix2 r j) = u (ix2 r ⟨j.val, by omega⟩) := by
  pointwise [xsF]

/-- The columns into the state, at an index. -/
theorem bmF_apply (r : Fin 128) (j : Fin 256) : bmF u (ix2 r j) = u (ix2 r ⟨1024 + j.val, by omega⟩) := by
  pointwise [bmF]

/-- The columns out of the state, at an index. -/
theorem cmF_apply (r : Fin 128) (j : Fin 256) : cmF u (ix2 r j) = u (ix2 r ⟨1280 + j.val, by omega⟩) := by
  pointwise [cmF]

variable (hu : ∀ (r : Fin 128) (d : Fin 1536), u (ix2 r d) = U (128 * q + r.val) d.val)
  (hd : ∀ (r : Fin 128) (h : Fin 128), h.val < 16 → dt (ix2 r h) = D (128 * q + r.val) h.val)
  (ha : ∀ h : Fin 128, h.val < 16 → -Ideal.exp (al (ix2 0 h)) = a h.val)

include hd ha in
/-- The running sum of a chunk. -/
theorem ac_block (r h : Fin 128) (hh : h.val < 16) : acF (daF dt al) (ix2 r h) = Cert.Mixer.ac D a q r.val h.val :=
  acF_apply _ h (fun i => D (128 * q + i) h.val * a h.val) (fun r => by rw [daF_apply, hd r h hh, ha h hh]) r

include hu hd in
/-- The inputs times their steps. -/
theorem xd_block (r : Fin 128) (j : Fin 1024) : xdF u dt (ix2 r j) = Cert.Mixer.xdt U D (128 * q + r.val) j.val := by
  show xsF u (ix2 r j) * expF dt (ix2 r j) = _
  rw [xsF_apply, hu, expF_apply, hd _ _ (by show j.val / 64 < 16; omega)]
  rfl

include hu hd ha in
/-- A group's state after a chunk. -/
theorem st_block (g : Fin 2) (S : FVec Ideal S128x512 .f32) (hS : ∀ (n : Fin 128) (d : Fin 512), S (ix2 n d) = Cert.Mixer.st U D a q n.val (512 * g.val + d.val))
    (n : Fin 128) (d : Fin 512) : stF g u dt al S (ix2 n d) = Cert.Mixer.st U D a (q + 1) n.val (512 * g.val + d.val) := by
  have e1 : (512 * g.val + d.val) / 512 = g.val := by omega
  have hac : ∀ (r : Fin 128) (j : Fin 1024), expF (acF (daF dt al)) (ix2 r j) = Cert.Mixer.ac D a q r.val (j.val / 64) := fun r j => by
    rw [expF_apply, ac_block D a q dt al hd ha _ _ (by show j.val / 64 < 16; omega)]
  unfold stF
  rw [newF_apply, hS]
  have hl : (exp (lastF (expF (acF (daF dt al)))) : FVec Ideal S1x1024 .f32) (ix2 0 ⟨512 * g.val + d.val, by omega⟩)
      = Ideal.exp (Cert.Mixer.ac D a q 127 ((512 * g.val + d.val) / 64)) := by
    pointwise [lastF]
    exact congrArg Ideal.exp (hac _ _)
  rw [hl]
  refine congrArg (_ + ·) (Finset.sum_congr rfl fun k _ => ?_)
  rw [bmF_apply, hu, outX_apply, xd_block U D q u dt hu hd, hac, hac, e1]
  refine congrArg₂ (· * ·) (congrArg (U _) ?_) rfl
  show 1024 + (128 * g.val + n.val) = _
  omega

include hu hd ha in
/-- The scan's output in a chunk. -/
theorem y_block (S : Fin 2 → FVec Ideal S128x512 .f32)
    (hS : ∀ (g : Fin 2) (n : Fin 128) (d : Fin 512), S g (ix2 n d) = Cert.Mixer.st U D a q n.val (512 * g.val + d.val)) (r : Fin 128) (j : Fin 1024) :
    yF (acF (daF dt al)) (truncf .bf16 (xdF u dt) bitsLt_bf16_f32) (bmF u) (cmF u) S (ix2 r j) = Cert.Mixer.scan U D a q r.val j.val := by
  have e1 : j.val / 64 / 8 = j.val / 512 := by omega
  rw [yF_apply, headF_apply, offF_apply, expF_apply, ac_block D a q dt al hd ha _ _ (by show (512 * (j.val / 64 / 8) + (64 * (j.val / 64 % 8) + j.val % 64)) / 64 < 16; omega)]
  unfold Cert.Mixer.scan
  refine congrArg₂ (· + ·) (Finset.sum_congr rfl fun k _ => congrArg₂ (· * ·) ?_ ?_) (congrArg₂ (· * ·) (Finset.sum_congr rfl fun n _ => congrArg₂ (· * ·) ?_ ?_) ?_)
  · rw [wtF_apply, cbF_apply, ac_block D a q dt al hd ha _ _ (by show j.val / 64 < 16; omega), ac_block D a q dt al hd ha _ _ (by show j.val / 64 < 16; omega)]
    refine congrArg₂ (· * ·) (Finset.sum_congr rfl fun n _ => ?_) rfl
    rw [cmF_apply, bmF_apply, hu, hu]
    refine congrArg₂ (· * ·) (congrArg (U _) ?_) (congrArg (U _) ?_)
    · show 1280 + (128 * (j.val / 64 / 8) + n.val) = _
      omega
    · show 1024 + (128 * (j.val / 64 / 8) + n.val) = _
      omega
  · refine (xd_block U D q u dt hu hd k _).trans (congrArg (Cert.Mixer.xdt U D _) ?_)
    show 64 * (j.val / 64) + j.val % 64 = j.val
    omega
  · rw [cmF_apply, hu]
    refine congrArg (U _) ?_
    show 1280 + (128 * (j.val / 64 / 8) + n.val) = _
    omega
  · rw [hS]
    refine congrArg (Cert.Mixer.st U D a q n.val) ?_
    show 512 * (j.val / 64 / 8) + (64 * (j.val / 64 % 8) + j.val % 64) = _
    omega
  · refine congrArg Ideal.exp (congrArg (Cert.Mixer.ac D a q r.val) ?_)
    show (512 * (j.val / 64 / 8) + (64 * (j.val / 64 % 8) + j.val % 64)) / 64 = _
    omega

include hu hd ha in
/-- The mixer's row. -/
theorem out_block (S : Fin 2 → FVec Ideal S128x512 .f32)
    (hS : ∀ (g : Fin 2) (n : Fin 128) (d : Fin 512), S g (ix2 n d) = Cert.Mixer.st U D a q n.val (512 * g.val + d.val))
    (ds : FVec Ideal S1x128 .f32) (ds' : ℕ → EReal) (hds : ∀ h : Fin 128, h.val < 16 → ds (ix2 0 h) = ds' h.val)
    (z : FVec Ideal S1x128x1024 .f32) (nw : FVec Ideal S1x1024 .f32) (r : Fin 128) (j : Fin 1024) :
    outF u dt al ds z nw S (ix3 0 r j) = Cert.Mixer.row U D a ds' (fun e => z (ix3 0 r e)) (fun e => nw (ix2 0 e)) q r.val j := by
  unfold outF
  rw [p1_apply]
  unfold Cert.Mixer.row
  refine congrArg (fun f : Row => rms f (fun e => nw (ix2 0 e)) j) (funext fun e => ?_)
  refine congrArg (· * _) (congrArg₂ (· + ·) (y_block U D a q u dt al hu hd ha S hS r e) ?_)
  show xsF u (ix2 r e) * (broadcastTo S128x1024 (expR (shapeCast S1x128 ds shapeCasts_S1x128_S1x128)) broadcasts_S1x1024_S128x1024 : FVec Ideal S128x1024 .f32) (ix2 r e) = _
  rw [xsF_apply, hu]
  refine congrArg (_ * ·) ?_
  rw [shapeCast_self]
  pointwise [expR_apply]
  exact hds _ (by show e.val / 64 < 16; omega)

end Cert.Kernel9Ideal.Ssm
end
-- ==== Proof.SsmStep.lean ====
/- The state-space mixer's blocks: the output, the state and the rows kept, each from the block before. -/
module

public import proofs.«01_k».proof.Proof.SsmVec
public import Idealize.ShloMosaic.Lib.Pipeline.ReadBack
public import Idealize.ShloMosaic.Lib.Pipeline.ValueKit.Held
public import Idealize.ShloMosaic.Lib.Claim

@[expose] public section

set_option maxRecDepth 16384

noncomputable section

namespace Cert.Kernel9Ideal.Ssm

open Idealize.ShloMosaic Idealize.ShloMosaic.TcCoe Idealize.ShloMosaic.Tactic Cert.Kernel9Ideal Cert.Kernel9Ideal.Gen Cert.Rows
open Idealize.SL.Sem

variable (m : (ℓ : Loc nD τ sig) → Buf (Elt Ideal) ℓ) (c : Dev nD)

/-- The convolution of a block. -/
def convB (t : Fin cfg0.N) (T : FVec Ideal S8x1536 .f32) : FVec Ideal S128x1536 .f32 :=
  convF (iblk m c 1 t) T (iblk m c 4 t) (View.ld (iblk m c 3 t) (Rect.unit ![3, 0] ![1, 1536] inb_S4x1536_S1x1536_3_0))
    (View.ld (iblk m c 3 t) (Rect.unit ![2, 0] ![1, 1536] inb_S4x1536_S1x1536_2_0)) (View.ld (iblk m c 3 t) (Rect.unit ![1, 0] ![1, 1536] inb_S4x1536_S1x1536_1_0))
    (View.ld (iblk m c 3 t) (Rect.unit ![0, 0] ![1, 1536] inb_S4x1536_S1x1536_0_0))

/-- A group's half of the state. -/
theorem inbS (g : Fin 2) : ∀ a : Fin 2, (![0, 512 * g.val] : Fin 2 → ℕ) a + (![128, 512] : Fin 2 → ℕ) a ≤ S128x1024.size a := by revert g; decide

/-- A group's half of the state. -/
def halfF (S : S128x1024.Idx → EReal) (g : Fin 2) : FVec Ideal S128x512 .f32 :=
  View.ld (Val := Elt Ideal) (e' := .f32) S (Rect.unit (s := S128x1024) ![0, 512 * g.val] ![128, 512] (inbS g))

/-- The steps of a block. -/
def dtB (t : Fin cfg0.N) : FVec Ideal S128x128 .f32 := k0_pay13 (iblk m c 2 t) (iblk m c 5 t)

/-- The rows kept from the block before: none at the start of a sequence. -/
def tailB (t : Fin cfg0.N) : FVec Ideal S8x1536 .f32 := if t.val % 16 = 0 then k0_pay3 else (outsAt0 m c (t.val - 1) (by omega)).2.2

/-- The state before the block: nothing at the start of a sequence. -/
def prevB (t : Fin cfg0.N) : FVec Ideal S128x1024 .f32 := if t.val % 16 = 0 then k0_pay2 else (outsAt0 m c (t.val - 1) (by omega)).2.1

/-- The later half at an entry. -/
theorem half_one (S : S128x1024.Idx → EReal) (i) (x) : halfF S 1 x = S ((Rect.unit (s := S128x1024) ![0, 512] ![128, 512] i).emb x) := rfl

/-- The first half at an entry. -/
theorem half_zero (S : S128x1024.Idx → EReal) (i) (x) : halfF S 0 x = S ((Rect.unit (s := S128x1024) ![0, 0] ![128, 512] i).emb x) := rfl

/-- The two halves of the state are what was stored there last. -/
theorem half_canon (A B : FVec Ideal S128x512 .f32) (L : List (View.Piece (Elt Ideal) S128x1024 .f32)) (i1 i0) (g : Fin 2) :
    halfF (View.canon (⟨Rect.unit (s := S128x1024) ![0, 512] ![128, 512] i1, A⟩ :: ⟨Rect.unit (s := S128x1024) ![0, 0] ![128, 512] i0, B⟩ :: L)) g
      = if g = 1 then A else B := by
  have e1 : halfF (View.canon (⟨Rect.unit (s := S128x1024) ![0, 512] ![128, 512] i1, A⟩ :: ⟨Rect.unit (s := S128x1024) ![0, 0] ![128, 512] i0, B⟩ :: L)) 1 = A := by
    funext x
    refine (half_one _ i1 x).trans ?_
    exact View.canon_cons_emb (Val := Elt Ideal) (e := .f32) (Rect.unit (s := S128x1024) ![0, 512] ![128, 512] i1) A _ x
  have e0 : halfF (View.canon (⟨Rect.unit (s := S128x1024) ![0, 512] ![128, 512] i1, A⟩ :: ⟨Rect.unit (s := S128x1024) ![0, 0] ![128, 512] i0, B⟩ :: L)) 0 = B := by
    funext x
    have hn : (Rect.unit (s := S128x1024) ![0, 0] ![128, 512] i0).emb x ∉ (Rect.unit (s := S128x1024) ![0, 512] ![128, 512] i1).set := by
      rw [Rect.mem_set_unit]
      intro hx
      have h := (hx 1).1
      have h2 : (x 1).val < 512 := (x 1).isLt
      have h3 : 512 ≤ 0 + 1 * (x 1).val := h
      omega
    refine (half_zero _ i0 x).trans ?_
    rw [View.canon_cons, Rect.overlay_of_not_mem _ _ _ hn]
    exact View.canon_cons_emb (Val := Elt Ideal) (e := .f32) (Rect.unit (s := S128x1024) ![0, 0] ![128, 512] i0) B L x
  rcases (by omega : g = 0 ∨ g = 1) with rfl | rfl
  · exact e0
  · exact e1

set_option maxHeartbeats 800000 in
/-- A block's output, from the state and the rows kept from the block before. -/
theorem out_eq (t : Fin cfg0.N) : (outsAt0 m c t.val t.isLt).1
    = outF (convB m c t (tailB m c t)) (dtB m c t) (iblk m c 6 t) (iblk m c 7 t) (iblk m c 0 t) (iblk m c 8 t) (halfF (prevB m c t)) := by
  by_cases h : t.val % 16 = 0
  on_goal 1 =>
    rw [outsAt0_A m c t h, tailB, prevB, if_pos h, if_pos h]
    frame_out
    rw [View.readCov_fill _ _ _ _ _ (by decide), View.readCov_fill _ _ _ _ _ (by decide)]
    generalize hT : (k0_pay3 : FVec Ideal S8x1536 .f32) = T
    generalize hS : (k0_pay2 : FVec Ideal S128x1024 .f32) = S
  on_goal 2 =>
    rw [outsAt0_B m c t h, tailB, prevB, if_neg h, if_neg h]
    frame_out
    rw [read_unread_whole, read_unread_whole]
    generalize ((outsAt0 m c (t.val - 1) (by omega)).2.2 : FVec Ideal S8x1536 .f32) = T
    generalize (outsAt0 m c (t.val - 1) (by omega)).2.1 = S
  all_goals
    unfold convB dtB
    generalize (iblk m c 0 t : FVec Ideal S1x128x1024 .f32) = z
    generalize (k0_pay13 (iblk m c 2 t) (iblk m c 5 t) : FVec Ideal S128x128 .f32) = dt
    generalize hI : (iota .tc S128x1 32 [0] iota_S128x1_d0_w32 : IVec S128x1 32) = I
    generalize hJ : (iota .tc S128x128 32 [1] iota_S128x128_d1_w32 : IVec S128x128 32) = J
    generalize hK : (iota .tc S1x128 32 [1] iota_S1x128_d1_w32 : IVec S1x128 32) = K
    simp only [p10 hI, p11 hI, p12 hI, p17 hI, p18 hI, p25 hJ, p26, p29 hJ, p30 hJ, p31 hJ, p32 hJ, p33 hJ, p34 hJ, p39 hJ, p40 hJ, p42, p43 hJ, p47,
      p48 hJ, p49 hJ, p52, p63, p65, p82 hK]
    exact congrArg (fun q => k0_pay1 q _ z (iblk m c 8 t)) (p77 _ _ _ _ _ (halfF S) rfl)

set_option maxHeartbeats 800000 in
/-- A group's state after a block, from the state and the rows kept from the block before. -/
theorem st_eq (t : Fin cfg0.N) (g : Fin 2) : halfF (outsAt0 m c t.val t.isLt).2.1 g
    = stF g (convB m c t (tailB m c t)) (dtB m c t) (iblk m c 6 t) (halfF (prevB m c t) g) := by
  by_cases h : t.val % 16 = 0
  on_goal 1 =>
    rw [outsAt0_A m c t h, tailB, prevB, if_pos h, if_pos h]
    frame_out
    rw [View.readCov_fill _ _ _ _ _ (by decide), View.readCov_fill _ _ _ _ _ (by decide)]
    generalize hT : (k0_pay3 : FVec Ideal S8x1536 .f32) = T
    generalize hS : (k0_pay2 : FVec Ideal S128x1024 .f32) = S
  on_goal 2 =>
    rw [outsAt0_B m c t h, tailB, prevB, if_neg h, if_neg h]
    frame_out
    rw [read_unread_whole, read_unread_whole]
    generalize ((outsAt0 m c (t.val - 1) (by omega)).2.2 : FVec Ideal S8x1536 .f32) = T
    generalize (outsAt0 m c (t.val - 1) (by omega)).2.1 = S
  all_goals
    rw [half_canon]
    unfold convB dtB
    generalize (k0_pay13 (iblk m c 2 t) (iblk m c 5 t) : FVec Ideal S128x128 .f32) = dt
    generalize hI : (iota .tc S128x1 32 [0] iota_S128x1_d0_w32 : IVec S128x1 32) = I
    generalize hJ : (iota .tc S128x128 32 [1] iota_S128x128_d1_w32 : IVec S128x128 32) = J
    simp only [p10 hI, p11 hI, p12 hI, p17 hI, p25 hJ, p26, p29 hJ, p30 hJ, p31 hJ, p32 hJ, p33 hJ, p34 hJ, p40 hJ, p43 hJ, p45, p61, p75, p76]
    fin_cases g <;> rfl

/-- The rows a block keeps. -/
theorem tail_eq (t : Fin cfg0.N) : (outsAt0 m c t.val t.isLt).2.2 = k0_pay8 (k0_pay4 (iblk m c 1 t)) := by
  by_cases h : t.val % 16 = 0
  · rw [outsAt0_A m c t h]
    frame_out
  · rw [outsAt0_B m c t h]
    frame_out

end Cert.Kernel9Ideal.Ssm
end
-- ==== Proof.SsmIn.lean ====
/- The state-space mixer: what the kernel's windows hold, and the scratch it carries from block to block. -/
module

public import proofs.«01_k».proof.Proof.SsmBlock
public import proofs.«01_k».proof.Proof.SsmStep

@[expose] public section

set_option maxRecDepth 16384

noncomputable section

namespace Cert.Kernel9Ideal.Ssm

open Idealize.ShloMosaic Idealize.ShloMosaic.TcCoe Idealize.ShloMosaic.Tactic Cert.Kernel9Ideal Cert.Kernel9Ideal.Gen Cert.Rows
open Idealize.SL.Sem

variable (m : (ℓ : Loc nD τ sig) → Buf (Elt Ideal) ℓ) (c : Dev nD)

/-- The gate. -/
abbrev A0 : S8x2048x1024.Idx → EReal := m ((c : Thread nD τ).loc main_arg0)
/-- The channels. -/
abbrev A1 : S8x2048x1536.Idx → EReal := m ((c : Thread nD τ).loc main_arg1)
/-- The steps before their bias. -/
abbrev A2 : S8x2048x16.Idx → EReal := m ((c : Thread nD τ).loc main_arg2)
/-- The filter. -/
abbrev A3 : S4x1536.Idx → EReal := m ((c : Thread nD τ).loc main_arg3)
/-- The filter's bias. -/
abbrev A4 : S1536.Idx → EReal := m ((c : Thread nD τ).loc main_arg4)
/-- The steps' bias. -/
abbrev A5 : S16.Idx → EReal := m ((c : Thread nD τ).loc main_arg5)
/-- The rates' logarithms. -/
abbrev A6 : S16.Idx → EReal := m ((c : Thread nD τ).loc main_arg6)
/-- The inputs' weights. -/
abbrev A7 : S16.Idx → EReal := m ((c : Thread nD τ).loc main_arg7)
/-- The norm's weights. -/
abbrev A8 : S1024.Idx → EReal := m ((c : Thread nD τ).loc main_arg8)

/-- The gate the region reads. -/
theorem Va0 : V m c main_arg0 = A0 m c := by
  simp only [V, hostOps0, hostOps0_1, hostOps0_2, hostOps0_3, hostOps0_4, hostOps0_5, hostOps0_6, hostOps0_7, hostOps0_8, List.flatten_cons, List.flatten_nil,
    List.append_nil, List.cons_append, List.nil_append]
  after_results

/-- The channels the region reads. -/
theorem Va1 : V m c main_arg1 = A1 m c := by
  simp only [V, hostOps0, hostOps0_1, hostOps0_2, hostOps0_3, hostOps0_4, hostOps0_5, hostOps0_6, hostOps0_7, hostOps0_8, List.flatten_cons, List.flatten_nil,
    List.append_nil, List.cons_append, List.nil_append]
  after_results

/-- The filter the region reads. -/
theorem Va3 : V m c main_arg3 = A3 m c := by
  simp only [V, hostOps0, hostOps0_1, hostOps0_2, hostOps0_3, hostOps0_4, hostOps0_5, hostOps0_6, hostOps0_7, hostOps0_8, List.flatten_cons, List.flatten_nil,
    List.append_nil, List.cons_append, List.nil_append]
  after_results

/-- Sixteen numbers with noughts after them. -/
def padV (x : FVec Ideal S16 .f32) : FVec Ideal S128 .f32 := pad S128 ![0] ![112] ![0] x (sitofp (F := Ideal) .f32 (constantI S_ 32 0#32)) pads_S16_S128_01120 h_S_

/-- The sixteen numbers. -/
theorem padV_apply (x : FVec Ideal S16 .f32) (h : Fin 128) (hh : h.val < 16) : padV x (ix1 h) = x (ix1 ⟨h.val, hh⟩) := by
  pointwise [padV]
  exact dif_pos hh

/-- The steps, with noughts after them. -/
def padD (x : FVec Ideal S8x2048x16 .f32) : FVec Ideal S8x2048x128 .f32 :=
  pad S8x2048x128 ![0, 0, 0] ![0, 0, 112] ![0, 0, 0] x (sitofp (F := Ideal) .f32 (constantI S_ 32 0#32)) pads_S8x2048x16_S8x2048x128_000_000_01120 h_S_

/-- The steps the region reads. -/
theorem V0_apply (b : Fin 8) (p : Fin 2048) (h : Fin 128) (hh : h.val < 16) : V m c main_v0 (ix3 b p h) = A2 m c (ix3 b p ⟨h.val, hh⟩) := by
  have e : V m c main_v0 = padD (A2 m c) := by
    simp only [V, hostOps0, hostOps0_1, hostOps0_2, hostOps0_3, hostOps0_4, hostOps0_5, hostOps0_6, hostOps0_7, hostOps0_8, List.flatten_cons, List.flatten_nil,
    List.append_nil, List.cons_append, List.nil_append]
    after_results
    rfl
  rw [e]
  pointwise [padD]
  exact dif_pos hh

/-- The filter's bias the region reads. -/
theorem V1_apply (d : Fin 1536) : V m c main_v1 (ix2 0 d) = A4 m c (ix1 d) := by
  simp only [V, hostOps0, hostOps0_1, hostOps0_2, hostOps0_3, hostOps0_4, hostOps0_5, hostOps0_6, hostOps0_7, hostOps0_8, List.flatten_cons, List.flatten_nil,
    List.append_nil, List.cons_append, List.nil_append]
  after_results
  pointwise

/-- The steps' bias the region reads. -/
theorem V3_apply (h : Fin 128) (hh : h.val < 16) : V m c main_v3 (ix2 0 h) = A5 m c (ix1 ⟨h.val, hh⟩) := by
  have e : V m c main_v3 = shapeCast S1x128 (padV (A5 m c)) shapeCasts_S128_S1x128 := by
    simp only [V, hostOps0, hostOps0_1, hostOps0_2, hostOps0_3, hostOps0_4, hostOps0_5, hostOps0_6, hostOps0_7, hostOps0_8, List.flatten_cons, List.flatten_nil,
    List.append_nil, List.cons_append, List.nil_append]
    after_results
    rfl
  rw [e]
  pointwise
  exact padV_apply _ h hh

/-- The rates' logarithms the region reads. -/
theorem V5_apply (h : Fin 128) (hh : h.val < 16) : V m c main_v5 (ix2 0 h) = A6 m c (ix1 ⟨h.val, hh⟩) := by
  have e : V m c main_v5 = shapeCast S1x128 (padV (A6 m c)) shapeCasts_S128_S1x128 := by
    simp only [V, hostOps0, hostOps0_1, hostOps0_2, hostOps0_3, hostOps0_4, hostOps0_5, hostOps0_6, hostOps0_7, hostOps0_8, List.flatten_cons, List.flatten_nil,
    List.append_nil, List.cons_append, List.nil_append]
    after_results
    rfl
  rw [e]
  pointwise
  exact padV_apply _ h hh

/-- The inputs' weights the region reads. -/
theorem V7_apply (h : Fin 128) (hh : h.val < 16) : V m c main_v7 (ix2 0 h) = A7 m c (ix1 ⟨h.val, hh⟩) := by
  have e : V m c main_v7 = shapeCast S1x128 (padV (A7 m c)) shapeCasts_S128_S1x128 := by
    simp only [V, hostOps0, hostOps0_1, hostOps0_2, hostOps0_3, hostOps0_4, hostOps0_5, hostOps0_6, hostOps0_7, hostOps0_8, List.flatten_cons, List.flatten_nil,
    List.append_nil, List.cons_append, List.nil_append]
    after_results
    rfl
  rw [e]
  pointwise
  exact padV_apply _ h hh

/-- The norm's weights the region reads. -/
theorem V8_apply (d : Fin 1024) : V m c main_v8 (ix2 0 d) = A8 m c (ix1 d) := by
  simp only [V, hostOps0, hostOps0_1, hostOps0_2, hostOps0_3, hostOps0_4, hostOps0_5, hostOps0_6, hostOps0_7, hostOps0_8, List.flatten_cons, List.flatten_nil,
    List.append_nil, List.cons_append, List.nil_append]
  after_results
  pointwise

/-- Where each window's block lies at a grid point. -/
theorem idx_w : ∀ t : Fin cfg0.N, win0_0.index t = ![t.val / 16, t.val % 16, 0] ∧ win0_1.index t = ![t.val / 16, t.val % 16, 0]
    ∧ win0_2.index t = ![t.val / 16, t.val % 16, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val / 16, t.val % 16, 0] :=
  (by decide +kernel : ∀ t : Fin grid0.N, _)

/-- A block's sequence. -/
abbrev sq (t : ℕ) : Fin 8 := ⟨t / 16 % 8, by omega⟩

/-- The place in its sequence of a block's row. -/
abbrev ps (t : ℕ) (r : Fin 128) : Fin 2048 := ⟨128 * (t % 16) + r.val, by omega⟩

/-- The gate in a block. -/
theorem iblk0 (t : Fin cfg0.N) (r : Fin 128) (d : Fin 1024) : iblk m c 0 t (ix3 0 r d : S1x128x1024.Idx) = A0 m c (ix3 (sq t.val) (ps t.val r) d) := by
  have ht : t.val < 128 := lt_of_lt_of_eq t.isLt N_0
  rw [← Va0]
  blk_ext [iblk, (idx_w t).1]

/-- The channels in a block. -/
theorem iblk1 (t : Fin cfg0.N) (r : Fin 128) (d : Fin 1536) : iblk m c 1 t (ix3 0 r d : S1x128x1536.Idx) = A1 m c (ix3 (sq t.val) (ps t.val r) d) := by
  have ht : t.val < 128 := lt_of_lt_of_eq t.isLt N_0
  rw [← Va1]
  blk_ext [iblk, (idx_w t).2.1]

/-- The steps in a block. -/
theorem iblk2 (t : Fin cfg0.N) (r : Fin 128) (h : Fin 128) (hh : h.val < 16) :
    iblk m c 2 t (ix3 0 r h : S1x128x128.Idx) = A2 m c (ix3 (sq t.val) (ps t.val r) ⟨h.val, hh⟩) := by
  have ht : t.val < 128 := lt_of_lt_of_eq t.isLt N_0
  rw [← V0_apply m c _ _ h hh]
  blk_ext [iblk, (idx_w t).2.2.1]

/-- The filter in a block. -/
theorem iblk3 (t : Fin cfg0.N) (k : Fin 4) (d : Fin 1536) : iblk m c 3 t (ix2 k d : S4x1536.Idx) = A3 m c (ix2 k d) := by
  rw [← Va3]
  blk_ext [iblk, (idx_w t).2.2.2.1]

/-- The filter's bias in a block. -/
theorem iblk4 (t : Fin cfg0.N) (d : Fin 1536) : iblk m c 4 t (ix2 0 d : S1x1536.Idx) = A4 m c (ix1 d) := by
  rw [← V1_apply]
  blk_ext [iblk, (idx_w t).2.2.2.2.1]

/-- The steps' bias in a block. -/
theorem iblk5 (t : Fin cfg0.N) (h : Fin 128) (hh : h.val < 16) : iblk m c 5 t (ix2 0 h : S1x128.Idx) = A5 m c (ix1 ⟨h.val, hh⟩) := by
  rw [← V3_apply m c h hh]
  blk_ext [iblk, (idx_w t).2.2.2.2.2.1]

/-- The rates' logarithms in a block. -/
theorem iblk6 (t : Fin cfg0.N) (h : Fin 128) (hh : h.val < 16) : iblk m c 6 t (ix2 0 h : S1x128.Idx) = A6 m c (ix1 ⟨h.val, hh⟩) := by
  rw [← V5_apply m c h hh]
  blk_ext [iblk, (idx_w t).2.2.2.2.2.2.1]

/-- The inputs' weights in a block. -/
theorem iblk7 (t : Fin cfg0.N) (h : Fin 128) (hh : h.val < 16) : iblk m c 7 t (ix2 0 h : S1x128.Idx) = A7 m c (ix1 ⟨h.val, hh⟩) := by
  rw [← V7_apply m c h hh]
  blk_ext [iblk, (idx_w t).2.2.2.2.2.2.2.1]

/-- The norm's weights in a block. -/
theorem iblk8 (t : Fin cfg0.N) (d : Fin 1024) : iblk m c 8 t (ix2 0 d : S1x1024.Idx) = A8 m c (ix1 d) := by
  rw [← V8_apply]
  blk_ext [iblk, (idx_w t).2.2.2.2.2.2.2.2.1]

/-- The channels of a sequence after the convolution. -/
abbrev U (t : ℕ) : ℕ → ℕ → EReal := Cert.Mixer.conv (A1 m c) (A3 m c) (A4 m c) (sq t)
/-- The steps of a sequence. -/
abbrev D (t : ℕ) : ℕ → ℕ → EReal := Cert.Mixer.step (A2 m c) (A5 m c) (sq t)
/-- The rates. -/
abbrev R : ℕ → EReal := Cert.Mixer.rate (A6 m c)

/-- A block's channels, in the sequence. -/
theorem chan_block (t : Fin cfg0.N) (r : ℕ) (hr : r < 128) (d : Fin 1536) :
    iblk m c 1 t (ix3 0 ⟨r, hr⟩ d : S1x128x1536.Idx) = Cert.Mixer.chan (A1 m c) (sq t.val) d.val (128 * (t.val % 16) + (8 + r)) := by
  rw [iblk1]
  unfold Cert.Mixer.chan
  refine Eq.trans ?_ (if_neg (by omega)).symm
  exact congrArg₂ (fun (p : Fin 2048) (e : Fin 1536) => A1 m c (ix3 (sq t.val) p e))
    (Fin.ext (by show 128 * (t.val % 16) + r = (128 * (t.val % 16) + (8 + r) - 8) % 2048; omega)) (Fin.ext (Nat.mod_eq_of_lt d.isLt).symm)

/-- The rows kept from the block before, in the sequence. -/
theorem tail_block (t : Fin cfg0.N) (i : ℕ) (hi : i < 8) (d : Fin 1536) :
    tailB m c t (ix2 ⟨i, hi⟩ d) = Cert.Mixer.chan (A1 m c) (sq t.val) d.val (128 * (t.val % 16) + i) := by
  unfold tailB
  by_cases h : t.val % 16 = 0
  · rw [if_pos h]
    unfold Cert.Mixer.chan
    rw [if_pos (by omega)]
    pointwise [k0_pay3]
  · rw [if_neg h, tail_eq m c ⟨t.val - 1, by omega⟩]
    have e := chan_block m c ⟨t.val - 1, by omega⟩ (120 + i) (by omega) d
    refine Eq.trans ?_ (e.trans ?_)
    · pointwise [k0_pay8, k0_pay4]
    · show Cert.Mixer.chan (A1 m c) (sq (t.val - 1)) d.val (128 * ((t.val - 1) % 16) + (8 + (120 + i))) = _
      rw [show sq (t.val - 1) = sq t.val from Fin.ext (by show (t.val - 1) / 16 % 8 = t.val / 16 % 8; omega)]
      congr 1
      omega

/-- A block's convolution, in the sequence. -/
theorem conv_block (t : Fin cfg0.N) (r : Fin 128) (d : Fin 1536) :
    convB m c t (tailB m c t) (ix2 r d) = U m c t.val (128 * (t.val % 16) + r.val) d.val := by
  unfold convB
  have hd : (⟨d.val % 1536, by omega⟩ : Fin 1536) = d := Fin.ext (Nat.mod_eq_of_lt d.isLt)
  have e : preF (iblk m c 1 t) (tailB m c t) (iblk m c 4 t) (View.ld (iblk m c 3 t) (Rect.unit ![3, 0] ![1, 1536] inb_S4x1536_S1x1536_3_0))
      (View.ld (iblk m c 3 t) (Rect.unit ![2, 0] ![1, 1536] inb_S4x1536_S1x1536_2_0)) (View.ld (iblk m c 3 t) (Rect.unit ![1, 0] ![1, 1536] inb_S4x1536_S1x1536_1_0))
      (View.ld (iblk m c 3 t) (Rect.unit ![0, 0] ![1, 1536] inb_S4x1536_S1x1536_0_0)) (ix2 r d)
      = Cert.Mixer.pre (A1 m c) (A3 m c) (A4 m c) (sq t.val) (128 * (t.val % 16) + r.val) d.val := by
    rw [preF_apply _ _ _ _ _ _ _ r d (fun i => Cert.Mixer.chan (A1 m c) (sq t.val) d.val (128 * (t.val % 16) + i)) (fun i hi => chan_block m c t i hi d) (fun i hi => tail_block m c t i hi d)]
    unfold Cert.Mixer.pre Cert.Mixer.tap
    rw [hd, iblk4]
    have ew : ∀ (k : Fin 4) (hk), View.ld (iblk m c 3 t) (Rect.unit (s := S4x1536) ![k.val, 0] ![1, 1536] hk) (ix2 0 d) = A3 m c (ix2 k d) := fun k hk => by
      rw [← iblk3 m c t]
      pointwise
    have ec : ∀ k, k < 8 → Cert.Mixer.chan (A1 m c) (sq t.val) d.val (128 * (t.val % 16) + (8 + r.val - k)) = Cert.Mixer.chan (A1 m c) (sq t.val) d.val (8 + (128 * (t.val % 16) + r.val) - k) :=
      fun k hk => congrArg _ (by omega)
    refine congrArg₂ (· + ·) (congrArg₂ (· + ·) (congrArg₂ (· + ·) (congrArg₂ (· + ·) rfl (congrArg₂ (· * ·) (ew 3 _) (ec 0 (by norm_num)))) (congrArg₂ (· * ·) (ew 2 _) (ec 1 (by norm_num))))
      (congrArg₂ (· * ·) (ew 1 _) (ec 2 (by norm_num)))) (congrArg₂ (· * ·) (ew 0 _) (ec 3 (by norm_num)))
  rw [convF_apply, e]
  rfl

/-- A block's steps, in the sequence. -/
theorem step_block (t : Fin cfg0.N) (r h : Fin 128) (hh : h.val < 16) : dtB m c t (ix2 r h) = D m c t.val (128 * (t.val % 16) + r.val) h.val := by
  unfold dtB
  rw [p13_apply, iblk2 m c t r h hh, iblk5 m c t h hh]
  unfold D Cert.Mixer.step
  refine congrArg Cert.Stick.SP (congrArg₂ (· + ·) (congrArg₂ (fun (p : Fin 2048) (e : Fin 16) => A2 m c (ix3 (sq t.val) p e)) ?_ ?_) (congrArg (fun e : Fin 16 => A5 m c (ix1 e)) ?_))
  · exact Fin.ext (by show 128 * (t.val % 16) + r.val = (128 * (t.val % 16) + r.val) % 2048; omega)
  · exact Fin.ext (Nat.mod_eq_of_lt hh).symm
  · exact Fin.ext (Nat.mod_eq_of_lt hh).symm

/-- A block's rates. -/
theorem rate_block (t : Fin cfg0.N) (h : Fin 128) (hh : h.val < 16) : -Ideal.exp (iblk m c 6 t (ix2 0 h : S1x128.Idx)) = R m c h.val := by
  rw [iblk6 m c t h hh]
  unfold R Cert.Mixer.rate
  exact congrArg (fun e : Fin 16 => -Ideal.exp (A6 m c (ix1 e))) (Fin.ext (Nat.mod_eq_of_lt hh).symm)

/-- The state kept after a block, in the sequence. -/
theorem state_block (n : ℕ) : ∀ (hn : n < cfg0.N) (g : Fin 2) (k : Fin 128) (d : Fin 512),
    halfF (outsAt0 m c n hn).2.1 g (ix2 k d) = Cert.Mixer.st (U m c n) (D m c n) (R m c) (n % 16 + 1) k.val (512 * g.val + d.val) := by
  induction n with
  | zero =>
    intro hn g k d
    rw [st_eq m c ⟨0, hn⟩ g]
    refine st_block _ _ _ _ _ _ _ (conv_block m c ⟨0, hn⟩) (step_block m c ⟨0, hn⟩) (rate_block m c ⟨0, hn⟩) g _ (fun k d => ?_) k d
    unfold prevB
    rw [if_pos (by rfl)]
    unfold halfF
    pointwise [k0_pay2]
    rfl
  | succ n ih =>
    intro hn g k d
    rw [st_eq m c ⟨n + 1, hn⟩ g]
    refine st_block _ _ _ _ _ _ _ (conv_block m c ⟨n + 1, hn⟩) (step_block m c ⟨n + 1, hn⟩) (rate_block m c ⟨n + 1, hn⟩) g _ (fun k d => ?_) k d
    unfold prevB
    by_cases h : (n + 1) % 16 = 0
    · rw [if_pos h]
      refine Eq.trans (b := 0) ?_ ?_
      · unfold halfF
        pointwise [k0_pay2]
      · show _ = Cert.Mixer.st _ _ _ ((n + 1) % 16) _ _
        rw [h]
        rfl
    · rw [if_neg h]
      refine (ih (by omega) g k d).trans ?_
      have e1 : sq n = sq (n + 1) := Fin.ext (by show n / 16 % 8 = (n + 1) / 16 % 8; omega)
      have e2 : n % 16 + 1 = (n + 1) % 16 := by omega
      show Cert.Mixer.st (Cert.Mixer.conv (A1 m c) (A3 m c) (A4 m c) (sq n)) (Cert.Mixer.step (A2 m c) (A5 m c) (sq n)) (R m c) (n % 16 + 1) k.val (512 * g.val + d.val)
        = Cert.Mixer.st (Cert.Mixer.conv (A1 m c) (A3 m c) (A4 m c) (sq (n + 1))) (Cert.Mixer.step (A2 m c) (A5 m c) (sq (n + 1))) (R m c) ((n + 1) % 16) k.val (512 * g.val + d.val)
      rw [e1, e2]

/-- The state before a block, in the sequence. -/
theorem prev_block (t : Fin cfg0.N) (g : Fin 2) (k : Fin 128) (d : Fin 512) :
    halfF (prevB m c t) g (ix2 k d) = Cert.Mixer.st (U m c t.val) (D m c t.val) (R m c) (t.val % 16) k.val (512 * g.val + d.val) := by
  unfold prevB
  by_cases h : t.val % 16 = 0
  · rw [if_pos h, h]
    refine Eq.trans (b := 0) ?_ rfl
    unfold halfF
    pointwise [k0_pay2]
  · rw [if_neg h]
    refine (state_block m c (t.val - 1) (by omega) g k d).trans ?_
    have e1 : sq (t.val - 1) = sq t.val := Fin.ext (by show (t.val - 1) / 16 % 8 = t.val / 16 % 8; omega)
    have e2 : (t.val - 1) % 16 + 1 = t.val % 16 := by omega
    unfold U D
    rw [e1, e2]

/-- The inputs' weights. -/
def W (h : ℕ) : EReal := A7 m c (ix1 ⟨h % 16, by omega⟩)

/-- A row of the block the kernel writes. -/
theorem out_apply (t : Fin cfg0.N) (r : Fin 128) (j : Fin 1024) : (outsAt0 m c t.val t.isLt).1 (ix3 0 r j)
    = Cert.Mixer.row (U m c t.val) (D m c t.val) (R m c) (W m c) (fun e => A0 m c (ix3 (sq t.val) (ps t.val r) e)) (fun e => A8 m c (ix1 e)) (t.val % 16) r.val j := by
  rw [out_eq m c t]
  refine (out_block (U m c t.val) (D m c t.val) (R m c) (t.val % 16) _ _ _ (conv_block m c t) (step_block m c t) (rate_block m c t) _ (prev_block m c t) _ (W m c)
    (fun h hh => (iblk7 m c t h hh).trans (congrArg (fun e : Fin 16 => A7 m c (ix1 e)) (Fin.ext (Nat.mod_eq_of_lt hh).symm))) _ _ r j).trans ?_
  refine congrArg₂ (fun z w : Row => Cert.Mixer.row (U m c t.val) (D m c t.val) (R m c) (W m c) z w (t.val % 16) r.val j) (funext fun e => ?_) (funext fun e => ?_)
  · exact iblk0 m c t r e
  · exact iblk8 m c t e

end Cert.Kernel9Ideal.Ssm
end
-- ==== Proof.SsmRef.lean ====
/- The mixer's reference at an index: the convolution, the steps, the running sums and the products of a chunk. -/
module

public import proofs.«01_k».proof.Proof.SsmMath
public import proofs.«01_k».proof.Proof.RefRead
public import proofs.«01_k».proof.Proof.Gen.Reference9Ideal.Run
public import Idealize.ShloMosaic.Lib.Pointwise

@[expose] public section

set_option maxRecDepth 16384

noncomputable section

namespace Cert.Reference9Ideal.Ssm

open Cert.Reference9Ideal Cert.Reference9Ideal.Gen Cert.Reference9Ideal.Value Cert.Mixer Idealize.ShloMosaic

/-- The arguments. -/
structure Args (V0 : Valuation τ sig (Elt Ideal)) (x0 : FVec Ideal S8x2048x1024 .f32) (x1 : FVec Ideal S8x2048x1536 .f32) (x2 : FVec Ideal S8x2048x16 .f32)
    (x3 : FVec Ideal S4x1536 .f32) (x4 : FVec Ideal S1536 .f32) (x5 x6 x7 : FVec Ideal S16 .f32) (x8 : FVec Ideal S1024 .f32) : Prop where
  h0 : V0 (Proc.devRef .tc main_arg0) = x0
  h1 : V0 (Proc.devRef .tc main_arg1) = x1
  h2 : V0 (Proc.devRef .tc main_arg2) = x2
  h3 : V0 (Proc.devRef .tc main_arg3) = x3
  h4 : V0 (Proc.devRef .tc main_arg4) = x4
  h5 : V0 (Proc.devRef .tc main_arg5) = x5
  h6 : V0 (Proc.devRef .tc main_arg6) = x6
  h7 : V0 (Proc.devRef .tc main_arg7) = x7
  h8 : V0 (Proc.devRef .tc main_arg8) = x8

variable {V0 : Valuation τ sig (Elt Ideal)} {x0 : FVec Ideal S8x2048x1024 .f32} {x1 : FVec Ideal S8x2048x1536 .f32} {x2 : FVec Ideal S8x2048x16 .f32}
    {x3 : FVec Ideal S4x1536 .f32} {x4 : FVec Ideal S1536 .f32} {x5 x6 x7 : FVec Ideal S16 .f32} {x8 : FVec Ideal S1024 .f32}

/-- The position of a chunk's row. -/
abbrev pos (q : Fin 16) (r : Fin 128) : Fin 2048 := ⟨128 * q.val + r.val, by omega⟩

/-- A head of a group. -/
abbrev hd (g : Fin 2) (hh : Fin 8) : Fin 16 := ⟨8 * g.val + hh.val, by omega⟩

variable (A : Args V0 x0 x1 x2 x3 x4 x5 x6 x7 x8) (b : Fin 8)

include A

/-- The padded sequence: three noughts, then the rows. -/
theorem v0_apply (k : Fin 2051) (d : Fin 1536) : (res_main_v0 V0 : FVec Ideal S8x2051x1536 .f32) (ix3 b k d) = chan x1 b d.val (k.val + 5) := by
  unfold chan res_main_v0
  rw [A.h1]
  pointwise
  by_cases hk : k.val < 3
  · rw [if_pos (by omega)]
    refine (dif_neg fun h => ?_).trans ?_
    · have h1 : 3 ≤ k.val := (h (1 : Fin 3)).1
      omega
    · show (((0#32 : BitVec 32).toInt : ℝ) : EReal) = 0
      simp
  · rw [if_neg (by omega)]
    refine Eq.trans (dif_pos ?inside) ?same
    case inside =>
      intro (a : Fin 3)
      fin_cases a
      · show 0 ≤ b.val ∧ (b.val - 0) % 1 = 0 ∧ (b.val - 0) / 1 < 8
        omega
      · show 3 ≤ k.val ∧ (k.val - 3) % 1 = 0 ∧ (k.val - 3) / 1 < 2048
        omega
      · show 0 ≤ d.val ∧ (d.val - 0) % 1 = 0 ∧ (d.val - 0) / 1 < 1536
        omega
    case same =>
      exact congrArg₂ (fun (p : Fin 2048) (e : Fin 1536) => x1 (ix3 b p e)) (Fin.ext (by show k.val - 3 = (k.val + 5 - 8) % 2048; omega)) (Fin.ext (Nat.mod_eq_of_lt d.isLt).symm)

/-- The convolution before its activation. -/
theorem v32_apply (p : Fin 2048) (d : Fin 1536) : (res_main_v32 V0 : FVec Ideal S8x2048x1536 .f32) (ix3 b p d) = pre x1 x3 x4 b p.val d.val := by
  have e0 := v0_apply A b ⟨p.val, by omega⟩ d
  have e1 := v0_apply A b ⟨p.val + 1, by omega⟩ d
  have e2 := v0_apply A b ⟨p.val + 2, by omega⟩ d
  have e3 := v0_apply A b ⟨p.val + 3, by omega⟩ d
  unfold pre tap res_main_v32
  rw [A.h3, A.h4]
  generalize (res_main_v0 V0 : FVec Ideal S8x2051x1536 .f32) = y at e0 e1 e2 e3 ⊢
  pointwise
  have i1 : (⟨1 + p.val, by omega⟩ : Fin 2051) = ⟨p.val + 1, by omega⟩ := Fin.ext (Nat.add_comm _ _)
  have i2 : (⟨2 + p.val, by omega⟩ : Fin 2051) = ⟨p.val + 2, by omega⟩ := Fin.ext (Nat.add_comm _ _)
  have i3 : (⟨3 + p.val, by omega⟩ : Fin 2051) = ⟨p.val + 3, by omega⟩ := Fin.ext (Nat.add_comm _ _)
  have id : (⟨d.val % 1536, by omega⟩ : Fin 1536) = d := Fin.ext (Nat.mod_eq_of_lt d.isLt)
  have c0 : p.val + 5 = 8 + p.val - 3 := by omega
  have c1 : p.val + 1 + 5 = 8 + p.val - 2 := by omega
  have c2 : p.val + 2 + 5 = 8 + p.val - 1 := by omega
  have c3 : p.val + 3 + 5 = 8 + p.val := by omega
  dsimp only at e0 e1 e2 e3
  rw [c0] at e0
  rw [c1] at e1
  rw [c2] at e2
  rw [c3] at e3
  simp only [i1, i2, i3, id]
  rw [e0, e1, e2, e3]
  generalize chan x1 b d.val (8 + p.val - 3) = X0
  generalize chan x1 b d.val (8 + p.val - 2) = X1
  generalize chan x1 b d.val (8 + p.val - 1) = X2
  generalize chan x1 b d.val (8 + p.val) = X3
  rw [mul_comm X0, mul_comm X1, mul_comm X2, mul_comm X3]
  ac_rfl

/-- The convolution. -/
theorem v33_apply (p : Fin 2048) (d : Fin 1536) : (res_main_v33 V0 : FVec Ideal S8x2048x1536 .f32) (ix3 b p d) = conv x1 x3 x4 b p.val d.val := by
  have e := v32_apply A b p d
  unfold conv res_main_v33
  rw [← e]
  generalize (res_main_v32 V0 : FVec Ideal S8x2048x1536 .f32) = y
  pointwise
  rfl

/-- The inputs of a chunk. -/
theorem v34_apply (p : Fin 2048) (j : Fin 1024) : (res_main_v34 V0 : FVec Ideal S8x2048x1024 .f32) (ix3 b p j) = conv x1 x3 x4 b p.val j.val := by
  refine Eq.trans ?_ (v33_apply A b p ⟨j.val, by omega⟩)
  unfold res_main_v34
  generalize (res_main_v33 V0 : FVec Ideal S8x2048x1536 .f32) = y
  pointwise

end Cert.Reference9Ideal.Ssm
end
-- ==== Proof.SsmOut.lean ====
/- The mixer's reference: the arrays of the scan's two halves, at an index. -/
module

public import proofs.«01_k».proof.Proof.SsmMath
public import proofs.«01_k».proof.Proof.RefRead
public import proofs.«01_k».proof.Reference9Ideal
public import proofs.«01_k».proof.Proof.Gen.Reference9Ideal
public import Idealize.ShloMosaic.Lib.Pointwise
public import Idealize.ShloMosaic.Lib.WordCmp

@[expose] public section

set_option maxRecDepth 16384

noncomputable section

namespace Cert.Reference9Ideal.Ssm

open Cert.Reference9Ideal Cert.Reference9Ideal.Gen Cert.Mixer Idealize.ShloMosaic

/-- Sixteen arrays of one chunk each, joined along the chunks. -/
def catF (f : Fin 16 → FVec Ideal S8x1x2x8x64x128 .f32) : FVec Ideal S8x16x2x8x64x128 .f32 :=
  concatenate S8x16x2x8x64x128 1 [⟨S8x1x2x8x64x128, f 0⟩, ⟨S8x1x2x8x64x128, f 1⟩, ⟨S8x1x2x8x64x128, f 2⟩, ⟨S8x1x2x8x64x128, f 3⟩, ⟨S8x1x2x8x64x128, f
    4⟩, ⟨S8x1x2x8x64x128, f 5⟩, ⟨S8x1x2x8x64x128, f 6⟩, ⟨S8x1x2x8x64x128, f 7⟩, ⟨S8x1x2x8x64x128, f 8⟩, ⟨S8x1x2x8x64x128, f 9⟩, ⟨S8x1x2x8x64x128, f
    10⟩, ⟨S8x1x2x8x64x128, f 11⟩, ⟨S8x1x2x8x64x128, f 12⟩, ⟨S8x1x2x8x64x128, f 13⟩, ⟨S8x1x2x8x64x128, f 14⟩, ⟨S8x1x2x8x64x128, f 15⟩]
    concatenates_S8x1x2x8x64x128_S8x1x2x8x64x128_S8x1x2x8x64x128_S8x1x2x8x64x128_S8x1x2x8x64x128_S8x1x2x8x64x128_S8x1x2x8x64x128_S8x1x2x8x64x128_S8x1x2x8x64x128_S8x1x2x8x64x128_S8x1x2x8x64x128_S8x1x2x8x64x128_S8x1x2x8x64x128_S8x1x2x8x64x128_S8x1x2x8x64x128_S8x1x2x8x64x128_S8x16x2x8x64x128_d1

/-- The joined array, at an index. -/
theorem catF_apply (f : Fin 16 → FVec Ideal S8x1x2x8x64x128 .f32) (b : Fin 8) (q : Fin 16) (g : Fin 2) (hh : Fin 8) (pp : Fin 64) (n : Fin 128) :
    catF f (ix6 b q g hh pp n) = f q (ix6 b 0 g hh pp n) :=
  concatenate_ofFn_apply (t := S8x16x2x8x64x128) (s₁ := S8x1x2x8x64x128) 1 f _ rfl 1 rfl (ix6 b q g hh pp n) q (Nat.div_one _)
    (ix6 b 0 g hh pp n) (Nat.mod_one _).symm fun a ha => match a, ha with
    | ⟨0, _⟩, _ => rfl
    | ⟨1, _⟩, ha => (ha rfl).elim
    | ⟨2, _⟩, _ => rfl
    | ⟨3, _⟩, _ => rfl
    | ⟨4, _⟩, _ => rfl
    | ⟨5, _⟩, _ => rfl

/-- The scan's output and the weighted inputs. -/
def outF (xd : FVec Ideal S8x16x128x2x8x64 .f32) (cm bm : FVec Ideal S8x16x128x2x128 .f32) (am : FVec Ideal S8x16x2x8x128 .f32)
    (av : FVec Ideal S8x16x128x2x8 .f32) (xs : FVec Ideal S8x2048x1024 .f32) (H : FVec Ideal S8x16x2x8x64x128 .f32) (ds : FVec Ideal S16 .f32) :
    FVec Ideal S8x2048x2x8x64 .f32 :=
  addf (shapeCast _ (addf (transpose S8x16x128x2x8x64 [0, 1, 5, 2, 3, 4] (Host.dotGeneral
    dot_S8x16x128x2x8x64_S8x16x2x8x128x128_S8x16x2x8x64x128_2_5_5_4_0134_0123 none xd (mulf (broadcastInDim S8x16x2x8x128x128 ![0, 1, 2, 3, 4, 5]
    bcast_S8x16x2x1x128x128_S8x16x2x8x128x128_0_1_2_3_4_5 (broadcastInDim S8x16x2x1x128x128 ![0, 1, 2, 4, 5]
    bcast_S8x16x2x128x128_S8x16x2x1x128x128_0_1_2_4_5 (Host.dotGeneral dot_S8x16x128x2x128_S8x16x128x2x128_S8x16x2x128x128_4_4_2_2_013_013 none cm
    bm))) (Host.exp (select (broadcastInDim S8x16x2x8x128x128 ![4, 5] bcast_S128x128_S8x16x2x8x128x128_4_5 (select (cmpi .sge (addi (iotaInDim
    S128x128 32 0) (broadcastInDim S128x128 ![] bcast_S_S128x128 (constantI S_ 32 0#32))) (iotaInDim S128x128 32 1)) (broadcastInDim S128x128 ![]
    bcast_S_S128x128 (constantI S_ 1 1#1)) (broadcastInDim S128x128 ![] bcast_S_S128x128 (constantI S_ 1 0#1)))) (subf (broadcastInDim
    S8x16x2x8x128x128 ![0, 1, 2, 3, 4, 5] bcast_S8x16x2x8x128x1_S8x16x2x8x128x128_0_1_2_3_4_5 (broadcastInDim S8x16x2x8x128x1 ![0, 1, 2, 3, 4]
    bcast_S8x16x2x8x128_S8x16x2x8x128x1_0_1_2_3_4 am)) (broadcastInDim S8x16x2x8x128x128 ![0, 1, 2, 3, 4, 5]
    bcast_S8x16x2x8x1x128_S8x16x2x8x128x128_0_1_2_3_4_5 (broadcastInDim S8x16x2x8x1x128 ![0, 1, 2, 3, 5] bcast_S8x16x2x8x128_S8x16x2x8x1x128_0_1_2_3_5
    am))) (broadcastInDim S8x16x2x8x128x128 ![] bcast_S_S8x16x2x8x128x128 (id (constant S_ .f32 0xFF800000#32)))))))
    transposes_S8x16x2x8x64x128_S8x16x128x2x8x64_0_1_5_2_3_4) (mulf (transpose S8x16x128x2x8x64 [0, 1, 5, 2, 3, 4] (Host.dotGeneral
    dot_S8x16x2x8x64x128_S8x16x128x2x128_S8x16x2x8x64x128_5_4_34_2_012_013 none H cm) transposes_S8x16x2x8x64x128_S8x16x128x2x8x64_0_1_5_2_3_4)
    (broadcastInDim S8x16x128x2x8x64 ![0, 1, 2, 3, 4, 5] bcast_S8x16x128x2x8x1_S8x16x128x2x8x64_0_1_2_3_4_5 (broadcastInDim S8x16x128x2x8x1 ![0, 1, 2,
    3, 4] bcast_S8x16x128x2x8_S8x16x128x2x8x1_0_1_2_3_4 (Host.exp av))))) shapeCasts_S8x16x128x2x8x64_S8x2048x2x8x64) (mulf (shapeCast _ xs
    shapeCasts_S8x2048x1024_S8x2048x2x8x64) (broadcastInDim S8x2048x2x8x64 ![0, 1, 2, 3, 4] bcast_S1x1x2x8x1_S8x2048x2x8x64_0_1_2_3_4 (broadcastInDim
    S1x1x2x8x1 ![2, 3, 4] bcast_S2x8x1_S1x1x2x8x1_2_3_4 (broadcastInDim S2x8x1 ![0, 1] bcast_S2x8_S2x8x1_0_1 (shapeCast _ ds shapeCasts_S16_S2x8)))))

variable (b : Fin 8) (q : Fin 16) (r : Fin 128) (g : Fin 2) (hh : Fin 8) (pp : Fin 64)

/-- The mask's constant, as an extended real. -/
theorem ninf : id (constant (F := Ideal) S_ .f32 0xFF800000#32) ix0 = (⊥ : EReal) := by
  show Ideal.ofBits .f32 0xFF800000#32 = ⊥
  simp [Ideal.ofBits, Ideal.ieee]

/-- The output at an index. -/
theorem outF_apply (xd : FVec Ideal S8x16x128x2x8x64 .f32) (cm bm : FVec Ideal S8x16x128x2x128 .f32) (am : FVec Ideal S8x16x2x8x128 .f32)
    (av : FVec Ideal S8x16x128x2x8 .f32) (xs : FVec Ideal S8x2048x1024 .f32) (H : FVec Ideal S8x16x2x8x64x128 .f32) (ds : FVec Ideal S16 .f32) :
    outF xd cm bm am av xs H ds (ix5 b ⟨128 * q.val + r.val, by omega⟩ g hh pp)
      = ((∑ k : Fin 128, xd (ix6 b q k g hh pp) * ((∑ n : Fin 128, cm (ix5 b q r g n) * bm (ix5 b q k g n))
          * Ideal.exp (if k.val ≤ r.val then am (ix5 b q g hh r) - am (ix5 b q g hh k) else ⊥)))
        + (∑ n : Fin 128, H (ix6 b q g hh pp n) * cm (ix5 b q r g n)) * Ideal.exp (av (ix5 b q r g hh)))
      + xs (ix3 b ⟨128 * q.val + r.val, by omega⟩ ⟨64 * (8 * g.val + hh.val) + pp.val, by omega⟩) * ds (ix1 ⟨8 * g.val + hh.val, by omega⟩) := by
  pointwise [outF]
  have hm : ∀ k : Fin 128, Scalar.select (Scalar.select (IntOp.cmpi .sge (IntOp.addi (BitVec.ofNat 32 r.val) 0#32) (BitVec.ofNat 32 k.val)) 1#1 0#1)
      (am (ix5 b q g hh r) - am (ix5 b q g hh k)) (id (constant (F := Ideal) S_ .f32 0xFF800000#32) ix0)
      = if k.val ≤ r.val then am (ix5 b q g hh r) - am (ix5 b q g hh k) else ⊥ := fun k => by
    have e : IntOp.addi (BitVec.ofNat 32 r.val) 0#32 = BitVec.ofNat 32 r.val := BitVec.add_zero _
    rw [e, WordCmp.cmpi_sge_ofNat (by omega) (by omega), ninf]
    by_cases h : k.val ≤ r.val
    · rw [if_pos h, decide_eq_true h]
      rfl
    · rw [if_neg h, decide_eq_false h]
      rfl
  have i1 : (⟨g.val * 512 + hh.val * 64 + pp.val, by omega⟩ : Fin 1024) = ⟨64 * (8 * g.val + hh.val) + pp.val, by omega⟩ := Fin.ext (by show g.val * 512 + hh.val * 64 + pp.val = 64 * (8 * g.val + hh.val) + pp.val; omega)
  have i2 : (⟨g.val * 8 + hh.val, by omega⟩ : Fin 16) = ⟨8 * g.val + hh.val, by omega⟩ := Fin.ext (by show g.val * 8 + hh.val = 8 * g.val + hh.val; omega)
  simp only [hm, i1, i2]

/-- The steps times the rates. -/
def rateF (dt : FVec Ideal S8x16x128x2x8 .f32) (al : FVec Ideal S16 .f32) : FVec Ideal S8x16x128x2x8 .f32 :=
  mulf dt (broadcastInDim S8x16x128x2x8 ![0, 1, 2, 3, 4] bcast_S1x1x1x2x8_S8x16x128x2x8_0_1_2_3_4 (broadcastInDim S1x1x1x2x8 ![3, 4]
    bcast_S2x8_S1x1x1x2x8_3_4 (Host.negf (shapeCast _ (Host.exp al) shapeCasts_S16_S2x8))))

/-- The steps times the rates, at an index. -/
theorem rateF_apply (dt : FVec Ideal S8x16x128x2x8 .f32) (al : FVec Ideal S16 .f32) :
    rateF dt al (ix5 b q r g hh) = dt (ix5 b q r g hh) * -Ideal.exp (al (ix1 ⟨8 * g.val + hh.val, by omega⟩)) := by
  pointwise [rateF]
  have i2 : (⟨g.val * 8 + hh.val, by omega⟩ : Fin 16) = ⟨8 * g.val + hh.val, by omega⟩ := Fin.ext (by show g.val * 8 + hh.val = 8 * g.val + hh.val; omega)
  rw [i2]

/-- The decay over a chunk. -/
def decF (av : FVec Ideal S8x16x128x2x8 .f32) : FVec Ideal S8x16x2x8 .f32 :=
  Host.exp (shapeCast _ (extractStridedSlice S8x16x1x2x8 ![0, 0, 127, 0, 0] av slices_S8x16x128x2x8_S8x16x1x2x8_0_0_127_0_0)
    shapeCasts_S8x16x1x2x8_S8x16x2x8)

/-- The decay over a chunk, at an index. -/
theorem decF_apply (av : FVec Ideal S8x16x128x2x8 .f32) : decF av (ix4 b q g hh) = Ideal.exp (av (ix5 b q 127 g hh)) := by
  pointwise [decF]

/-- A chunk's contribution to the state. -/
def sumF (xd : FVec Ideal S8x16x128x2x8x64 .f32) (av : FVec Ideal S8x16x128x2x8 .f32) (bm : FVec Ideal S8x16x128x2x128 .f32) : FVec Ideal S8x16x2x8x64x128 .f32 :=
  Host.dotGeneral dot_S8x16x128x2x8x64_S8x16x128x2x128_S8x16x2x8x64x128_2_2_45_4_013_013 none (mulf xd (broadcastInDim S8x16x128x2x8x64 ![0, 1, 2, 3, 4,
    5] bcast_S8x16x128x2x8x1_S8x16x128x2x8x64_0_1_2_3_4_5 (broadcastInDim S8x16x128x2x8x1 ![0, 1, 2, 3, 4]
    bcast_S8x16x128x2x8_S8x16x128x2x8x1_0_1_2_3_4 (Host.exp (subf (broadcastInDim S8x16x128x2x8 ![0, 1, 2, 3, 4]
    bcast_S8x16x1x2x8_S8x16x128x2x8_0_1_2_3_4 (extractStridedSlice S8x16x1x2x8 ![0, 0, 127, 0, 0] av slices_S8x16x128x2x8_S8x16x1x2x8_0_0_127_0_0))
    av))))) bm

/-- A chunk's contribution to the state, at an index. -/
theorem sumF_apply (xd : FVec Ideal S8x16x128x2x8x64 .f32) (av : FVec Ideal S8x16x128x2x8 .f32) (bm : FVec Ideal S8x16x128x2x128 .f32) (n : Fin 128) :
    sumF xd av bm (ix6 b q g hh pp n)
      = ∑ k : Fin 128, (xd (ix6 b q k g hh pp) * Ideal.exp (av (ix5 b q 127 g hh) - av (ix5 b q k g hh))) * bm (ix5 b q k g n) := by
  pointwise [sumF]

/-- One step of the loop over chunks: the state before chunk `i` gives the state before the next. -/
def nxt (i : ℕ) (h1 : S8x16x2x8.Slices ![0, i, 0, 0] S8x1x2x8) (h2 : S8x16x2x8x64x128.Slices ![0, i, 0, 0, 0, 0] S8x1x2x8x64x128)
    (w : FVec Ideal S8x16x2x8 .f32) (s : FVec Ideal S8x16x2x8x64x128 .f32) (y : FVec Ideal S8x1x2x8x64x128 .f32) : FVec Ideal S8x1x2x8x64x128 .f32 :=
  addf (mulf (broadcastInDim S8x1x2x8x64x128 ![0, 1, 2, 3, 4, 5] bcast_S8x1x2x8x1x1_S8x1x2x8x64x128_0_1_2_3_4_5
    (broadcastInDim S8x1x2x8x1x1 ![0, 1, 2, 3] bcast_S8x1x2x8_S8x1x2x8x1x1_0_1_2_3 (extractStridedSlice S8x1x2x8 ![0, i, 0, 0] w h1))) y)
    (extractStridedSlice S8x1x2x8x64x128 ![0, i, 0, 0, 0, 0] s h2)

variable (n : Fin 128)

/-- The step, at an index. -/
theorem nxt_apply (h1 : S8x16x2x8.Slices ![0, q.val, 0, 0] S8x1x2x8) (h2 : S8x16x2x8x64x128.Slices ![0, q.val, 0, 0, 0, 0] S8x1x2x8x64x128)
    (w : FVec Ideal S8x16x2x8 .f32) (s : FVec Ideal S8x16x2x8x64x128 .f32) (y : FVec Ideal S8x1x2x8x64x128 .f32) :
    nxt q.val h1 h2 w s y (ix6 b 0 g hh pp n) = w (ix4 b q g hh) * y (ix6 b 0 g hh pp n) + s (ix6 b q g hh pp n) := by
  unfold nxt
  pointwise

/-- The running sums, positions last. -/
def moveF (av : FVec Ideal S8x16x128x2x8 .f32) : FVec Ideal S8x16x2x8x128 .f32 :=
  transpose S8x16x2x8x128 [0, 1, 3, 4, 2] av transposes_S8x16x128x2x8_S8x16x2x8x128_0_1_3_4_2

/-- The running sums, positions last, at an index. -/
theorem moveF_apply (av : FVec Ideal S8x16x128x2x8 .f32) (k : Fin 128) : moveF av (ix5 b q g hh k) = av (ix5 b q k g hh) := by
  pointwise [moveF]

/-- The gated output. -/
def gateF (o : FVec Ideal S8x2048x2x8x64 .f32) (z : FVec Ideal S8x2048x1024 .f32) : FVec Ideal S8x2048x1024 .f32 :=
  mulf (shapeCast _ o shapeCasts_S8x2048x2x8x64_S8x2048x1024) (mulf z (Host.divf (broadcastInDim S8x2048x1024 ![] bcast_S_S8x2048x1024 (constant S_ .f32
    0x3F800000#32)) (addf (broadcastInDim S8x2048x1024 ![] bcast_S_S8x2048x1024 (constant S_ .f32 0x3F800000#32)) (Host.exp (Host.negf z)))))

/-- The gated output, at an index. -/
theorem gateF_apply (o : FVec Ideal S8x2048x2x8x64 .f32) (z : FVec Ideal S8x2048x1024 .f32) (p : Fin 2048) (j : Fin 1024) :
    gateF o z (ix3 b p j) = o (ix5 b p ⟨j.val / 512, by omega⟩ ⟨j.val / 64 % 8, by omega⟩ ⟨j.val % 64, by omega⟩) * (z (ix3 b p j) * Ideal.logistic (z (ix3 b p j))) := by
  pointwise [gateF]
  rfl

/-- The norm. -/
def finF (y : FVec Ideal S8x2048x1024 .f32) (w : FVec Ideal S1024 .f32) : FVec Ideal S8x2048x1024 .bf16 :=
  truncf .bf16 (mulf (mulf y (broadcastInDim S8x2048x1024 ![0, 1, 2] bcast_S8x2048x1_S8x2048x1024_0_1_2 (Host.rsqrt (addf (Host.divf (broadcastInDim
    S8x2048x1 ![0, 1] bcast_S8x2048_S8x2048x1_0_1 (Host.reduceAdd (mulf y y) (constant S_ .f32 0x00000000#32) reducesTo_S8x2048x1024_S8x2048_d2 h_S_))
    (broadcastInDim S8x2048x1 ![] bcast_S_S8x2048x1 (constant S_ .f32 0x44800000#32))) (broadcastInDim S8x2048x1 ![] bcast_S_S8x2048x1 (constant S_
    .f32 0x358637BD#32)))))) (broadcastInDim S8x2048x1024 ![0, 1, 2] bcast_S1x1x1024_S8x2048x1024_0_1_2 (broadcastInDim S1x1x1024 ![2]
    bcast_S1024_S1x1x1024_2 w))) bitsLt_bf16_f32

/-- The norm, at an index. -/
theorem finF_apply (y : FVec Ideal S8x2048x1024 .f32) (w : FVec Ideal S1024 .f32) (p : Fin 2048) (j : Fin 1024) :
    finF y w (ix3 b p j) = Cert.Rows.rms (fun e => y (ix3 b p e)) (fun e => w (ix1 e)) j := by
  unfold Cert.Rows.rms Cert.Rows.rinv
  pointwise [finF]

/-- The steps of the chunks. -/
def stepF (y : FVec Ideal S8x2048x16 .f32) : FVec Ideal S8x16x128x2x8 .f32 :=
  shapeCast _ (shapeCast _ (select (cmpf .une (subf y (broadcastInDim S8x2048x16 ![] bcast_S_S8x2048x16 (constant S_ .f32 0x00000000#32))) (subf y
    (broadcastInDim S8x2048x16 ![] bcast_S_S8x2048x16 (constant S_ .f32 0x00000000#32)))) (addf y (broadcastInDim S8x2048x16 ![] bcast_S_S8x2048x16
    (constant S_ .f32 0x00000000#32))) (addf (maximumf y (broadcastInDim S8x2048x16 ![] bcast_S_S8x2048x16 (constant S_ .f32 0x00000000#32)))
    (Host.log1p (Host.exp (Host.negf (Host.absf (subf y (broadcastInDim S8x2048x16 ![] bcast_S_S8x2048x16 (constant S_ .f32 0x00000000#32)))))))))
    shapeCasts_S8x2048x16_S8x2048x2x8) shapeCasts_S8x2048x2x8_S8x16x128x2x8

/-- The steps of the chunks, at an index. -/
theorem stepF_apply (y : FVec Ideal S8x2048x16 .f32) :
    stepF y (ix5 b q r g hh) = Cert.Stick.SP (y (ix3 b ⟨128 * q.val + r.val, by omega⟩ ⟨8 * g.val + hh.val, by omega⟩)) := by
  refine Eq.trans ?_ (Cert.ReferenceIdeal.Att.softplus_select _)
  pointwise [stepF]
  have i1 : (⟨q.val * 128 + r.val, by omega⟩ : Fin 2048) = ⟨128 * q.val + r.val, by omega⟩ := (Fin.ext (by show q.val * 128 + r.val = 128 * q.val + r.val; omega))
  have i2 : (⟨g.val * 8 + hh.val, by omega⟩ : Fin 16) = ⟨8 * g.val + hh.val, by omega⟩ := Fin.ext (by show g.val * 8 + hh.val = 8 * g.val + hh.val; omega)
  rw [i1, i2]
  rfl

/-- The first factors of the chunks. -/
def fstF (y : FVec Ideal S8x2048x1536 .f32) : FVec Ideal S8x16x128x2x128 .f32 :=
  shapeCast _ (shapeCast _ (extractStridedSlice S8x2048x256 ![0, 0, 1024] y slices_S8x2048x1536_S8x2048x256_0_0_1024)
    shapeCasts_S8x2048x256_S8x2048x2x128) shapeCasts_S8x2048x2x128_S8x16x128x2x128

/-- The first factors of the chunks, at an index. -/
theorem fstF_apply (y : FVec Ideal S8x2048x1536 .f32) :
    fstF y (ix5 b q r g n) = y (ix3 b ⟨128 * q.val + r.val, by omega⟩ ⟨1024 + 128 * g.val + n.val, by omega⟩) := by
  pointwise [fstF]
  exact congrArg₂ (fun p d => y (ix3 b p d)) (Fin.ext (by show q.val * 128 + r.val = 128 * q.val + r.val; omega)) (Fin.ext (by show 1024 + (g.val * 128 + n.val) = 1024 + 128 * g.val + n.val; omega))

/-- The second factors of the chunks. -/
def sndF (y : FVec Ideal S8x2048x1536 .f32) : FVec Ideal S8x16x128x2x128 .f32 :=
  shapeCast _ (shapeCast _ (extractStridedSlice S8x2048x256 ![0, 0, 1280] y slices_S8x2048x1536_S8x2048x256_0_0_1280)
    shapeCasts_S8x2048x256_S8x2048x2x128) shapeCasts_S8x2048x2x128_S8x16x128x2x128

/-- The second factors of the chunks, at an index. -/
theorem sndF_apply (y : FVec Ideal S8x2048x1536 .f32) :
    sndF y (ix5 b q r g n) = y (ix3 b ⟨128 * q.val + r.val, by omega⟩ ⟨1280 + 128 * g.val + n.val, by omega⟩) := by
  pointwise [sndF]
  exact congrArg₂ (fun p d => y (ix3 b p d)) (Fin.ext (by show q.val * 128 + r.val = 128 * q.val + r.val; omega)) (Fin.ext (by show 1280 + (g.val * 128 + n.val) = 1280 + 128 * g.val + n.val; omega))

/-- The inputs times their steps. -/
def xdF (xs : FVec Ideal S8x2048x1024 .f32) (dt : FVec Ideal S8x16x128x2x8 .f32) : FVec Ideal S8x16x128x2x8x64 .f32 :=
  mulf (shapeCast _ (shapeCast _ xs shapeCasts_S8x2048x1024_S8x2048x2x8x64) shapeCasts_S8x2048x2x8x64_S8x16x128x2x8x64) (broadcastInDim S8x16x128x2x8x64
    ![0, 1, 2, 3, 4, 5] bcast_S8x16x128x2x8x1_S8x16x128x2x8x64_0_1_2_3_4_5 (broadcastInDim S8x16x128x2x8x1 ![0, 1, 2, 3, 4]
    bcast_S8x16x128x2x8_S8x16x128x2x8x1_0_1_2_3_4 dt))

/-- The inputs times their steps, at an index. -/
theorem xdF_apply (xs : FVec Ideal S8x2048x1024 .f32) (dt : FVec Ideal S8x16x128x2x8 .f32) :
    xdF xs dt (ix6 b q r g hh pp) = xs (ix3 b ⟨128 * q.val + r.val, by omega⟩ ⟨64 * (8 * g.val + hh.val) + pp.val, by omega⟩) * dt (ix5 b q r g hh) := by
  pointwise [xdF]
  exact congrArg (· * _) (congrArg₂ (fun p d => xs (ix3 b p d)) (Fin.ext (by show q.val * 128 + r.val = 128 * q.val + r.val; omega))
    (Fin.ext (by show g.val * 512 + hh.val * 64 + pp.val = 64 * (8 * g.val + hh.val) + pp.val; omega)))

end Cert.Reference9Ideal.Ssm
end
-- ==== Proof.SsmRef2.lean ====
/- The mixer's reference, a chunk at an index: the factors and the steps. -/
module

public import proofs.«01_k».proof.Proof.SsmRef
public import proofs.«01_k».proof.Proof.SsmOut
public import Idealize.ShloMosaic.Lib.Pointwise

@[expose] public section

set_option maxRecDepth 16384

noncomputable section

namespace Cert.Reference9Ideal.Ssm

open Cert.Reference9Ideal Cert.Reference9Ideal.Gen Cert.Reference9Ideal.Value Cert.Mixer Idealize.ShloMosaic

variable {V0 : Valuation τ sig (Elt Ideal)} {x0 : FVec Ideal S8x2048x1024 .f32} {x1 : FVec Ideal S8x2048x1536 .f32} {x2 : FVec Ideal S8x2048x16 .f32}
    {x3 : FVec Ideal S4x1536 .f32} {x4 : FVec Ideal S1536 .f32} {x5 x6 x7 : FVec Ideal S16 .f32} {x8 : FVec Ideal S1024 .f32}

variable (A : Args V0 x0 x1 x2 x3 x4 x5 x6 x7 x8) (b : Fin 8)

include A

variable (q : Fin 16) (r : Fin 128) (g : Fin 2) (hh : Fin 8) (pp : Fin 64)

/-- The steps of a chunk. -/
theorem v49_apply : (res_main_v49 V0 : FVec Ideal S8x16x128x2x8 .f32) (ix5 b q r g hh) = step x2 x5 b (128 * q.val + r.val) (8 * g.val + hh.val) := by
  have e : (res_main_v41 V0 : FVec Ideal S8x2048x16 .f32) (ix3 b (pos q r) (hd g hh)) = x2 (ix3 b (pos q r) (hd g hh)) + x5 (ix1 (hd g hh)) := by
    unfold res_main_v41
    rw [A.h2, A.h5]
    pointwise
  refine (stepF_apply b q r g hh (res_main_v41 V0)).trans (congrArg Cert.Stick.SP (e.trans ?_))
  exact congrArg₂ (fun (p : Fin 2048) (h : Fin 16) => x2 (ix3 b p h) + x5 (ix1 h)) (Fin.ext (Nat.mod_eq_of_lt (pos q r).isLt).symm) (Fin.ext (Nat.mod_eq_of_lt (hd g hh).isLt).symm)

/-- The first factors of a chunk. -/
theorem v50_apply (n : Fin 128) : (res_main_v50 V0 : FVec Ideal S8x16x128x2x128 .f32) (ix5 b q r g n)
    = conv x1 x3 x4 b (128 * q.val + r.val) (1024 + 128 * g.val + n.val) :=
  (fstF_apply b q r g n (res_main_v33 V0)).trans (v33_apply A b (pos q r) ⟨1024 + 128 * g.val + n.val, by omega⟩)

/-- The second factors of a chunk. -/
theorem v51_apply (n : Fin 128) : (res_main_v51 V0 : FVec Ideal S8x16x128x2x128 .f32) (ix5 b q r g n)
    = conv x1 x3 x4 b (128 * q.val + r.val) (1280 + 128 * g.val + n.val) :=
  (sndF_apply b q r g n (res_main_v33 V0)).trans (v33_apply A b (pos q r) ⟨1280 + 128 * g.val + n.val, by omega⟩)

/-- The inputs times their steps. -/
theorem v58_apply : (res_main_v58 V0 : FVec Ideal S8x16x128x2x8x64 .f32) (ix6 b q r g hh pp)
    = xdt (conv x1 x3 x4 b) (step x2 x5 b) (128 * q.val + r.val) (64 * (8 * g.val + hh.val) + pp.val) := by
  have e1 : (64 * (8 * g.val + hh.val) + pp.val) / 64 = 8 * g.val + hh.val := by omega
  unfold xdt
  rw [e1]
  exact (xdF_apply b q r g hh pp (res_main_v34 V0) (res_main_v49 V0)).trans
    (congrArg₂ (· * ·) (v34_apply A b (pos q r) ⟨64 * (8 * g.val + hh.val) + pp.val, by omega⟩) (v49_apply A b q r g hh))

end Cert.Reference9Ideal.Ssm
end
-- ==== Proof.SsmCum.lean ====
/- A running sum along the third of five axes. -/
module

public import proofs.«01_k».proof.Proof.RefRead
public import proofs.«01_k».proof.Reference9Ideal
public import Idealize.ShloMosaic.Lib.Pointwise

@[expose] public section

set_option maxRecDepth 16384

noncomputable section

namespace Cert.Reference9Ideal.Ssm

open Cert.Reference9Ideal Idealize.ShloMosaic

/-- The window over the third axis. -/
abbrev W5 : Shape := ⟨5, ![1, 1, 128, 1, 1]⟩

/-- The window has 128 places. -/
theorem W5_numel : W5.numel = 128 := by decide

/-- Position `n` of the window is its third coordinate. -/
theorem W5_symm (n : Fin W5.numel) : (∀ a : Fin 5, a ≠ 2 → (W5.rowMajor.symm n a).val = 0) ∧ (W5.rowMajor.symm n 2).val = n.val := by
  have h := Shape.rowMajor_val_five (W5.rowMajor.symm n)
  rw [Equiv.apply_symm_apply] at h
  have z : ∀ a : Fin 5, a ≠ 2 → (W5.rowMajor.symm n a).val = 0 := by
    intro a ha
    have h1 : (W5.rowMajor.symm n a).val < (![1, 1, 128, 1, 1] : Fin 5 → ℕ) a := (W5.rowMajor.symm n a).isLt
    have h2 : (![1, 1, 128, 1, 1] : Fin 5 → ℕ) a = 1 := by
      fin_cases a
      · rfl
      · rfl
      · exact absurd rfl ha
      · rfl
      · rfl
    omega
  refine ⟨z, ?_⟩
  rw [h, z 0 (by decide), z 1 (by decide), z 3 (by decide), z 4 (by decide)]
  simp

/-- The running sum of a chunk: entry `r` is the sum of the entries up to it. -/
theorem prefix_apply (x : S8x16x128x2x8.Idx → EReal) (v : S_.Idx → EReal) (hv : ∀ i, v i = 0) (b : Fin 8) (q : Fin 16) (r : Fin 128) (g : Fin 2) (hh : Fin 8)
    (X : ℕ → EReal) (hx : ∀ r' : Fin 128, x (ix5 b q r' g hh) = X r'.val)
    (hw : S8x16x128x2x8.ReduceWindows ![1, 1, 128, 1, 1] ![1, 1, 1, 1, 1] ![0, 0, 127, 0, 0] ![0, 0, 0, 0, 0] S8x16x128x2x8) (hu : 0 < S_.numel) :
    Host.reduceWindowAdd (F := Ideal) (φ := .f32) ![1, 1, 128, 1, 1] ![1, 1, 1, 1, 1] ![0, 0, 127, 0, 0] ![0, 0, 0, 0, 0] x v hw hu (ix5 b q r g hh)
      = ∑ i ∈ Finset.range (r.val + 1), X i := by
  unfold Host.reduceWindowAdd
  rw [hv]
  change Ideal.hostReduceWindowAdd ![1, 1, 128, 1, 1] ![1, 1, 1, 1, 1] ![0, 0, 127, 0, 0] ![0, 0, 0, 0, 0] hw x 0 (ix5 b q r g hh) = _
  unfold Ideal.hostReduceWindowAdd Host.reduceWindow
  rw [Cert.ReferenceIdeal.Att.foldl_add, zero_add, ← Fin.sum_univ_def]
  have all : ∀ G : Fin W5.numel → EReal, (∀ n, G n = if 127 ≤ r.val + n.val then X (r.val + n.val - 127) else 0) →
      ∑ n, G n = ∑ k ∈ Finset.range (r.val + 1), X k := by
    intro G hG
    have e : W5.numel = (127 - r.val) + (r.val + 1) := by rw [W5_numel]; omega
    rw [Finset.sum_congr rfl fun n _ => hG n, Fin.sum_univ_eq_sum_range (fun n => if 127 ≤ r.val + n then X (r.val + n - 127) else 0) W5.numel, e,
      Finset.sum_range_add, Finset.sum_eq_zero, zero_add]
    · refine Finset.sum_congr rfl fun k _ => ?_
      rw [if_pos (by omega)]
      exact congrArg X (by omega)
    · intro k hk
      have := Finset.mem_range.mp hk
      exact if_neg (by omega)
  refine all _ fun n => ?_
  obtain ⟨h0, h2⟩ := W5_symm n
  have hp : ∀ a : Fin 5, (ix5 b q r g hh a).val * (![1, 1, 1, 1, 1] : Fin 5 → ℕ) a + (W5.rowMajor.symm n a).val
      = (![b.val, q.val, r.val + n.val, g.val, hh.val] : Fin 5 → ℕ) a := by
    intro a
    fin_cases a
    · show b.val * 1 + (W5.rowMajor.symm n 0).val = b.val
      rw [h0 0 (by decide)]; omega
    · show q.val * 1 + (W5.rowMajor.symm n 1).val = q.val
      rw [h0 1 (by decide)]; omega
    · show r.val * 1 + (W5.rowMajor.symm n 2).val = r.val + n.val
      rw [h2]; omega
    · show g.val * 1 + (W5.rowMajor.symm n 3).val = g.val
      rw [h0 3 (by decide)]; omega
    · show hh.val * 1 + (W5.rowMajor.symm n 4).val = hh.val
      rw [h0 4 (by decide)]; omega
  have hn : n.val < 128 := lt_of_lt_of_eq n.isLt W5_numel
  by_cases hr : 127 ≤ r.val + n.val
  · rw [if_pos hr, ← hx ⟨r.val + n.val - 127, by omega⟩]
    refine Eq.trans (dif_pos ?inside) ?same
    case inside =>
      intro (a : Fin 5)
      show (![0, 0, 127, 0, 0] : Fin 5 → ℕ) a ≤ (ix5 b q r g hh a).val * (![1, 1, 1, 1, 1] : Fin 5 → ℕ) a + (W5.rowMajor.symm n a).val
        ∧ (ix5 b q r g hh a).val * (![1, 1, 1, 1, 1] : Fin 5 → ℕ) a + (W5.rowMajor.symm n a).val - (![0, 0, 127, 0, 0] : Fin 5 → ℕ) a < _
      rw [hp]
      fin_cases a
      · exact ⟨Nat.zero_le _, b.isLt⟩
      · exact ⟨Nat.zero_le _, q.isLt⟩
      · show 127 ≤ r.val + n.val ∧ r.val + n.val - 127 < 128
        omega
      · exact ⟨Nat.zero_le _, g.isLt⟩
      · exact ⟨Nat.zero_le _, hh.isLt⟩
    case same =>
      refine congrArg x (funext fun a => Fin.ext ?_)
      show (ix5 b q r g hh a).val * (![1, 1, 1, 1, 1] : Fin 5 → ℕ) a + (W5.rowMajor.symm n a).val - (![0, 0, 127, 0, 0] : Fin 5 → ℕ) a = _
      rw [hp]
      revert a
      intro (a : Fin 5)
      fin_cases a <;> rfl
  · rw [if_neg hr]
    refine dif_neg fun hin => hr ?_
    have h' : (![0, 0, 127, 0, 0] : Fin 5 → ℕ) 2 ≤ (ix5 b q r g hh 2).val * (![1, 1, 1, 1, 1] : Fin 5 → ℕ) 2 + (W5.rowMajor.symm n 2).val := (hin 2).1
    rw [hp] at h'
    exact h'

end Cert.Reference9Ideal.Ssm
end
-- ==== Proof.SsmRef3.lean ====
/- The mixer's reference, a chunk at an index: the running sums, the chunk's own sum and the states. -/
module

public import proofs.«01_k».proof.Proof.SsmRef2
public import proofs.«01_k».proof.Proof.SsmCum
public import proofs.«01_k».proof.Proof.SsmOut

@[expose] public section

set_option maxRecDepth 16384

noncomputable section

namespace Cert.Reference9Ideal.Ssm

open Cert.Reference9Ideal Cert.Reference9Ideal.Gen Cert.Reference9Ideal.Value Cert.Mixer Idealize.ShloMosaic

variable {V0 : Valuation τ sig (Elt Ideal)} {x0 : FVec Ideal S8x2048x1024 .f32} {x1 : FVec Ideal S8x2048x1536 .f32} {x2 : FVec Ideal S8x2048x16 .f32}
    {x3 : FVec Ideal S4x1536 .f32} {x4 : FVec Ideal S1536 .f32} {x5 x6 x7 : FVec Ideal S16 .f32} {x8 : FVec Ideal S1024 .f32}

variable (b : Fin 8) (q : Fin 16) (r : Fin 128) (g : Fin 2) (hh : Fin 8) (pp : Fin 64) (n : Fin 128)

/-- The state before chunk `i` of sequence `b`, as an array of one chunk. -/
def IsSt (x1 : FVec Ideal S8x2048x1536 .f32) (x2 : FVec Ideal S8x2048x16 .f32) (x3 : FVec Ideal S4x1536 .f32) (x4 : FVec Ideal S1536 .f32)
    (x5 x6 : FVec Ideal S16 .f32) (b : Fin 8) (y : FVec Ideal S8x1x2x8x64x128 .f32) (i : ℕ) : Prop :=
  ∀ (g : Fin 2) (hh : Fin 8) (pp : Fin 64) (n : Fin 128),
    y (ix6 b 0 g hh pp n) = st (conv x1 x3 x4 b) (step x2 x5 b) (rate x6) i n.val (64 * (8 * g.val + hh.val) + pp.val)

variable (A : Args V0 x0 x1 x2 x3 x4 x5 x6 x7 x8)

include A

/-- The running sums. -/
theorem v55_apply : (res_main_v55 V0 : FVec Ideal S8x16x128x2x8 .f32) (ix5 b q r g hh) = ac (step x2 x5 b) (rate x6) q.val r.val (8 * g.val + hh.val) := by
  unfold res_main_v55
  rw [A.h6]
  refine prefix_apply _ _ (fun i => ?_) b q r g hh (fun i => step x2 x5 b (128 * q.val + i) (8 * g.val + hh.val) * rate x6 (8 * g.val + hh.val)) (fun r' => ?_) _ _
  · exact Ideal.ofBits_zero_f32
  · refine (rateF_apply b q r' g hh (res_main_v49 V0) x6).trans (congrArg₂ (· * ·) (v49_apply A b q r' g hh) ?_)
    exact congrArg (fun h : Fin 16 => -Ideal.exp (x6 (ix1 h))) (Fin.ext (Nat.mod_eq_of_lt (hd g hh).isLt).symm)

/-- The decay of a whole chunk. -/
theorem v85_apply : (res_main_v85 V0 : FVec Ideal S8x16x2x8 .f32) (ix4 b q g hh) = Ideal.exp (ac (step x2 x5 b) (rate x6) q.val 127 (8 * g.val + hh.val)) :=
  (decF_apply b q g hh (res_main_v55 V0)).trans (congrArg Ideal.exp (v55_apply b q 127 g hh A))

/-- A chunk's own contribution to the state. -/
theorem v82_apply : (res_main_v82 V0 : FVec Ideal S8x16x2x8x64x128 .f32) (ix6 b q g hh pp n)
    = ∑ k : Fin 128, conv x1 x3 x4 b (128 * q.val + k.val) (1024 + 128 * g.val + n.val)
        * (xdt (conv x1 x3 x4 b) (step x2 x5 b) (128 * q.val + k.val) (64 * (8 * g.val + hh.val) + pp.val)
          * Ideal.exp (ac (step x2 x5 b) (rate x6) q.val 127 (8 * g.val + hh.val) - ac (step x2 x5 b) (rate x6) q.val k.val (8 * g.val + hh.val))) := by
  refine (sumF_apply b q g hh pp (res_main_v58 V0) (res_main_v55 V0) (res_main_v50 V0) n).trans (Finset.sum_congr rfl fun k _ => (mul_comm _ _).trans ?_)
  rw [v50_apply A b q k g n, v58_apply A b q k g hh pp, v55_apply b q 127 g hh A, v55_apply b q k g hh A]
  rfl

/-- The loop's step gives the state before the next chunk. -/
theorem state_step (h1 : S8x16x2x8.Slices ![0, q.val, 0, 0] S8x1x2x8) (h2 : S8x16x2x8x64x128.Slices ![0, q.val, 0, 0, 0, 0] S8x1x2x8x64x128)
    (y : FVec Ideal S8x1x2x8x64x128 .f32) (hy : IsSt x1 x2 x3 x4 x5 x6 b y q.val) :
    IsSt x1 x2 x3 x4 x5 x6 b (nxt q.val h1 h2 (res_main_v85 V0) (res_main_v82 V0) y) (q.val + 1) := by
  intro g hh pp n
  have e1 : (64 * (8 * g.val + hh.val) + pp.val) / 64 = 8 * g.val + hh.val := by omega
  have e2 : (64 * (8 * g.val + hh.val) + pp.val) / 512 = g.val := by omega
  rw [nxt_apply, hy g hh pp n, v85_apply b q g hh A, v82_apply b q g hh pp n A, st, e1, e2, mul_comm (Ideal.exp _)]

/-- The sixteen states of the loop. -/
theorem states (q : Fin 16) : IsSt x1 x2 x3 x4 x5 x6 b ((![res_main_v86 V0, res_main_v92 V0, res_main_v98 V0, res_main_v104 V0, res_main_v110 V0, res_main_v116 V0, res_main_v122 V0, res_main_v128 V0, res_main_v134 V0, res_main_v140 V0, res_main_v146 V0, res_main_v152 V0, res_main_v158 V0, res_main_v164 V0, res_main_v170 V0, res_main_v176 V0] : Fin 16 → FVec Ideal S8x1x2x8x64x128 .f32) q) q.val := by
  have s0 : IsSt x1 x2 x3 x4 x5 x6 b (res_main_v86 V0) 0 := fun g hh pp n => Ideal.ofBits_zero_f32
  have s1 : IsSt x1 x2 x3 x4 x5 x6 b (res_main_v92 V0) 1 := state_step b ⟨0, by omega⟩ A _ _ _ s0
  have s2 : IsSt x1 x2 x3 x4 x5 x6 b (res_main_v98 V0) 2 := state_step b ⟨1, by omega⟩ A _ _ _ s1
  have s3 : IsSt x1 x2 x3 x4 x5 x6 b (res_main_v104 V0) 3 := state_step b ⟨2, by omega⟩ A _ _ _ s2
  have s4 : IsSt x1 x2 x3 x4 x5 x6 b (res_main_v110 V0) 4 := state_step b ⟨3, by omega⟩ A _ _ _ s3
  have s5 : IsSt x1 x2 x3 x4 x5 x6 b (res_main_v116 V0) 5 := state_step b ⟨4, by omega⟩ A _ _ _ s4
  have s6 : IsSt x1 x2 x3 x4 x5 x6 b (res_main_v122 V0) 6 := state_step b ⟨5, by omega⟩ A _ _ _ s5
  have s7 : IsSt x1 x2 x3 x4 x5 x6 b (res_main_v128 V0) 7 := state_step b ⟨6, by omega⟩ A _ _ _ s6
  have s8 : IsSt x1 x2 x3 x4 x5 x6 b (res_main_v134 V0) 8 := state_step b ⟨7, by omega⟩ A _ _ _ s7
  have s9 : IsSt x1 x2 x3 x4 x5 x6 b (res_main_v140 V0) 9 := state_step b ⟨8, by omega⟩ A _ _ _ s8
  have s10 : IsSt x1 x2 x3 x4 x5 x6 b (res_main_v146 V0) 10 := state_step b ⟨9, by omega⟩ A _ _ _ s9
  have s11 : IsSt x1 x2 x3 x4 x5 x6 b (res_main_v152 V0) 11 := state_step b ⟨10, by omega⟩ A _ _ _ s10
  have s12 : IsSt x1 x2 x3 x4 x5 x6 b (res_main_v158 V0) 12 := state_step b ⟨11, by omega⟩ A _ _ _ s11
  have s13 : IsSt x1 x2 x3 x4 x5 x6 b (res_main_v164 V0) 13 := state_step b ⟨12, by omega⟩ A _ _ _ s12
  have s14 : IsSt x1 x2 x3 x4 x5 x6 b (res_main_v170 V0) 14 := state_step b ⟨13, by omega⟩ A _ _ _ s13
  have s15 : IsSt x1 x2 x3 x4 x5 x6 b (res_main_v176 V0) 15 := state_step b ⟨14, by omega⟩ A _ _ _ s14
  fin_cases q
  exacts [s0, s1, s2, s3, s4, s5, s6, s7, s8, s9, s10, s11, s12, s13, s14, s15]

/-- The scan's output and the weighted inputs. -/
theorem v198_apply : (res_main_v198 V0 : FVec Ideal S8x2048x2x8x64 .f32) (ix5 b (pos q r) g hh pp)
    = Cert.Mixer.scan (conv x1 x3 x4 b) (step x2 x5 b) (rate x6) q.val r.val (64 * (8 * g.val + hh.val) + pp.val)
      + conv x1 x3 x4 b (128 * q.val + r.val) (64 * (8 * g.val + hh.val) + pp.val) * x7 (ix1 (hd g hh)) := by
  have e1 : (64 * (8 * g.val + hh.val) + pp.val) / 64 = 8 * g.val + hh.val := by omega
  have e2 : (64 * (8 * g.val + hh.val) + pp.val) / 512 = g.val := by omega
  have ea : ∀ k : Fin 128, (res_main_v59 V0 : FVec Ideal S8x16x2x8x128 .f32) (ix5 b q g hh k) = ac (step x2 x5 b) (rate x6) q.val k.val (8 * g.val + hh.val) := fun k =>
    (moveF_apply b q g hh (res_main_v55 V0) k).trans (v55_apply b q k g hh A)
  unfold res_main_v198
  rw [A.h7]
  refine (outF_apply b q r g hh pp (res_main_v58 V0) (res_main_v51 V0) (res_main_v50 V0) (res_main_v59 V0) (res_main_v55 V0) (res_main_v34 V0)
    (catF ![res_main_v86 V0, res_main_v92 V0, res_main_v98 V0, res_main_v104 V0, res_main_v110 V0, res_main_v116 V0, res_main_v122 V0, res_main_v128 V0, res_main_v134 V0, res_main_v140 V0, res_main_v146 V0, res_main_v152 V0, res_main_v158 V0, res_main_v164 V0, res_main_v170 V0, res_main_v176 V0]) x7).trans ?_
  unfold Cert.Mixer.scan Cert.Mixer.cb
  rw [e1, e2]
  refine congrArg₂ (· + ·) (congrArg₂ (· + ·) (Finset.sum_congr rfl fun k _ => (mul_comm _ _).trans ?_) (congrArg₂ (· * ·) (Finset.sum_congr rfl fun m _ => (mul_comm _ _).trans ?_) ?_)) ?_
  · rw [v58_apply A b q k g hh pp, ea k, ea r]
    refine congrArg (· * _) (congrArg (· * _) (Finset.sum_congr rfl fun m _ => ?_))
    rw [v51_apply A b q r g m, v50_apply A b q k g m]
  · rw [v51_apply A b q r g m, catF_apply]
    exact congrArg (_ * ·) (states b A q g hh pp m)
  · rw [v55_apply b q r g hh A]
  · exact congrArg (· * _) (v34_apply A b (pos q r) ⟨64 * (8 * g.val + hh.val) + pp.val, by omega⟩)

/-- The gated output. -/
theorem v201_apply (j : Fin 1024) : (res_main_v201 V0 : FVec Ideal S8x2048x1024 .f32) (ix3 b (pos q r) j)
    = (Cert.Mixer.scan (conv x1 x3 x4 b) (step x2 x5 b) (rate x6) q.val r.val j.val
      + conv x1 x3 x4 b (128 * q.val + r.val) j.val * x7 (ix1 ⟨j.val / 64 % 16, by omega⟩)) * (x0 (ix3 b (pos q r) j) * Ideal.logistic (x0 (ix3 b (pos q r) j))) := by
  have e := v198_apply b q r ⟨j.val / 512, by omega⟩ ⟨j.val / 64 % 8, by omega⟩ ⟨j.val % 64, by omega⟩ A
  have ej : 64 * (8 * (j.val / 512) + j.val / 64 % 8) + j.val % 64 = j.val := by omega
  have eh : hd ⟨j.val / 512, by omega⟩ ⟨j.val / 64 % 8, by omega⟩ = (⟨j.val / 64 % 16, by omega⟩ : Fin 16) :=
    Fin.ext (by show 8 * (j.val / 512) + j.val / 64 % 8 = j.val / 64 % 16; omega)
  dsimp only at e
  rw [ej, eh] at e
  unfold res_main_v201
  rw [A.h0]
  exact (gateF_apply b (res_main_v198 V0) x0 (pos q r) j).trans (congrArg (· * _) e)

/-- The reference's result, at an index: the mixer's row. -/
theorem result_apply (j : Fin 1024) : finF (res_main_v201 V0) x8 (ix3 b (pos q r) j)
    = row (conv x1 x3 x4 b) (step x2 x5 b) (rate x6) (fun h => x7 (ix1 ⟨h % 16, by omega⟩)) (fun e => x0 (ix3 b (pos q r) e)) (fun e => x8 (ix1 e)) q.val r.val j := by
  refine (finF_apply b (res_main_v201 V0) x8 (pos q r) j).trans ?_
  unfold row
  exact congrArg (fun y : Cert.Rows.Row => Cert.Rows.rms y (fun e => x8 (ix1 e)) j) (funext fun e => v201_apply b q r A e)

end Cert.Reference9Ideal.Ssm
end
-- ==== Proof.SsmArr.lean ====
/- The mixer: the kernel's array is the reference's. -/
module

public import proofs.«01_k».proof.Proof.SsmIn
public import proofs.«01_k».proof.Proof.SsmRef3

@[expose] public section

set_option maxRecDepth 16384

noncomputable section

namespace Cert.Kernel9Ideal.Ssm

open Idealize.ShloMosaic Idealize.ShloMosaic.TcCoe Idealize.ShloMosaic.Tactic Cert.Kernel9Ideal Cert.Kernel9Ideal.Gen Cert.Rows
open Idealize.SL.Sem

variable (m : (ℓ : Loc nD τ sig) → Buf (Elt Ideal) ℓ) (c : Dev nD)

/-- The kernel's result array is the reference's. -/
theorem arr_eq (V0 : Valuation Cert.Reference9Ideal.τ Cert.Reference9Ideal.sig (Elt Ideal))
    (A : Cert.Reference9Ideal.Ssm.Args V0 (A0 m c) (A1 m c) (A2 m c) (A3 m c) (A4 m c) (A5 m c) (A6 m c) (A7 m c) (A8 m c)) :
    (dats m 0 c).arrAt 9 cfg0.N = Cert.Reference9Ideal.Ssm.finF (Cert.Reference9Ideal.Value.res_main_v201 V0) (A8 m c) := by
  refine (dats m 0 c).arrAt_eq_of_covers 9 _ (by decide +kernel) fun t hf y => ?_
  have hN : t.val < 128 := lt_of_lt_of_eq t.isLt N_0
  have h0 : (y 0).val < 1 := (y 0).isLt
  have h1 : (y 1).val < 128 := (y 1).isLt
  have h2 : (y 2).val < 1024 := (y 2).isLt
  have hr := Cert.Reference9Ideal.Ssm.result_apply (sq t.val) ⟨t.val % 16, by omega⟩ ⟨(y 1).val, h1⟩ A ⟨(y 2).val, h2⟩
  blk_simp
  rw [after0_9]
  refine Eq.trans (congrArg _ (funext fun a => ?_)) ((out_apply m c t ⟨(y 1).val, h1⟩ ⟨(y 2).val, h2⟩).trans (hr.symm.trans (congrArg _ (funext fun a => Fin.ext ?_))))
  · fin_cases a
    · exact Fin.ext (by show (y 0).val = 0; omega)
    · rfl
    · rfl
  · fin_cases a
    · blk_simp [(idx_w t).2.2.2.2.2.2.2.2.2]
      show t.val / 16 % 8 = t.val / 16
      omega
    · blk_simp [(idx_w t).2.2.2.2.2.2.2.2.2]
      show 128 * (t.val % 16) + (y 1).val = t.val % 16 * 128 + (y 1).val
      omega
    · blk_simp [(idx_w t).2.2.2.2.2.2.2.2.2]
      rfl

end Cert.Kernel9Ideal.Ssm
end
-- ==== Proof.lean ====
module

public import proofs.«01_k».proof.Proof.Arr
public import proofs.«01_k».proof.Proof.MlpArr
public import proofs.«01_k».proof.Proof.Merge
public import proofs.«01_k».proof.Proof.Gates
public import proofs.«01_k».proof.Proof.Qkv
public import proofs.«01_k».proof.Proof.Ssd
public import proofs.«01_k».proof.Proof.Ada
public import proofs.«01_k».proof.Proof.DsaArr
public import proofs.«01_k».proof.Proof.SsmArr
public import proofs.«01_k».proof.Proof.Gen.KernelIdeal.Value
public import proofs.«01_k».proof.Proof.Gen.ReferenceIdeal.Read
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import Idealize.ShloMosaic.Adequacy
public import Idealize.ShloMosaic.Init

@[expose] public section

noncomputable section

namespace Cert.Proof

open Idealize.ShloMosaic Idealize.SL.Sem Cert.Kernel

/-- The kernel's rounded constant at every site is the reciprocal of the natural logarithm of two. -/
theorem preserves : Cert.preserves_Kernel_KernelIdeal :=
  IdealRules.named_const.statement Cert.KernelIdeal.κ "log2e" .f32 0x3FB8AA3B#32 (((Real.log 2)⁻¹ : ℝ) : EReal) rfl

/-- The idealized kernel and the reference end with the same array. -/
theorem algebraic : Cert.algebraic_KernelIdeal_ReferenceIdeal := by
  intro m g m' g' _ hagree
  refine ⟨fun c => (Cert.KernelIdeal.Gen.dats m 0 c).arrAt 3 Cert.KernelIdeal.cfg0.N, Cert.KernelIdeal.Value.run_blocks (F := Ideal) m g, ?_⟩
  refine (θ_run Cert.ReferenceIdeal.defs _ _).mono (fun _ h c => ?_) (Cert.ReferenceIdeal.Value.run (F := Ideal) m' g')
  refine ⟨(h c).1.trans ?_, (h c).2⟩
  obtain ⟨h0, h1, h2⟩ := hagree c
  rw [Cert.ReferenceIdeal.Read.val_main_v25_eq, h0, h1, h2]
  exact (Cert.KernelIdeal.Att.arr_eq m c).symm

/-- The same of the MLP. -/
theorem algebraic2 : Cert.algebraic_Kernel2Ideal_Reference2Ideal := by
  intro m g m' g' _ hagree
  refine ⟨fun c => (Cert.Kernel2Ideal.Gen.dats m 0 c).arrAt 6 Cert.Kernel2Ideal.cfg0.N, Cert.Kernel2Ideal.Value.run_blocks (F := Ideal) m g, ?_⟩
  refine (θ_run Cert.Reference2Ideal.defs _ _).mono (fun _ h c => ?_) (Cert.Reference2Ideal.Value.run (F := Ideal) m' g')
  refine ⟨(h c).1.trans ?_, (h c).2⟩
  obtain ⟨h0, h1, h2, h3, h4, h5⟩ := hagree c
  rw [Cert.Reference2Ideal.Read.val_main_v46_eq, h0, h1, h2, h3, h4, h5]
  exact (Cert.Kernel2Ideal.Mlp.arr_eq m c).symm

/-- The same of the merge of the branches. -/
theorem algebraic3 : Cert.algebraic_Kernel3Ideal_Reference3Ideal := by
  intro m g m' g' _ hagree
  refine ⟨fun c => (Cert.Kernel3Ideal.Gen.dats m 0 c).arrAt 12 Cert.Kernel3Ideal.cfg0.N, Cert.Kernel3Ideal.Value.run_blocks (F := Ideal) m g, ?_⟩
  refine (θ_run Cert.Reference3Ideal.defs _ _).mono (fun _ h c => ?_) (Cert.Reference3Ideal.Value.run (F := Ideal) m' g')
  refine ⟨(h c).1.trans ?_, (h c).2⟩
  obtain ⟨h0, h1, h2, h3, h4, h5, h6, h7, h8, h9⟩ := hagree c
  rw [Cert.Reference3Ideal.Read.val_main_v28_eq, h0, h1, h2, h3, h4, h5, h6, h7, h8, h9]
  exact (Cert.Kernel3Ideal.Merge.arr_eq m c).symm

/-- The same of the gates' projection. -/
theorem algebraic4 : Cert.algebraic_Kernel4Ideal_Reference4Ideal := by
  intro m g m' g' _ hagree
  refine ⟨fun c => (Cert.Kernel4Ideal.Gen.dats m 0 c).arrAt 4 Cert.Kernel4Ideal.cfg0.N, Cert.Kernel4Ideal.Value.run_blocks (F := Ideal) m g, ?_⟩
  refine (θ_run Cert.Reference4Ideal.defs _ _).mono (fun _ h c => ?_) (Cert.Reference4Ideal.Value.run (F := Ideal) m' g')
  refine ⟨(h c).1.trans ?_, (h c).2⟩
  obtain ⟨h0, h1, h2, h3⟩ := hagree c
  rw [Cert.Reference4Ideal.Read.val_main_v28_eq, h0, h1, h2, h3]
  exact (Cert.Kernel4Ideal.Gates.arr_eq m c).symm

/-- The same of the stick-breaking attention's projection. -/
theorem algebraic5 : Cert.algebraic_Kernel5Ideal_Reference5Ideal := by
  intro m g m' g' _ hagree
  refine ⟨fun c => (Cert.Kernel5Ideal.Gen.dats m 0 c).arrAt 4 Cert.Kernel5Ideal.cfg0.N, Cert.Kernel5Ideal.Value.run_blocks (F := Ideal) m g, ?_⟩
  refine (θ_run Cert.Reference5Ideal.defs _ _).mono (fun _ h c => ?_) (Cert.Reference5Ideal.Value.run (F := Ideal) m' g')
  refine ⟨(h c).1.trans ?_, (h c).2⟩
  obtain ⟨h0, h1, h2, h3⟩ := hagree c
  rw [Cert.Reference5Ideal.Read.val_main_v35_eq, h0, h1, h2, h3]
  exact (Cert.Kernel5Ideal.Qkv.arr_eq m c).symm

/-- The same of the state-space branch's projection. -/
theorem algebraic6 : Cert.algebraic_Kernel6Ideal_Reference6Ideal := by
  intro m g m' g' _ hagree
  refine ⟨fun c => (Cert.Kernel6Ideal.Gen.dats m 0 c).arrAt 4 Cert.Kernel6Ideal.cfg0.N, fun c => (Cert.Kernel6Ideal.Gen.dats m 0 c).arrAt 5 Cert.Kernel6Ideal.cfg0.N,
    fun c => (Cert.Kernel6Ideal.Gen.dats m 0 c).arrAt 6 Cert.Kernel6Ideal.cfg0.N, Cert.Kernel6Ideal.Value.run_blocks (F := Ideal) m g, ?_⟩
  refine (θ_run Cert.Reference6Ideal.defs _ _).mono (fun _ h c => ?_) (Cert.Reference6Ideal.Value.run (F := Ideal) m' g')
  obtain ⟨h0, h1, h2, h3⟩ := hagree c
  refine ⟨(h c).1.trans ?_, (h c).2.1.trans ?_, (h c).2.2.1.trans ?_, (h c).2.2.2⟩
  · rw [Cert.Reference6Ideal.Read.val_main_v32_eq, h0, h1, h2, h3]
    exact (Cert.Kernel6Ideal.Ssd.z_eq m c).symm
  · rw [Cert.Reference6Ideal.Read.val_main_v33_eq, h0, h1, h2, h3]
    exact (Cert.Kernel6Ideal.Ssd.xbc_eq m c).symm
  · rw [Cert.Reference6Ideal.Read.val_main_v34_eq, h0, h1, h2, h3]
    exact (Cert.Kernel6Ideal.Ssd.dt_eq m c).symm

/-- The same of the modulation. -/
theorem algebraic7 : Cert.algebraic_Kernel7Ideal_Reference7Ideal := by
  intro m g m' g' _ hagree
  refine ⟨fun c => (Cert.Kernel7Ideal.Gen.dats m 0 c).arrAt 3 Cert.Kernel7Ideal.cfg0.N, Cert.Kernel7Ideal.Value.run_blocks (F := Ideal) m g, ?_⟩
  refine (θ_run Cert.Reference7Ideal.defs _ _).mono (fun _ h c => ?_) (Cert.Reference7Ideal.Value.run (F := Ideal) m' g')
  refine ⟨(h c).1.trans ?_, (h c).2⟩
  obtain ⟨h0, h1, h2⟩ := hagree c
  rw [Cert.Reference7Ideal.Read.val_main_v20_eq, h0, h1, h2]
  exact (Cert.Kernel7Ideal.Ada.arr_eq m c).symm

set_option maxHeartbeats 1000000 in
/-- The same of the sparse attention's projection. -/
theorem algebraic8 : Cert.algebraic_Kernel8Ideal_Reference8Ideal := by
  intro m g m' g' _ hagree
  refine ⟨fun c => (Cert.Kernel8Ideal.Gen.dats m 0 c).arrAt 7 Cert.Kernel8Ideal.cfg0.N,
    fun c => (Cert.Kernel8Ideal.Gen.dats m 0 c).arrAt 8 Cert.Kernel8Ideal.cfg0.N,
    fun c => (Cert.Kernel8Ideal.Gen.dats m 0 c).arrAt 9 Cert.Kernel8Ideal.cfg0.N,
    fun c => (Cert.Kernel8Ideal.Gen.dats m 0 c).arrAt 10 Cert.Kernel8Ideal.cfg0.N,
    fun c => (Cert.Kernel8Ideal.Gen.dats m 0 c).arrAt 11 Cert.Kernel8Ideal.cfg0.N,
    fun c => (Cert.Kernel8Ideal.Gen.dats m 0 c).arrAt 12 Cert.Kernel8Ideal.cfg0.N,
    Cert.Kernel8Ideal.Value.run_blocks (F := Ideal) m g, ?_⟩
  refine (θ_run Cert.Reference8Ideal.defs _ _).mono (fun _ h c => ?_) (Cert.Reference8Ideal.Value.run (F := Ideal) m' g')
  obtain ⟨h0, h1, h2, h3⟩ := hagree c
  have e0 : StableHlo.launchContents m' c (Proc.devRef .tc Cert.Reference8Ideal.main_arg0) = Cert.Kernel8Ideal.Dsa.A0 m c := h0
  have e1 : StableHlo.launchContents m' c (Proc.devRef .tc Cert.Reference8Ideal.main_arg1) = Cert.Kernel8Ideal.Dsa.A1 m c := h1
  have e2 : StableHlo.launchContents m' c (Proc.devRef .tc Cert.Reference8Ideal.main_arg2) = Cert.Kernel8Ideal.Dsa.A2 m c := h2
  have e3 : StableHlo.launchContents m' c (Proc.devRef .tc Cert.Reference8Ideal.main_arg3) = Cert.Kernel8Ideal.Dsa.A3 m c := h3
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [Cert.Reference8Ideal.Read.val_main_v158_eq, e0, e1, e2, e3]
    exact (Cert.Kernel8Ideal.Dsa.q_eq m c).symm
  · rw [Cert.Reference8Ideal.Read.val_main_v161_eq, e0, e1, e2, e3]
    exact (Cert.Kernel8Ideal.Dsa.k_eq m c).symm
  · rw [Cert.Reference8Ideal.Read.val_main_v164_eq, e0, e1, e2, e3]
    exact (Cert.Kernel8Ideal.Dsa.v_eq m c).symm
  · rw [Cert.Reference8Ideal.Read.val_main_v166_eq, e0, e1, e2, e3]
    exact (Cert.Kernel8Ideal.Dsa.iq_eq m c).symm
  · rw [Cert.Reference8Ideal.Read.val_main_v169_eq, e0, e1, e2, e3]
    exact (Cert.Kernel8Ideal.Dsa.ik_eq m c).symm
  · rw [Cert.Reference8Ideal.Read.val_main_v171_eq, e0, e1, e2, e3]
    exact (Cert.Kernel8Ideal.Dsa.iw_eq m c).symm

/-- The mixer's mask constant, at every site, stands for minus infinity. -/
theorem preserves9 : Cert.preserves_Kernel9_Kernel9Ideal :=
  IdealRules.named_const.statement Cert.Kernel9Ideal.κ "mask" .f32 0xF149F2CA#32 ⊥ rfl

set_option maxHeartbeats 1000000 in
/-- The same of the state-space mixer. -/
theorem algebraic9 : Cert.algebraic_Kernel9Ideal_Reference9Ideal := by
  intro m g m' g' _ hagree
  refine ⟨fun c => (Cert.Kernel9Ideal.Gen.dats m 0 c).arrAt 9 Cert.Kernel9Ideal.cfg0.N, Cert.Kernel9Ideal.Value.run_blocks (F := Ideal) m g, ?_⟩
  refine (θ_run Cert.Reference9Ideal.defs _ _).mono (fun _ h c => ?_) (Cert.Reference9Ideal.Value.run (F := Ideal) m' g')
  refine ⟨(h c).1.trans ?_, (h c).2⟩
  obtain ⟨h0, h1, h2, h3, h4, h5, h6, h7, h8⟩ := hagree c
  have e8 : StableHlo.launchContents m' c (Proc.devRef .tc Cert.Reference9Ideal.main_arg8) = Cert.Kernel9Ideal.Ssm.A8 m c := h8
  rw [e8]
  exact (Cert.Kernel9Ideal.Ssm.arr_eq m c (StableHlo.launchContents m' c) ⟨h0, h1, h2, h3, h4, h5, h6, h7, h8⟩).symm

/-- Everything this certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ),
  fun m ρ _ => Cert.Kernel2.Gen.frame m ρ, fun m ρ _ => Cert.Kernel2Ideal.Gen.frame m ρ,
  fun m ρ _ => (θ_run Cert.Reference2Ideal.defs _ _).mono (fun r h => ⟨fun c => (h c).2, Idealize.ShloMosaic.sem_eq_zero_of_no_sems (by decide) r.2⟩)
    (Cert.Reference2Ideal.Value.run (F := Ideal) m ρ),
  fun m ρ _ => Cert.Kernel3.Gen.frame m ρ, fun m ρ _ => Cert.Kernel3Ideal.Gen.frame m ρ,
  fun m ρ _ => (θ_run Cert.Reference3Ideal.defs _ _).mono (fun r h => ⟨fun c => (h c).2, Idealize.ShloMosaic.sem_eq_zero_of_no_sems (by decide) r.2⟩)
    (Cert.Reference3Ideal.Value.run (F := Ideal) m ρ),
  fun m ρ _ => Cert.Kernel4.Gen.frame m ρ, fun m ρ _ => Cert.Kernel4Ideal.Gen.frame m ρ,
  fun m ρ _ => (θ_run Cert.Reference4Ideal.defs _ _).mono (fun r h => ⟨fun c => (h c).2, Idealize.ShloMosaic.sem_eq_zero_of_no_sems (by decide) r.2⟩)
    (Cert.Reference4Ideal.Value.run (F := Ideal) m ρ),
  fun m ρ _ => Cert.Kernel5.Gen.frame m ρ, fun m ρ _ => Cert.Kernel5Ideal.Gen.frame m ρ,
  fun m ρ _ => (θ_run Cert.Reference5Ideal.defs _ _).mono (fun r h => ⟨fun c => (h c).2, Idealize.ShloMosaic.sem_eq_zero_of_no_sems (by decide) r.2⟩)
    (Cert.Reference5Ideal.Value.run (F := Ideal) m ρ),
  fun m ρ _ => Cert.Kernel6.Gen.frame m ρ, fun m ρ _ => Cert.Kernel6Ideal.Gen.frame m ρ,
  fun m ρ _ => (θ_run Cert.Reference6Ideal.defs _ _).mono (fun r h => ⟨fun c => (h c).2.2.2, Idealize.ShloMosaic.sem_eq_zero_of_no_sems (by decide) r.2⟩)
    (Cert.Reference6Ideal.Value.run (F := Ideal) m ρ),
  fun m ρ _ => Cert.Kernel7.Gen.frame m ρ, fun m ρ _ => Cert.Kernel7Ideal.Gen.frame m ρ,
  fun m ρ _ => (θ_run Cert.Reference7Ideal.defs _ _).mono (fun r h => ⟨fun c => (h c).2, Idealize.ShloMosaic.sem_eq_zero_of_no_sems (by decide) r.2⟩)
    (Cert.Reference7Ideal.Value.run (F := Ideal) m ρ),
  fun m ρ _ => Cert.Kernel8.Gen.frame m ρ, fun m ρ _ => Cert.Kernel8Ideal.Gen.frame m ρ,
  fun m ρ _ => (θ_run Cert.Reference8Ideal.defs _ _).mono (fun r h => ⟨fun c => (h c).2.2.2.2.2.2, Idealize.ShloMosaic.sem_eq_zero_of_no_sems (by decide) r.2⟩)
    (Cert.Reference8Ideal.Value.run (F := Ideal) m ρ),
  fun m ρ _ => Cert.Kernel9.Gen.frame m ρ, fun m ρ _ => Cert.Kernel9Ideal.Gen.frame m ρ,
  fun m ρ _ => (θ_run Cert.Reference9Ideal.defs _ _).mono (fun r h => ⟨fun c => (h c).2, Idealize.ShloMosaic.sem_eq_zero_of_no_sems (by decide) r.2⟩)
    (Cert.Reference9Ideal.Value.run (F := Ideal) m ρ),
  preserves, algebraic, trivial, algebraic2, trivial, algebraic3, trivial, algebraic4, trivial, algebraic5, trivial, algebraic6, trivial, algebraic7, trivial, algebraic8,
  preserves9, algebraic9⟩

end Cert.Proof

end
